-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_EvenInCtx (m : (ℓ : Loc Cert.EvenInCtx.nD Cert.EvenInCtx.τ Cert.EvenInCtx.sig) → Buf (Elt Bits) ℓ) : Prop :=
  True

def Pre_EvenInCtxIdeal (m : (ℓ : Loc Cert.EvenInCtxIdeal.nD Cert.EvenInCtxIdeal.τ Cert.EvenInCtxIdeal.sig) → Buf (Elt Ideal) ℓ) : Prop :=
  True

def Pre_EvenInCtxRefIdeal (m : (ℓ : Loc Cert.EvenInCtxRefIdeal.nD Cert.EvenInCtxRefIdeal.τ Cert.EvenInCtxRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutCtx (m : (ℓ : Loc Cert.MixOutCtx.nD Cert.MixOutCtx.τ Cert.MixOutCtx.sig) → Buf (Elt Bits) ℓ) : Prop :=
  True

def Pre_MixOutCtxIdeal (m : (ℓ : Loc Cert.MixOutCtxIdeal.nD Cert.MixOutCtxIdeal.τ Cert.MixOutCtxIdeal.sig) → Buf (Elt Ideal) ℓ) : Prop :=
  True

def Pre_MixOutCtxRefIdeal (m : (ℓ : Loc Cert.MixOutCtxRefIdeal.nD Cert.MixOutCtxRefIdeal.τ Cert.MixOutCtxRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OddKeys (m : (ℓ : Loc Cert.OddKeys.nD Cert.OddKeys.τ Cert.OddKeys.sig) → Buf (Elt Bits) ℓ) : Prop :=
  True

def Pre_OddKeysIdeal (m : (ℓ : Loc Cert.OddKeysIdeal.nD Cert.OddKeysIdeal.τ Cert.OddKeysIdeal.sig) → Buf (Elt Ideal) ℓ) : Prop :=
  True

def Pre_OddKeysRefIdeal (m : (ℓ : Loc Cert.OddKeysRefIdeal.nD Cert.OddKeysRefIdeal.τ Cert.OddKeysRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_RouteAll (m : (ℓ : Loc Cert.RouteAll.nD Cert.RouteAll.τ Cert.RouteAll.sig) → Buf (Elt Bits) ℓ) : Prop :=
  True

def Pre_RouteAllIdeal (m : (ℓ : Loc Cert.RouteAllIdeal.nD Cert.RouteAllIdeal.τ Cert.RouteAllIdeal.sig) → Buf (Elt Ideal) ℓ) : Prop :=
  True

def Pre_RouteAllIdeal_finite_all [hPre_finite_all : Cert.Pre_finite_all.Facts] (m : (ℓ : Loc Cert.RouteAllIdeal.nD Cert.RouteAllIdeal.τ Cert.RouteAllIdeal.sig) → Buf (Elt Ideal) ℓ) : Prop :=
  ∀ c : Dev Cert.RouteAllIdeal.nD,
    (Cert.Pre_finite_all.fn (F := Ideal) (m ((c.tc : Thread Cert.RouteAllIdeal.nD Cert.RouteAllIdeal.τ).loc Cert.RouteAllIdeal.main_arg0)) (m ((c.tc : Thread Cert.RouteAllIdeal.nD Cert.RouteAllIdeal.τ).loc Cert.RouteAllIdeal.main_arg1)) (m ((c.tc : Thread Cert.RouteAllIdeal.nD Cert.RouteAllIdeal.τ).loc Cert.RouteAllIdeal.main_arg2)) (m ((c.tc : Thread Cert.RouteAllIdeal.nD Cert.RouteAllIdeal.τ).loc Cert.RouteAllIdeal.main_arg3))).1 = (fun _ => 1#1)
    ∧ (Cert.Pre_finite_all.fn (F := Ideal) (m ((c.tc : Thread Cert.RouteAllIdeal.nD Cert.RouteAllIdeal.τ).loc Cert.RouteAllIdeal.main_arg0)) (m ((c.tc : Thread Cert.RouteAllIdeal.nD Cert.RouteAllIdeal.τ).loc Cert.RouteAllIdeal.main_arg1)) (m ((c.tc : Thread Cert.RouteAllIdeal.nD Cert.RouteAllIdeal.τ).loc Cert.RouteAllIdeal.main_arg2)) (m ((c.tc : Thread Cert.RouteAllIdeal.nD Cert.RouteAllIdeal.τ).loc Cert.RouteAllIdeal.main_arg3))).2.1 = (fun _ => 1#1)
    ∧ (Cert.Pre_finite_all.fn (F := Ideal) (m ((c.tc : Thread Cert.RouteAllIdeal.nD Cert.RouteAllIdeal.τ).loc Cert.RouteAllIdeal.main_arg0)) (m ((c.tc : Thread Cert.RouteAllIdeal.nD Cert.RouteAllIdeal.τ).loc Cert.RouteAllIdeal.main_arg1)) (m ((c.tc : Thread Cert.RouteAllIdeal.nD Cert.RouteAllIdeal.τ).loc Cert.RouteAllIdeal.main_arg2)) (m ((c.tc : Thread Cert.RouteAllIdeal.nD Cert.RouteAllIdeal.τ).loc Cert.RouteAllIdeal.main_arg3))).2.2.1 = (fun _ => 1#1)
    ∧ (Cert.Pre_finite_all.fn (F := Ideal) (m ((c.tc : Thread Cert.RouteAllIdeal.nD Cert.RouteAllIdeal.τ).loc Cert.RouteAllIdeal.main_arg0)) (m ((c.tc : Thread Cert.RouteAllIdeal.nD Cert.RouteAllIdeal.τ).loc Cert.RouteAllIdeal.main_arg1)) (m ((c.tc : Thread Cert.RouteAllIdeal.nD Cert.RouteAllIdeal.τ).loc Cert.RouteAllIdeal.main_arg2)) (m ((c.tc : Thread Cert.RouteAllIdeal.nD Cert.RouteAllIdeal.τ).loc Cert.RouteAllIdeal.main_arg3))).2.2.2 = (fun _ => 1#1)

def Pre_RouteAllRefIdeal (m : (ℓ : Loc Cert.RouteAllRefIdeal.nD Cert.RouteAllRefIdeal.τ Cert.RouteAllRefIdeal.sig) → Buf (Elt Ideal) ℓ) : Prop :=
  True

def Pre_RouteAllRefIdeal_finite_all [hPre_finite_all : Cert.Pre_finite_all.Facts] (m : (ℓ : Loc Cert.RouteAllRefIdeal.nD Cert.RouteAllRefIdeal.τ Cert.RouteAllRefIdeal.sig) → Buf (Elt Ideal) ℓ) : Prop :=
  ∀ c : Dev Cert.RouteAllRefIdeal.nD,
    (Cert.Pre_finite_all.fn (F := Ideal) (m ((c.tc : Thread Cert.RouteAllRefIdeal.nD Cert.RouteAllRefIdeal.τ).loc Cert.RouteAllRefIdeal.main_arg0)) (m ((c.tc : Thread Cert.RouteAllRefIdeal.nD Cert.RouteAllRefIdeal.τ).loc Cert.RouteAllRefIdeal.main_arg1)) (m ((c.tc : Thread Cert.RouteAllRefIdeal.nD Cert.RouteAllRefIdeal.τ).loc Cert.RouteAllRefIdeal.main_arg2)) (m ((c.tc : Thread Cert.RouteAllRefIdeal.nD Cert.RouteAllRefIdeal.τ).loc Cert.RouteAllRefIdeal.main_arg3))).1 = (fun _ => 1#1)
    ∧ (Cert.Pre_finite_all.fn (F := Ideal) (m ((c.tc : Thread Cert.RouteAllRefIdeal.nD Cert.RouteAllRefIdeal.τ).loc Cert.RouteAllRefIdeal.main_arg0)) (m ((c.tc : Thread Cert.RouteAllRefIdeal.nD Cert.RouteAllRefIdeal.τ).loc Cert.RouteAllRefIdeal.main_arg1)) (m ((c.tc : Thread Cert.RouteAllRefIdeal.nD Cert.RouteAllRefIdeal.τ).loc Cert.RouteAllRefIdeal.main_arg2)) (m ((c.tc : Thread Cert.RouteAllRefIdeal.nD Cert.RouteAllRefIdeal.τ).loc Cert.RouteAllRefIdeal.main_arg3))).2.1 = (fun _ => 1#1)
    ∧ (Cert.Pre_finite_all.fn (F := Ideal) (m ((c.tc : Thread Cert.RouteAllRefIdeal.nD Cert.RouteAllRefIdeal.τ).loc Cert.RouteAllRefIdeal.main_arg0)) (m ((c.tc : Thread Cert.RouteAllRefIdeal.nD Cert.RouteAllRefIdeal.τ).loc Cert.RouteAllRefIdeal.main_arg1)) (m ((c.tc : Thread Cert.RouteAllRefIdeal.nD Cert.RouteAllRefIdeal.τ).loc Cert.RouteAllRefIdeal.main_arg2)) (m ((c.tc : Thread Cert.RouteAllRefIdeal.nD Cert.RouteAllRefIdeal.τ).loc Cert.RouteAllRefIdeal.main_arg3))).2.2.1 = (fun _ => 1#1)
    ∧ (Cert.Pre_finite_all.fn (F := Ideal) (m ((c.tc : Thread Cert.RouteAllRefIdeal.nD Cert.RouteAllRefIdeal.τ).loc Cert.RouteAllRefIdeal.main_arg0)) (m ((c.tc : Thread Cert.RouteAllRefIdeal.nD Cert.RouteAllRefIdeal.τ).loc Cert.RouteAllRefIdeal.main_arg1)) (m ((c.tc : Thread Cert.RouteAllRefIdeal.nD Cert.RouteAllRefIdeal.τ).loc Cert.RouteAllRefIdeal.main_arg2)) (m ((c.tc : Thread Cert.RouteAllRefIdeal.nD Cert.RouteAllRefIdeal.τ).loc Cert.RouteAllRefIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_EvenInCtx [hEvenInCtx : Cert.EvenInCtx.Facts] : Prop :=
  ∀ (m : (ℓ : Loc Cert.EvenInCtx.nD Cert.EvenInCtx.τ Cert.EvenInCtx.sig) → Buf (Elt Bits) ℓ) (g : Dev Cert.EvenInCtx.nD → PrngReg), Pre_EvenInCtx m →
    θ_run (Cert.EvenInCtx.defs (F := Bits)) (onTc (τ := Cert.EvenInCtx.τ) (Cert.EvenInCtx.main (F := Bits))) ⟨m, fun _ => 0, g⟩ (fun r => (∀ c : Dev Cert.EvenInCtx.nD,
      r.2.mem ((c.tc : Thread Cert.EvenInCtx.nD Cert.EvenInCtx.τ).loc Cert.EvenInCtx.main_arg0) = m ((c.tc : Thread Cert.EvenInCtx.nD Cert.EvenInCtx.τ).loc Cert.EvenInCtx.main_arg0)
      ∧ r.2.mem ((c.tc : Thread Cert.EvenInCtx.nD Cert.EvenInCtx.τ).loc Cert.EvenInCtx.main_arg1) = m ((c.tc : Thread Cert.EvenInCtx.nD Cert.EvenInCtx.τ).loc Cert.EvenInCtx.main_arg1))
      ∧ r.2.sem = fun _ => 0)

def quiescent_EvenInCtxIdeal [hEvenInCtxIdeal : Cert.EvenInCtxIdeal.Facts] : Prop :=
  ∀ (m : (ℓ : Loc Cert.EvenInCtxIdeal.nD Cert.EvenInCtxIdeal.τ Cert.EvenInCtxIdeal.sig) → Buf (Elt Ideal) ℓ) (g : Dev Cert.EvenInCtxIdeal.nD → PrngReg), Pre_EvenInCtxIdeal m →
    θ_run (Cert.EvenInCtxIdeal.defs (F := Ideal)) (onTc (τ := Cert.EvenInCtxIdeal.τ) (Cert.EvenInCtxIdeal.main (F := Ideal))) ⟨m, fun _ => 0, g⟩ (fun r => (∀ c : Dev Cert.EvenInCtxIdeal.nD,
      r.2.mem ((c.tc : Thread Cert.EvenInCtxIdeal.nD Cert.EvenInCtxIdeal.τ).loc Cert.EvenInCtxIdeal.main_arg0) = m ((c.tc : Thread Cert.EvenInCtxIdeal.nD Cert.EvenInCtxIdeal.τ).loc Cert.EvenInCtxIdeal.main_arg0)
      ∧ r.2.mem ((c.tc : Thread Cert.EvenInCtxIdeal.nD Cert.EvenInCtxIdeal.τ).loc Cert.EvenInCtxIdeal.main_arg1) = m ((c.tc : Thread Cert.EvenInCtxIdeal.nD Cert.EvenInCtxIdeal.τ).loc Cert.EvenInCtxIdeal.main_arg1))
      ∧ r.2.sem = fun _ => 0)

def quiescent_EvenInCtxRefIdeal [hEvenInCtxRefIdeal : Cert.EvenInCtxRefIdeal.Facts] : Prop :=
  ∀ (m : (ℓ : Loc Cert.EvenInCtxRefIdeal.nD Cert.EvenInCtxRefIdeal.τ Cert.EvenInCtxRefIdeal.sig) → Buf (Elt Ideal) ℓ) (g : Dev Cert.EvenInCtxRefIdeal.nD → PrngReg), Pre_EvenInCtxRefIdeal m →
    θ_run (Cert.EvenInCtxRefIdeal.defs (F := Ideal)) (onTc (τ := Cert.EvenInCtxRefIdeal.τ) (Cert.EvenInCtxRefIdeal.main (F := Ideal))) ⟨m, fun _ => 0, g⟩ (fun r => (∀ c : Dev Cert.EvenInCtxRefIdeal.nD,
      r.2.mem ((c.tc : Thread Cert.EvenInCtxRefIdeal.nD Cert.EvenInCtxRefIdeal.τ).loc Cert.EvenInCtxRefIdeal.main_arg0) = m ((c.tc : Thread Cert.EvenInCtxRefIdeal.nD Cert.EvenInCtxRefIdeal.τ).loc Cert.EvenInCtxRefIdeal.main_arg0)
      ∧ r.2.mem ((c.tc : Thread Cert.EvenInCtxRefIdeal.nD Cert.EvenInCtxRefIdeal.τ).loc Cert.EvenInCtxRefIdeal.main_arg1) = m ((c.tc : Thread Cert.EvenInCtxRefIdeal.nD Cert.EvenInCtxRefIdeal.τ).loc Cert.EvenInCtxRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_MixOutCtx [hMixOutCtx : Cert.MixOutCtx.Facts] : Prop :=
  ∀ (m : (ℓ : Loc Cert.MixOutCtx.nD Cert.MixOutCtx.τ Cert.MixOutCtx.sig) → Buf (Elt Bits) ℓ) (g : Dev Cert.MixOutCtx.nD → PrngReg), Pre_MixOutCtx m →
    θ_run (Cert.MixOutCtx.defs (F := Bits)) (onTc (τ := Cert.MixOutCtx.τ) (Cert.MixOutCtx.main (F := Bits))) ⟨m, fun _ => 0, g⟩ (fun r => (∀ c : Dev Cert.MixOutCtx.nD,
      r.2.mem ((c.tc : Thread Cert.MixOutCtx.nD Cert.MixOutCtx.τ).loc Cert.MixOutCtx.main_arg0) = m ((c.tc : Thread Cert.MixOutCtx.nD Cert.MixOutCtx.τ).loc Cert.MixOutCtx.main_arg0)
      ∧ r.2.mem ((c.tc : Thread Cert.MixOutCtx.nD Cert.MixOutCtx.τ).loc Cert.MixOutCtx.main_arg1) = m ((c.tc : Thread Cert.MixOutCtx.nD Cert.MixOutCtx.τ).loc Cert.MixOutCtx.main_arg1))
      ∧ r.2.sem = fun _ => 0)

def quiescent_MixOutCtxIdeal [hMixOutCtxIdeal : Cert.MixOutCtxIdeal.Facts] : Prop :=
  ∀ (m : (ℓ : Loc Cert.MixOutCtxIdeal.nD Cert.MixOutCtxIdeal.τ Cert.MixOutCtxIdeal.sig) → Buf (Elt Ideal) ℓ) (g : Dev Cert.MixOutCtxIdeal.nD → PrngReg), Pre_MixOutCtxIdeal m →
    θ_run (Cert.MixOutCtxIdeal.defs (F := Ideal)) (onTc (τ := Cert.MixOutCtxIdeal.τ) (Cert.MixOutCtxIdeal.main (F := Ideal))) ⟨m, fun _ => 0, g⟩ (fun r => (∀ c : Dev Cert.MixOutCtxIdeal.nD,
      r.2.mem ((c.tc : Thread Cert.MixOutCtxIdeal.nD Cert.MixOutCtxIdeal.τ).loc Cert.MixOutCtxIdeal.main_arg0) = m ((c.tc : Thread Cert.MixOutCtxIdeal.nD Cert.MixOutCtxIdeal.τ).loc Cert.MixOutCtxIdeal.main_arg0)
      ∧ r.2.mem ((c.tc : Thread Cert.MixOutCtxIdeal.nD Cert.MixOutCtxIdeal.τ).loc Cert.MixOutCtxIdeal.main_arg1) = m ((c.tc : Thread Cert.MixOutCtxIdeal.nD Cert.MixOutCtxIdeal.τ).loc Cert.MixOutCtxIdeal.main_arg1))
      ∧ r.2.sem = fun _ => 0)

def quiescent_MixOutCtxRefIdeal [hMixOutCtxRefIdeal : Cert.MixOutCtxRefIdeal.Facts] : Prop :=
  ∀ (m : (ℓ : Loc Cert.MixOutCtxRefIdeal.nD Cert.MixOutCtxRefIdeal.τ Cert.MixOutCtxRefIdeal.sig) → Buf (Elt Ideal) ℓ) (g : Dev Cert.MixOutCtxRefIdeal.nD → PrngReg), Pre_MixOutCtxRefIdeal m →
    θ_run (Cert.MixOutCtxRefIdeal.defs (F := Ideal)) (onTc (τ := Cert.MixOutCtxRefIdeal.τ) (Cert.MixOutCtxRefIdeal.main (F := Ideal))) ⟨m, fun _ => 0, g⟩ (fun r => (∀ c : Dev Cert.MixOutCtxRefIdeal.nD,
      r.2.mem ((c.tc : Thread Cert.MixOutCtxRefIdeal.nD Cert.MixOutCtxRefIdeal.τ).loc Cert.MixOutCtxRefIdeal.main_arg0) = m ((c.tc : Thread Cert.MixOutCtxRefIdeal.nD Cert.MixOutCtxRefIdeal.τ).loc Cert.MixOutCtxRefIdeal.main_arg0)
      ∧ r.2.mem ((c.tc : Thread Cert.MixOutCtxRefIdeal.nD Cert.MixOutCtxRefIdeal.τ).loc Cert.MixOutCtxRefIdeal.main_arg1) = m ((c.tc : Thread Cert.MixOutCtxRefIdeal.nD Cert.MixOutCtxRefIdeal.τ).loc Cert.MixOutCtxRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_OddKeys [hOddKeys : Cert.OddKeys.Facts] : Prop :=
  ∀ (m : (ℓ : Loc Cert.OddKeys.nD Cert.OddKeys.τ Cert.OddKeys.sig) → Buf (Elt Bits) ℓ) (g : Dev Cert.OddKeys.nD → PrngReg), Pre_OddKeys m →
    θ_run (Cert.OddKeys.defs (F := Bits)) (onTc (τ := Cert.OddKeys.τ) (Cert.OddKeys.main (F := Bits))) ⟨m, fun _ => 0, g⟩ (fun r => (∀ c : Dev Cert.OddKeys.nD,
      r.2.mem ((c.tc : Thread Cert.OddKeys.nD Cert.OddKeys.τ).loc Cert.OddKeys.main_arg0) = m ((c.tc : Thread Cert.OddKeys.nD Cert.OddKeys.τ).loc Cert.OddKeys.main_arg0)
      ∧ r.2.mem ((c.tc : Thread Cert.OddKeys.nD Cert.OddKeys.τ).loc Cert.OddKeys.main_arg1) = m ((c.tc : Thread Cert.OddKeys.nD Cert.OddKeys.τ).loc Cert.OddKeys.main_arg1))
      ∧ r.2.sem = fun _ => 0)

def quiescent_OddKeysIdeal [hOddKeysIdeal : Cert.OddKeysIdeal.Facts] : Prop :=
  ∀ (m : (ℓ : Loc Cert.OddKeysIdeal.nD Cert.OddKeysIdeal.τ Cert.OddKeysIdeal.sig) → Buf (Elt Ideal) ℓ) (g : Dev Cert.OddKeysIdeal.nD → PrngReg), Pre_OddKeysIdeal m →
    θ_run (Cert.OddKeysIdeal.defs (F := Ideal)) (onTc (τ := Cert.OddKeysIdeal.τ) (Cert.OddKeysIdeal.main (F := Ideal))) ⟨m, fun _ => 0, g⟩ (fun r => (∀ c : Dev Cert.OddKeysIdeal.nD,
      r.2.mem ((c.tc : Thread Cert.OddKeysIdeal.nD Cert.OddKeysIdeal.τ).loc Cert.OddKeysIdeal.main_arg0) = m ((c.tc : Thread Cert.OddKeysIdeal.nD Cert.OddKeysIdeal.τ).loc Cert.OddKeysIdeal.main_arg0)
      ∧ r.2.mem ((c.tc : Thread Cert.OddKeysIdeal.nD Cert.OddKeysIdeal.τ).loc Cert.OddKeysIdeal.main_arg1) = m ((c.tc : Thread Cert.OddKeysIdeal.nD Cert.OddKeysIdeal.τ).loc Cert.OddKeysIdeal.main_arg1))
      ∧ r.2.sem = fun _ => 0)

def quiescent_OddKeysRefIdeal [hOddKeysRefIdeal : Cert.OddKeysRefIdeal.Facts] : Prop :=
  ∀ (m : (ℓ : Loc Cert.OddKeysRefIdeal.nD Cert.OddKeysRefIdeal.τ Cert.OddKeysRefIdeal.sig) → Buf (Elt Ideal) ℓ) (g : Dev Cert.OddKeysRefIdeal.nD → PrngReg), Pre_OddKeysRefIdeal m →
    θ_run (Cert.OddKeysRefIdeal.defs (F := Ideal)) (onTc (τ := Cert.OddKeysRefIdeal.τ) (Cert.OddKeysRefIdeal.main (F := Ideal))) ⟨m, fun _ => 0, g⟩ (fun r => (∀ c : Dev Cert.OddKeysRefIdeal.nD,
      r.2.mem ((c.tc : Thread Cert.OddKeysRefIdeal.nD Cert.OddKeysRefIdeal.τ).loc Cert.OddKeysRefIdeal.main_arg0) = m ((c.tc : Thread Cert.OddKeysRefIdeal.nD Cert.OddKeysRefIdeal.τ).loc Cert.OddKeysRefIdeal.main_arg0)
      ∧ r.2.mem ((c.tc : Thread Cert.OddKeysRefIdeal.nD Cert.OddKeysRefIdeal.τ).loc Cert.OddKeysRefIdeal.main_arg1) = m ((c.tc : Thread Cert.OddKeysRefIdeal.nD Cert.OddKeysRefIdeal.τ).loc Cert.OddKeysRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def quiescent_RouteAll [hRouteAll : Cert.RouteAll.Facts] : Prop :=
  ∀ (m : (ℓ : Loc Cert.RouteAll.nD Cert.RouteAll.τ Cert.RouteAll.sig) → Buf (Elt Bits) ℓ) (g : Dev Cert.RouteAll.nD → PrngReg), Pre_RouteAll m →
    θ_run (Cert.RouteAll.defs (F := Bits)) (onTc (τ := Cert.RouteAll.τ) (Cert.RouteAll.main (F := Bits))) ⟨m, fun _ => 0, g⟩ (fun r => (∀ c : Dev Cert.RouteAll.nD,
      r.2.mem ((c.tc : Thread Cert.RouteAll.nD Cert.RouteAll.τ).loc Cert.RouteAll.main_arg0) = m ((c.tc : Thread Cert.RouteAll.nD Cert.RouteAll.τ).loc Cert.RouteAll.main_arg0)
      ∧ r.2.mem ((c.tc : Thread Cert.RouteAll.nD Cert.RouteAll.τ).loc Cert.RouteAll.main_arg1) = m ((c.tc : Thread Cert.RouteAll.nD Cert.RouteAll.τ).loc Cert.RouteAll.main_arg1)
      ∧ r.2.mem ((c.tc : Thread Cert.RouteAll.nD Cert.RouteAll.τ).loc Cert.RouteAll.main_arg2) = m ((c.tc : Thread Cert.RouteAll.nD Cert.RouteAll.τ).loc Cert.RouteAll.main_arg2)
      ∧ r.2.mem ((c.tc : Thread Cert.RouteAll.nD Cert.RouteAll.τ).loc Cert.RouteAll.main_arg3) = m ((c.tc : Thread Cert.RouteAll.nD Cert.RouteAll.τ).loc Cert.RouteAll.main_arg3))
      ∧ r.2.sem = fun _ => 0)

def quiescent_RouteAllIdeal [hRouteAllIdeal : Cert.RouteAllIdeal.Facts] : Prop :=
  ∀ (m : (ℓ : Loc Cert.RouteAllIdeal.nD Cert.RouteAllIdeal.τ Cert.RouteAllIdeal.sig) → Buf (Elt Ideal) ℓ) (g : Dev Cert.RouteAllIdeal.nD → PrngReg), Pre_RouteAllIdeal m →
    θ_run (Cert.RouteAllIdeal.defs (F := Ideal)) (onTc (τ := Cert.RouteAllIdeal.τ) (Cert.RouteAllIdeal.main (F := Ideal))) ⟨m, fun _ => 0, g⟩ (fun r => (∀ c : Dev Cert.RouteAllIdeal.nD,
      r.2.mem ((c.tc : Thread Cert.RouteAllIdeal.nD Cert.RouteAllIdeal.τ).loc Cert.RouteAllIdeal.main_arg0) = m ((c.tc : Thread Cert.RouteAllIdeal.nD Cert.RouteAllIdeal.τ).loc Cert.RouteAllIdeal.main_arg0)
      ∧ r.2.mem ((c.tc : Thread Cert.RouteAllIdeal.nD Cert.RouteAllIdeal.τ).loc Cert.RouteAllIdeal.main_arg1) = m ((c.tc : Thread Cert.RouteAllIdeal.nD Cert.RouteAllIdeal.τ).loc Cert.RouteAllIdeal.main_arg1)
      ∧ r.2.mem ((c.tc : Thread Cert.RouteAllIdeal.nD Cert.RouteAllIdeal.τ).loc Cert.RouteAllIdeal.main_arg2) = m ((c.tc : Thread Cert.RouteAllIdeal.nD Cert.RouteAllIdeal.τ).loc Cert.RouteAllIdeal.main_arg2)
      ∧ r.2.mem ((c.tc : Thread Cert.RouteAllIdeal.nD Cert.RouteAllIdeal.τ).loc Cert.RouteAllIdeal.main_arg3) = m ((c.tc : Thread Cert.RouteAllIdeal.nD Cert.RouteAllIdeal.τ).loc Cert.RouteAllIdeal.main_arg3))
      ∧ r.2.sem = fun _ => 0)

def quiescent_RouteAllIdeal_pre_finite_all [hRouteAllIdeal : Cert.RouteAllIdeal.Facts] [hPre_finite_all : Cert.Pre_finite_all.Facts] : Prop :=
  ∀ (m : (ℓ : Loc Cert.RouteAllIdeal.nD Cert.RouteAllIdeal.τ Cert.RouteAllIdeal.sig) → Buf (Elt Ideal) ℓ) (g : Dev Cert.RouteAllIdeal.nD → PrngReg), Pre_RouteAllIdeal_finite_all m →
    θ_run (Cert.RouteAllIdeal.defs (F := Ideal)) (onTc (τ := Cert.RouteAllIdeal.τ) (Cert.RouteAllIdeal.main (F := Ideal))) ⟨m, fun _ => 0, g⟩ (fun r => (∀ c : Dev Cert.RouteAllIdeal.nD,
      r.2.mem ((c.tc : Thread Cert.RouteAllIdeal.nD Cert.RouteAllIdeal.τ).loc Cert.RouteAllIdeal.main_arg0) = m ((c.tc : Thread Cert.RouteAllIdeal.nD Cert.RouteAllIdeal.τ).loc Cert.RouteAllIdeal.main_arg0)
      ∧ r.2.mem ((c.tc : Thread Cert.RouteAllIdeal.nD Cert.RouteAllIdeal.τ).loc Cert.RouteAllIdeal.main_arg1) = m ((c.tc : Thread Cert.RouteAllIdeal.nD Cert.RouteAllIdeal.τ).loc Cert.RouteAllIdeal.main_arg1)
      ∧ r.2.mem ((c.tc : Thread Cert.RouteAllIdeal.nD Cert.RouteAllIdeal.τ).loc Cert.RouteAllIdeal.main_arg2) = m ((c.tc : Thread Cert.RouteAllIdeal.nD Cert.RouteAllIdeal.τ).loc Cert.RouteAllIdeal.main_arg2)
      ∧ r.2.mem ((c.tc : Thread Cert.RouteAllIdeal.nD Cert.RouteAllIdeal.τ).loc Cert.RouteAllIdeal.main_arg3) = m ((c.tc : Thread Cert.RouteAllIdeal.nD Cert.RouteAllIdeal.τ).loc Cert.RouteAllIdeal.main_arg3))
      ∧ r.2.sem = fun _ => 0)

def quiescent_RouteAllRefIdeal [hRouteAllRefIdeal : Cert.RouteAllRefIdeal.Facts] : Prop :=
  ∀ (m : (ℓ : Loc Cert.RouteAllRefIdeal.nD Cert.RouteAllRefIdeal.τ Cert.RouteAllRefIdeal.sig) → Buf (Elt Ideal) ℓ) (g : Dev Cert.RouteAllRefIdeal.nD → PrngReg), Pre_RouteAllRefIdeal m →
    θ_run (Cert.RouteAllRefIdeal.defs (F := Ideal)) (onTc (τ := Cert.RouteAllRefIdeal.τ) (Cert.RouteAllRefIdeal.main (F := Ideal))) ⟨m, fun _ => 0, g⟩ (fun r => (∀ c : Dev Cert.RouteAllRefIdeal.nD,
      r.2.mem ((c.tc : Thread Cert.RouteAllRefIdeal.nD Cert.RouteAllRefIdeal.τ).loc Cert.RouteAllRefIdeal.main_arg0) = m ((c.tc : Thread Cert.RouteAllRefIdeal.nD Cert.RouteAllRefIdeal.τ).loc Cert.RouteAllRefIdeal.main_arg0)
      ∧ r.2.mem ((c.tc : Thread Cert.RouteAllRefIdeal.nD Cert.RouteAllRefIdeal.τ).loc Cert.RouteAllRefIdeal.main_arg1) = m ((c.tc : Thread Cert.RouteAllRefIdeal.nD Cert.RouteAllRefIdeal.τ).loc Cert.RouteAllRefIdeal.main_arg1)
      ∧ r.2.mem ((c.tc : Thread Cert.RouteAllRefIdeal.nD Cert.RouteAllRefIdeal.τ).loc Cert.RouteAllRefIdeal.main_arg2) = m ((c.tc : Thread Cert.RouteAllRefIdeal.nD Cert.RouteAllRefIdeal.τ).loc Cert.RouteAllRefIdeal.main_arg2)
      ∧ r.2.mem ((c.tc : Thread Cert.RouteAllRefIdeal.nD Cert.RouteAllRefIdeal.τ).loc Cert.RouteAllRefIdeal.main_arg3) = m ((c.tc : Thread Cert.RouteAllRefIdeal.nD Cert.RouteAllRefIdeal.τ).loc Cert.RouteAllRefIdeal.main_arg3))
      ∧ r.2.sem = fun _ => 0)

def quiescent_RouteAllRefIdeal_pre_finite_all [hRouteAllRefIdeal : Cert.RouteAllRefIdeal.Facts] [hPre_finite_all : Cert.Pre_finite_all.Facts] : Prop :=
  ∀ (m : (ℓ : Loc Cert.RouteAllRefIdeal.nD Cert.RouteAllRefIdeal.τ Cert.RouteAllRefIdeal.sig) → Buf (Elt Ideal) ℓ) (g : Dev Cert.RouteAllRefIdeal.nD → PrngReg), Pre_RouteAllRefIdeal_finite_all m →
    θ_run (Cert.RouteAllRefIdeal.defs (F := Ideal)) (onTc (τ := Cert.RouteAllRefIdeal.τ) (Cert.RouteAllRefIdeal.main (F := Ideal))) ⟨m, fun _ => 0, g⟩ (fun r => (∀ c : Dev Cert.RouteAllRefIdeal.nD,
      r.2.mem ((c.tc : Thread Cert.RouteAllRefIdeal.nD Cert.RouteAllRefIdeal.τ).loc Cert.RouteAllRefIdeal.main_arg0) = m ((c.tc : Thread Cert.RouteAllRefIdeal.nD Cert.RouteAllRefIdeal.τ).loc Cert.RouteAllRefIdeal.main_arg0)
      ∧ r.2.mem ((c.tc : Thread Cert.RouteAllRefIdeal.nD Cert.RouteAllRefIdeal.τ).loc Cert.RouteAllRefIdeal.main_arg1) = m ((c.tc : Thread Cert.RouteAllRefIdeal.nD Cert.RouteAllRefIdeal.τ).loc Cert.RouteAllRefIdeal.main_arg1)
      ∧ r.2.mem ((c.tc : Thread Cert.RouteAllRefIdeal.nD Cert.RouteAllRefIdeal.τ).loc Cert.RouteAllRefIdeal.main_arg2) = m ((c.tc : Thread Cert.RouteAllRefIdeal.nD Cert.RouteAllRefIdeal.τ).loc Cert.RouteAllRefIdeal.main_arg2)
      ∧ r.2.mem ((c.tc : Thread Cert.RouteAllRefIdeal.nD Cert.RouteAllRefIdeal.τ).loc Cert.RouteAllRefIdeal.main_arg3) = m ((c.tc : Thread Cert.RouteAllRefIdeal.nD Cert.RouteAllRefIdeal.τ).loc Cert.RouteAllRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v1) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v1) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_EvenInCtx_EvenInCtxIdeal : Prop :=
  True

def algebraic_EvenInCtxIdeal_EvenInCtxRefIdeal [hEvenInCtxIdeal : Cert.EvenInCtxIdeal.Facts] [hEvenInCtxRefIdeal : Cert.EvenInCtxRefIdeal.Facts] : Prop :=
  ∀ (m : (ℓ : Loc Cert.EvenInCtxIdeal.nD Cert.EvenInCtxIdeal.τ Cert.EvenInCtxIdeal.sig) → Buf (Elt Ideal) ℓ) (g : Dev Cert.EvenInCtxIdeal.nD → PrngReg)
    (m' : (ℓ : Loc Cert.EvenInCtxRefIdeal.nD Cert.EvenInCtxRefIdeal.τ Cert.EvenInCtxRefIdeal.sig) → Buf (Elt Ideal) ℓ) (g' : Dev Cert.EvenInCtxRefIdeal.nD → PrngReg), Pre_EvenInCtxIdeal m →
    (∀ c : Dev Cert.EvenInCtxIdeal.nD,
      m' ((c.tc : Thread Cert.EvenInCtxRefIdeal.nD Cert.EvenInCtxRefIdeal.τ).loc Cert.EvenInCtxRefIdeal.main_arg0) = m ((c.tc : Thread Cert.EvenInCtxIdeal.nD Cert.EvenInCtxIdeal.τ).loc Cert.EvenInCtxIdeal.main_arg0)
      ∧ m' ((c.tc : Thread Cert.EvenInCtxRefIdeal.nD Cert.EvenInCtxRefIdeal.τ).loc Cert.EvenInCtxRefIdeal.main_arg1) = m ((c.tc : Thread Cert.EvenInCtxIdeal.nD Cert.EvenInCtxIdeal.τ).loc Cert.EvenInCtxIdeal.main_arg1)) →
    ∃ (v0 : (c : Dev Cert.EvenInCtxIdeal.nD) → Buf (Elt Ideal) ((c.tc : Thread Cert.EvenInCtxIdeal.nD Cert.EvenInCtxIdeal.τ).loc Cert.EvenInCtxIdeal.main_v1)),
      θ_run (Cert.EvenInCtxIdeal.defs (F := Ideal)) (onTc (τ := Cert.EvenInCtxIdeal.τ) (Cert.EvenInCtxIdeal.main (F := Ideal))) ⟨m, fun _ => 0, g⟩ (fun r => ∀ c : Dev Cert.EvenInCtxIdeal.nD,
          r.2.mem ((c.tc : Thread Cert.EvenInCtxIdeal.nD Cert.EvenInCtxIdeal.τ).loc Cert.EvenInCtxIdeal.main_v1) = v0 c
          ∧ r.2.mem ((c.tc : Thread Cert.EvenInCtxIdeal.nD Cert.EvenInCtxIdeal.τ).loc Cert.EvenInCtxIdeal.main_arg0) = m ((c.tc : Thread Cert.EvenInCtxIdeal.nD Cert.EvenInCtxIdeal.τ).loc Cert.EvenInCtxIdeal.main_arg0)
          ∧ r.2.mem ((c.tc : Thread Cert.EvenInCtxIdeal.nD Cert.EvenInCtxIdeal.τ).loc Cert.EvenInCtxIdeal.main_arg1) = m ((c.tc : Thread Cert.EvenInCtxIdeal.nD Cert.EvenInCtxIdeal.τ).loc Cert.EvenInCtxIdeal.main_arg1))
      ∧ θ_run (Cert.EvenInCtxRefIdeal.defs (F := Ideal)) (onTc (τ := Cert.EvenInCtxRefIdeal.τ) (Cert.EvenInCtxRefIdeal.main (F := Ideal))) ⟨m', fun _ => 0, g'⟩ (fun r => ∀ c : Dev Cert.EvenInCtxRefIdeal.nD,
          r.2.mem ((c.tc : Thread Cert.EvenInCtxRefIdeal.nD Cert.EvenInCtxRefIdeal.τ).loc Cert.EvenInCtxRefIdeal.main_v1) = v0 c
          ∧ r.2.mem ((c.tc : Thread Cert.EvenInCtxRefIdeal.nD Cert.EvenInCtxRefIdeal.τ).loc Cert.EvenInCtxRefIdeal.main_arg0) = m' ((c.tc : Thread Cert.EvenInCtxRefIdeal.nD Cert.EvenInCtxRefIdeal.τ).loc Cert.EvenInCtxRefIdeal.main_arg0)
          ∧ r.2.mem ((c.tc : Thread Cert.EvenInCtxRefIdeal.nD Cert.EvenInCtxRefIdeal.τ).loc Cert.EvenInCtxRefIdeal.main_arg1) = m' ((c.tc : Thread Cert.EvenInCtxRefIdeal.nD Cert.EvenInCtxRefIdeal.τ).loc Cert.EvenInCtxRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v1) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_MixOutCtx_MixOutCtxIdeal : Prop :=
  True

def algebraic_MixOutCtxIdeal_MixOutCtxRefIdeal [hMixOutCtxIdeal : Cert.MixOutCtxIdeal.Facts] [hMixOutCtxRefIdeal : Cert.MixOutCtxRefIdeal.Facts] : Prop :=
  ∀ (m : (ℓ : Loc Cert.MixOutCtxIdeal.nD Cert.MixOutCtxIdeal.τ Cert.MixOutCtxIdeal.sig) → Buf (Elt Ideal) ℓ) (g : Dev Cert.MixOutCtxIdeal.nD → PrngReg)
    (m' : (ℓ : Loc Cert.MixOutCtxRefIdeal.nD Cert.MixOutCtxRefIdeal.τ Cert.MixOutCtxRefIdeal.sig) → Buf (Elt Ideal) ℓ) (g' : Dev Cert.MixOutCtxRefIdeal.nD → PrngReg), Pre_MixOutCtxIdeal m →
    (∀ c : Dev Cert.MixOutCtxIdeal.nD,
      m' ((c.tc : Thread Cert.MixOutCtxRefIdeal.nD Cert.MixOutCtxRefIdeal.τ).loc Cert.MixOutCtxRefIdeal.main_arg0) = m ((c.tc : Thread Cert.MixOutCtxIdeal.nD Cert.MixOutCtxIdeal.τ).loc Cert.MixOutCtxIdeal.main_arg0)
      ∧ m' ((c.tc : Thread Cert.MixOutCtxRefIdeal.nD Cert.MixOutCtxRefIdeal.τ).loc Cert.MixOutCtxRefIdeal.main_arg1) = m ((c.tc : Thread Cert.MixOutCtxIdeal.nD Cert.MixOutCtxIdeal.τ).loc Cert.MixOutCtxIdeal.main_arg1)) →
    ∃ (v0 : (c : Dev Cert.MixOutCtxIdeal.nD) → Buf (Elt Ideal) ((c.tc : Thread Cert.MixOutCtxIdeal.nD Cert.MixOutCtxIdeal.τ).loc Cert.MixOutCtxIdeal.main_v1)),
      θ_run (Cert.MixOutCtxIdeal.defs (F := Ideal)) (onTc (τ := Cert.MixOutCtxIdeal.τ) (Cert.MixOutCtxIdeal.main (F := Ideal))) ⟨m, fun _ => 0, g⟩ (fun r => ∀ c : Dev Cert.MixOutCtxIdeal.nD,
          r.2.mem ((c.tc : Thread Cert.MixOutCtxIdeal.nD Cert.MixOutCtxIdeal.τ).loc Cert.MixOutCtxIdeal.main_v1) = v0 c
          ∧ r.2.mem ((c.tc : Thread Cert.MixOutCtxIdeal.nD Cert.MixOutCtxIdeal.τ).loc Cert.MixOutCtxIdeal.main_arg0) = m ((c.tc : Thread Cert.MixOutCtxIdeal.nD Cert.MixOutCtxIdeal.τ).loc Cert.MixOutCtxIdeal.main_arg0)
          ∧ r.2.mem ((c.tc : Thread Cert.MixOutCtxIdeal.nD Cert.MixOutCtxIdeal.τ).loc Cert.MixOutCtxIdeal.main_arg1) = m ((c.tc : Thread Cert.MixOutCtxIdeal.nD Cert.MixOutCtxIdeal.τ).loc Cert.MixOutCtxIdeal.main_arg1))
      ∧ θ_run (Cert.MixOutCtxRefIdeal.defs (F := Ideal)) (onTc (τ := Cert.MixOutCtxRefIdeal.τ) (Cert.MixOutCtxRefIdeal.main (F := Ideal))) ⟨m', fun _ => 0, g'⟩ (fun r => ∀ c : Dev Cert.MixOutCtxRefIdeal.nD,
          r.2.mem ((c.tc : Thread Cert.MixOutCtxRefIdeal.nD Cert.MixOutCtxRefIdeal.τ).loc Cert.MixOutCtxRefIdeal.main_v1) = v0 c
          ∧ r.2.mem ((c.tc : Thread Cert.MixOutCtxRefIdeal.nD Cert.MixOutCtxRefIdeal.τ).loc Cert.MixOutCtxRefIdeal.main_arg0) = m' ((c.tc : Thread Cert.MixOutCtxRefIdeal.nD Cert.MixOutCtxRefIdeal.τ).loc Cert.MixOutCtxRefIdeal.main_arg0)
          ∧ r.2.mem ((c.tc : Thread Cert.MixOutCtxRefIdeal.nD Cert.MixOutCtxRefIdeal.τ).loc Cert.MixOutCtxRefIdeal.main_arg1) = m' ((c.tc : Thread Cert.MixOutCtxRefIdeal.nD Cert.MixOutCtxRefIdeal.τ).loc Cert.MixOutCtxRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v1) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v1) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_OddKeys_OddKeysIdeal : Prop :=
  True

def algebraic_OddKeysIdeal_OddKeysRefIdeal [hOddKeysIdeal : Cert.OddKeysIdeal.Facts] [hOddKeysRefIdeal : Cert.OddKeysRefIdeal.Facts] : Prop :=
  ∀ (m : (ℓ : Loc Cert.OddKeysIdeal.nD Cert.OddKeysIdeal.τ Cert.OddKeysIdeal.sig) → Buf (Elt Ideal) ℓ) (g : Dev Cert.OddKeysIdeal.nD → PrngReg)
    (m' : (ℓ : Loc Cert.OddKeysRefIdeal.nD Cert.OddKeysRefIdeal.τ Cert.OddKeysRefIdeal.sig) → Buf (Elt Ideal) ℓ) (g' : Dev Cert.OddKeysRefIdeal.nD → PrngReg), Pre_OddKeysIdeal m →
    (∀ c : Dev Cert.OddKeysIdeal.nD,
      m' ((c.tc : Thread Cert.OddKeysRefIdeal.nD Cert.OddKeysRefIdeal.τ).loc Cert.OddKeysRefIdeal.main_arg0) = m ((c.tc : Thread Cert.OddKeysIdeal.nD Cert.OddKeysIdeal.τ).loc Cert.OddKeysIdeal.main_arg0)
      ∧ m' ((c.tc : Thread Cert.OddKeysRefIdeal.nD Cert.OddKeysRefIdeal.τ).loc Cert.OddKeysRefIdeal.main_arg1) = m ((c.tc : Thread Cert.OddKeysIdeal.nD Cert.OddKeysIdeal.τ).loc Cert.OddKeysIdeal.main_arg1)) →
    ∃ (v0 : (c : Dev Cert.OddKeysIdeal.nD) → Buf (Elt Ideal) ((c.tc : Thread Cert.OddKeysIdeal.nD Cert.OddKeysIdeal.τ).loc Cert.OddKeysIdeal.main_v2)),
      θ_run (Cert.OddKeysIdeal.defs (F := Ideal)) (onTc (τ := Cert.OddKeysIdeal.τ) (Cert.OddKeysIdeal.main (F := Ideal))) ⟨m, fun _ => 0, g⟩ (fun r => ∀ c : Dev Cert.OddKeysIdeal.nD,
          r.2.mem ((c.tc : Thread Cert.OddKeysIdeal.nD Cert.OddKeysIdeal.τ).loc Cert.OddKeysIdeal.main_v2) = v0 c
          ∧ r.2.mem ((c.tc : Thread Cert.OddKeysIdeal.nD Cert.OddKeysIdeal.τ).loc Cert.OddKeysIdeal.main_arg0) = m ((c.tc : Thread Cert.OddKeysIdeal.nD Cert.OddKeysIdeal.τ).loc Cert.OddKeysIdeal.main_arg0)
          ∧ r.2.mem ((c.tc : Thread Cert.OddKeysIdeal.nD Cert.OddKeysIdeal.τ).loc Cert.OddKeysIdeal.main_arg1) = m ((c.tc : Thread Cert.OddKeysIdeal.nD Cert.OddKeysIdeal.τ).loc Cert.OddKeysIdeal.main_arg1))
      ∧ θ_run (Cert.OddKeysRefIdeal.defs (F := Ideal)) (onTc (τ := Cert.OddKeysRefIdeal.τ) (Cert.OddKeysRefIdeal.main (F := Ideal))) ⟨m', fun _ => 0, g'⟩ (fun r => ∀ c : Dev Cert.OddKeysRefIdeal.nD,
          r.2.mem ((c.tc : Thread Cert.OddKeysRefIdeal.nD Cert.OddKeysRefIdeal.τ).loc Cert.OddKeysRefIdeal.main_v2) = v0 c
          ∧ r.2.mem ((c.tc : Thread Cert.OddKeysRefIdeal.nD Cert.OddKeysRefIdeal.τ).loc Cert.OddKeysRefIdeal.main_arg0) = m' ((c.tc : Thread Cert.OddKeysRefIdeal.nD Cert.OddKeysRefIdeal.τ).loc Cert.OddKeysRefIdeal.main_arg0)
          ∧ r.2.mem ((c.tc : Thread Cert.OddKeysRefIdeal.nD Cert.OddKeysRefIdeal.τ).loc Cert.OddKeysRefIdeal.main_arg1) = m' ((c.tc : Thread Cert.OddKeysRefIdeal.nD Cert.OddKeysRefIdeal.τ).loc Cert.OddKeysRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v23) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def preserves_RouteAll_RouteAllIdeal : Prop :=
  True

def algebraic_RouteAllIdeal_RouteAllRefIdeal_pre_finite_all [hRouteAllIdeal : Cert.RouteAllIdeal.Facts] [hRouteAllRefIdeal : Cert.RouteAllRefIdeal.Facts] [hPre_finite_all : Cert.Pre_finite_all.Facts] : Prop :=
  ∀ (m : (ℓ : Loc Cert.RouteAllIdeal.nD Cert.RouteAllIdeal.τ Cert.RouteAllIdeal.sig) → Buf (Elt Ideal) ℓ) (g : Dev Cert.RouteAllIdeal.nD → PrngReg)
    (m' : (ℓ : Loc Cert.RouteAllRefIdeal.nD Cert.RouteAllRefIdeal.τ Cert.RouteAllRefIdeal.sig) → Buf (Elt Ideal) ℓ) (g' : Dev Cert.RouteAllRefIdeal.nD → PrngReg), Pre_RouteAllIdeal_finite_all m →
    (∀ c : Dev Cert.RouteAllIdeal.nD,
      m' ((c.tc : Thread Cert.RouteAllRefIdeal.nD Cert.RouteAllRefIdeal.τ).loc Cert.RouteAllRefIdeal.main_arg0) = m ((c.tc : Thread Cert.RouteAllIdeal.nD Cert.RouteAllIdeal.τ).loc Cert.RouteAllIdeal.main_arg0)
      ∧ m' ((c.tc : Thread Cert.RouteAllRefIdeal.nD Cert.RouteAllRefIdeal.τ).loc Cert.RouteAllRefIdeal.main_arg1) = m ((c.tc : Thread Cert.RouteAllIdeal.nD Cert.RouteAllIdeal.τ).loc Cert.RouteAllIdeal.main_arg1)
      ∧ m' ((c.tc : Thread Cert.RouteAllRefIdeal.nD Cert.RouteAllRefIdeal.τ).loc Cert.RouteAllRefIdeal.main_arg2) = m ((c.tc : Thread Cert.RouteAllIdeal.nD Cert.RouteAllIdeal.τ).loc Cert.RouteAllIdeal.main_arg2)
      ∧ m' ((c.tc : Thread Cert.RouteAllRefIdeal.nD Cert.RouteAllRefIdeal.τ).loc Cert.RouteAllRefIdeal.main_arg3) = m ((c.tc : Thread Cert.RouteAllIdeal.nD Cert.RouteAllIdeal.τ).loc Cert.RouteAllIdeal.main_arg3)) →
    ∃ (v0 : (c : Dev Cert.RouteAllIdeal.nD) → Buf (Elt Ideal) ((c.tc : Thread Cert.RouteAllIdeal.nD Cert.RouteAllIdeal.τ).loc Cert.RouteAllIdeal.main_v5_0)) (v1 : (c : Dev Cert.RouteAllIdeal.nD) → Buf (Elt Ideal) ((c.tc : Thread Cert.RouteAllIdeal.nD Cert.RouteAllIdeal.τ).loc Cert.RouteAllIdeal.main_v5_1)),
      θ_run (Cert.RouteAllIdeal.defs (F := Ideal)) (onTc (τ := Cert.RouteAllIdeal.τ) (Cert.RouteAllIdeal.main (F := Ideal))) ⟨m, fun _ => 0, g⟩ (fun r => ∀ c : Dev Cert.RouteAllIdeal.nD,
          r.2.mem ((c.tc : Thread Cert.RouteAllIdeal.nD Cert.RouteAllIdeal.τ).loc Cert.RouteAllIdeal.main_v5_0) = v0 c
          ∧ r.2.mem ((c.tc : Thread Cert.RouteAllIdeal.nD Cert.RouteAllIdeal.τ).loc Cert.RouteAllIdeal.main_v5_1) = v1 c
          ∧ r.2.mem ((c.tc : Thread Cert.RouteAllIdeal.nD Cert.RouteAllIdeal.τ).loc Cert.RouteAllIdeal.main_arg0) = m ((c.tc : Thread Cert.RouteAllIdeal.nD Cert.RouteAllIdeal.τ).loc Cert.RouteAllIdeal.main_arg0)
          ∧ r.2.mem ((c.tc : Thread Cert.RouteAllIdeal.nD Cert.RouteAllIdeal.τ).loc Cert.RouteAllIdeal.main_arg1) = m ((c.tc : Thread Cert.RouteAllIdeal.nD Cert.RouteAllIdeal.τ).loc Cert.RouteAllIdeal.main_arg1)
          ∧ r.2.mem ((c.tc : Thread Cert.RouteAllIdeal.nD Cert.RouteAllIdeal.τ).loc Cert.RouteAllIdeal.main_arg2) = m ((c.tc : Thread Cert.RouteAllIdeal.nD Cert.RouteAllIdeal.τ).loc Cert.RouteAllIdeal.main_arg2)
          ∧ r.2.mem ((c.tc : Thread Cert.RouteAllIdeal.nD Cert.RouteAllIdeal.τ).loc Cert.RouteAllIdeal.main_arg3) = m ((c.tc : Thread Cert.RouteAllIdeal.nD Cert.RouteAllIdeal.τ).loc Cert.RouteAllIdeal.main_arg3))
      ∧ θ_run (Cert.RouteAllRefIdeal.defs (F := Ideal)) (onTc (τ := Cert.RouteAllRefIdeal.τ) (Cert.RouteAllRefIdeal.main (F := Ideal))) ⟨m', fun _ => 0, g'⟩ (fun r => ∀ c : Dev Cert.RouteAllRefIdeal.nD,
          r.2.mem ((c.tc : Thread Cert.RouteAllRefIdeal.nD Cert.RouteAllRefIdeal.τ).loc Cert.RouteAllRefIdeal.main_v41) = v0 c
          ∧ r.2.mem ((c.tc : Thread Cert.RouteAllRefIdeal.nD Cert.RouteAllRefIdeal.τ).loc Cert.RouteAllRefIdeal.main_v42) = v1 c
          ∧ r.2.mem ((c.tc : Thread Cert.RouteAllRefIdeal.nD Cert.RouteAllRefIdeal.τ).loc Cert.RouteAllRefIdeal.main_arg0) = m' ((c.tc : Thread Cert.RouteAllRefIdeal.nD Cert.RouteAllRefIdeal.τ).loc Cert.RouteAllRefIdeal.main_arg0)
          ∧ r.2.mem ((c.tc : Thread Cert.RouteAllRefIdeal.nD Cert.RouteAllRefIdeal.τ).loc Cert.RouteAllRefIdeal.main_arg1) = m' ((c.tc : Thread Cert.RouteAllRefIdeal.nD Cert.RouteAllRefIdeal.τ).loc Cert.RouteAllRefIdeal.main_arg1)
          ∧ r.2.mem ((c.tc : Thread Cert.RouteAllRefIdeal.nD Cert.RouteAllRefIdeal.τ).loc Cert.RouteAllRefIdeal.main_arg2) = m' ((c.tc : Thread Cert.RouteAllRefIdeal.nD Cert.RouteAllRefIdeal.τ).loc Cert.RouteAllRefIdeal.main_arg2)
          ∧ r.2.mem ((c.tc : Thread Cert.RouteAllRefIdeal.nD Cert.RouteAllRefIdeal.τ).loc Cert.RouteAllRefIdeal.main_arg3) = m' ((c.tc : Thread Cert.RouteAllRefIdeal.nD Cert.RouteAllRefIdeal.τ).loc Cert.RouteAllRefIdeal.main_arg3))

def Claim : Prop :=
  ∃ (hKernel : Cert.Kernel.Facts) (hKernelIdeal : Cert.KernelIdeal.Facts) (hReferenceIdeal : Cert.ReferenceIdeal.Facts) (hEvenIn : Cert.EvenIn.Facts) (hEvenInIdeal : Cert.EvenInIdeal.Facts) (hEvenInRefIdeal : Cert.EvenInRefIdeal.Facts) (hEvenInCtx : Cert.EvenInCtx.Facts) (hEvenInCtxIdeal : Cert.EvenInCtxIdeal.Facts) (hEvenInCtxRefIdeal : Cert.EvenInCtxRefIdeal.Facts) (hMixOut : Cert.MixOut.Facts) (hMixOutIdeal : Cert.MixOutIdeal.Facts) (hMixOutRefIdeal : Cert.MixOutRefIdeal.Facts) (hMixOutCtx : Cert.MixOutCtx.Facts) (hMixOutCtxIdeal : Cert.MixOutCtxIdeal.Facts) (hMixOutCtxRefIdeal : Cert.MixOutCtxRefIdeal.Facts) (hOddIn : Cert.OddIn.Facts) (hOddInIdeal : Cert.OddInIdeal.Facts) (hOddInRefIdeal : Cert.OddInRefIdeal.Facts) (hOddKeys : Cert.OddKeys.Facts) (hOddKeysIdeal : Cert.OddKeysIdeal.Facts) (hOddKeysRefIdeal : Cert.OddKeysRefIdeal.Facts) (hMix : Cert.Mix.Facts) (hMixIdeal : Cert.MixIdeal.Facts) (hMixRefIdeal : Cert.MixRefIdeal.Facts) (hRouteAll : Cert.RouteAll.Facts) (hRouteAllIdeal : Cert.RouteAllIdeal.Facts) (hRouteAllRefIdeal : Cert.RouteAllRefIdeal.Facts) (hPre_finite : Cert.Pre_finite.Facts) (hPre_finite_all : Cert.Pre_finite_all.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_EvenInCtx (hEvenInCtx := hEvenInCtx)
    ∧ quiescent_EvenInCtxIdeal (hEvenInCtxIdeal := hEvenInCtxIdeal)
    ∧ quiescent_EvenInCtxRefIdeal (hEvenInCtxRefIdeal := hEvenInCtxRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutCtx (hMixOutCtx := hMixOutCtx)
    ∧ quiescent_MixOutCtxIdeal (hMixOutCtxIdeal := hMixOutCtxIdeal)
    ∧ quiescent_MixOutCtxRefIdeal (hMixOutCtxRefIdeal := hMixOutCtxRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OddKeys (hOddKeys := hOddKeys)
    ∧ quiescent_OddKeysIdeal (hOddKeysIdeal := hOddKeysIdeal)
    ∧ quiescent_OddKeysRefIdeal (hOddKeysRefIdeal := hOddKeysRefIdeal)
    ∧ quiescent_Mix (hMix := hMix)
    ∧ quiescent_MixIdeal (hMixIdeal := hMixIdeal)
    ∧ quiescent_MixRefIdeal (hMixRefIdeal := hMixRefIdeal)
    ∧ quiescent_RouteAll (hRouteAll := hRouteAll)
    ∧ quiescent_RouteAllIdeal (hRouteAllIdeal := hRouteAllIdeal)
    ∧ quiescent_RouteAllIdeal_pre_finite_all (hRouteAllIdeal := hRouteAllIdeal) (hPre_finite_all := hPre_finite_all)
    ∧ quiescent_RouteAllRefIdeal (hRouteAllRefIdeal := hRouteAllRefIdeal)
    ∧ quiescent_RouteAllRefIdeal_pre_finite_all (hRouteAllRefIdeal := hRouteAllRefIdeal) (hPre_finite_all := hPre_finite_all)
    ∧ preserves_Kernel_KernelIdeal
    ∧ algebraic_KernelIdeal_ReferenceIdeal_pre_finite (hKernelIdeal := hKernelIdeal) (hReferenceIdeal := hReferenceIdeal) (hPre_finite := hPre_finite)
    ∧ preserves_EvenIn_EvenInIdeal
    ∧ algebraic_EvenInIdeal_EvenInRefIdeal (hEvenInIdeal := hEvenInIdeal) (hEvenInRefIdeal := hEvenInRefIdeal)
    ∧ preserves_EvenInCtx_EvenInCtxIdeal
    ∧ algebraic_EvenInCtxIdeal_EvenInCtxRefIdeal (hEvenInCtxIdeal := hEvenInCtxIdeal) (hEvenInCtxRefIdeal := hEvenInCtxRefIdeal)
    ∧ preserves_MixOut_MixOutIdeal
    ∧ algebraic_MixOutIdeal_MixOutRefIdeal (hMixOutIdeal := hMixOutIdeal) (hMixOutRefIdeal := hMixOutRefIdeal)
    ∧ preserves_MixOutCtx_MixOutCtxIdeal
    ∧ algebraic_MixOutCtxIdeal_MixOutCtxRefIdeal (hMixOutCtxIdeal := hMixOutCtxIdeal) (hMixOutCtxRefIdeal := hMixOutCtxRefIdeal)
    ∧ preserves_OddIn_OddInIdeal
    ∧ algebraic_OddInIdeal_OddInRefIdeal (hOddInIdeal := hOddInIdeal) (hOddInRefIdeal := hOddInRefIdeal)
    ∧ preserves_OddKeys_OddKeysIdeal
    ∧ algebraic_OddKeysIdeal_OddKeysRefIdeal (hOddKeysIdeal := hOddKeysIdeal) (hOddKeysRefIdeal := hOddKeysRefIdeal)
    ∧ preserves_Mix_MixIdeal
    ∧ algebraic_MixIdeal_MixRefIdeal (hMixIdeal := hMixIdeal) (hMixRefIdeal := hMixRefIdeal)
    ∧ preserves_RouteAll_RouteAllIdeal
    ∧ algebraic_RouteAllIdeal_RouteAllRefIdeal_pre_finite_all (hRouteAllIdeal := hRouteAllIdeal) (hRouteAllRefIdeal := hRouteAllRefIdeal) (hPre_finite_all := hPre_finite_all)
-- ==== Pre_finite.lean ====
abbrev S32768x1024 : Shape := ⟨2, ![32768, 1024]⟩
abbrev S1024x2048 : Shape := ⟨2, ![1024, 2048]⟩
abbrev S2048 : Shape := ⟨1, ![2048]⟩
abbrev S8x2x128x128 : Shape := ⟨4, ![8, 2, 128, 128]⟩
abbrev S_ : Shape := ⟨0, ![]⟩

class Facts : Prop where
  bcast_S_S32768x1024 : S_.BroadcastsInDim S32768x1024 (![] : Fin 0 → Fin S32768x1024.rank)
  bcast_S_S1024x2048 : S_.BroadcastsInDim S1024x2048 (![] : Fin 0 → Fin S1024x2048.rank)
  bcast_S_S2048 : S_.BroadcastsInDim S2048 (![] : Fin 0 → Fin S2048.rank)
  bcast_S_S8x2x128x128 : S_.BroadcastsInDim S8x2x128x128 (![] : Fin 0 → Fin S8x2x128x128.rank)

variable [Facts]

def fn {F : FTy → Type} [FloatOps F] (main_arg0 : FVec F S32768x1024 .f32) (main_arg1 : FVec F S1024x2048 .f32) (main_arg2 : FVec F S2048 .f32) (main_arg3 : FVec F S8x2x128x128 .f32) : IVec S32768x1024 1 × IVec S1024x2048 1 × IVec S2048 1 × IVec S8x2x128x128 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S1024x2048 .f32 := Host.absf main_arg1
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S8x2x128x128 .f32 := Host.absf main_arg3
  let main_cst_2 : FVec F S_ .f32 := constant S_ .f32 0x7F800000#32
  let main_v10 : FVec F S8x2x128x128 .f32 := broadcastInDim S8x2x128x128 ![] bcast_S_S8x2x128x128 main_cst_2
  let main_v11 : IVec S8x2x128x128 1 := cmpf .olt main_v9 main_v10
  (main_v2, main_v5, main_v8, main_v11)
-- ==== Pre_finite_all.lean ====
abbrev S36864x1024 : Shape := ⟨2, ![36864, 1024]⟩
abbrev S1024x2048 : Shape := ⟨2, ![1024, 2048]⟩
abbrev S2048 : Shape := ⟨1, ![2048]⟩
abbrev S8x2x128x128 : Shape := ⟨4, ![8, 2, 128, 128]⟩
abbrev S_ : Shape := ⟨0, ![]⟩

class Facts : Prop where
  bcast_S_S36864x1024 : S_.BroadcastsInDim S36864x1024 (![] : Fin 0 → Fin S36864x1024.rank)
  bcast_S_S1024x2048 : S_.BroadcastsInDim S1024x2048 (![] : Fin 0 → Fin S1024x2048.rank)
  bcast_S_S2048 : S_.BroadcastsInDim S2048 (![] : Fin 0 → Fin S2048.rank)
  bcast_S_S8x2x128x128 : S_.BroadcastsInDim S8x2x128x128 (![] : Fin 0 → Fin S8x2x128x128.rank)

variable [Facts]

def fn {F : FTy → Type} [FloatOps F] (main_arg0 : FVec F S36864x1024 .f32) (main_arg1 : FVec F S1024x2048 .f32) (main_arg2 : FVec F S2048 .f32) (main_arg3 : FVec F S8x2x128x128 .f32) : IVec S36864x1024 1 × IVec S1024x2048 1 × IVec S2048 1 × IVec S8x2x128x128 1 :=
  let main_v0 : FVec F S36864x1024 .f32 := Host.absf main_arg0
  let main_cst : FVec F S_ .f32 := constant S_ .f32 0x7F800000#32
  let main_v1 : FVec F S36864x1024 .f32 := broadcastInDim S36864x1024 ![] bcast_S_S36864x1024 main_cst
  let main_v2 : IVec S36864x1024 1 := cmpf .olt main_v0 main_v1
  let main_v3 : FVec F S1024x2048 .f32 := Host.absf main_arg1
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S8x2x128x128 .f32 := Host.absf main_arg3
  let main_cst_2 : FVec F S_ .f32 := constant S_ .f32 0x7F800000#32
  let main_v10 : FVec F S8x2x128x128 .f32 := broadcastInDim S8x2x128x128 ![] bcast_S_S8x2x128x128 main_cst_2
  let main_v11 : IVec S8x2x128x128 1 := cmpf .olt main_v9 main_v10
  (main_v2, main_v5, main_v8, main_v11)
-- ==== Kernel.lean ====
abbrev S32768x1024 : Shape := ⟨2, ![32768, 1024]⟩
abbrev S1024x2048 : Shape := ⟨2, ![1024, 2048]⟩
abbrev S2048 : Shape := ⟨1, ![2048]⟩
abbrev S8x2x128x128 : Shape := ⟨4, ![8, 2, 128, 128]⟩
abbrev S1024x8x256 : Shape := ⟨3, ![1024, 8, 256]⟩
abbrev S8x1024x256 : Shape := ⟨3, ![8, 1024, 256]⟩
abbrev S8x1x256 : Shape := ⟨3, ![8, 1, 256]⟩
abbrev S8x16x32768 : Shape := ⟨3, ![8, 16, 32768]⟩
abbrev S256x1024 : Shape := ⟨2, ![256, 1024]⟩
abbrev S8x16x256 : Shape := ⟨3, ![8, 16, 256]⟩
abbrev S1x1024x256 : Shape := ⟨3, ![1, 1024, 256]⟩
abbrev S1024x256 : Shape := ⟨2, ![1024, 256]⟩
abbrev S256x256 : Shape := ⟨2, ![256, 256]⟩
abbrev S1x1x256 : Shape := ⟨3, ![1, 1, 256]⟩
abbrev S1x256 : Shape := ⟨2, ![1, 256]⟩
abbrev S256x128 : Shape := ⟨2, ![256, 128]⟩
abbrev S1x1x128x128 : Shape := ⟨4, ![1, 1, 128, 128]⟩
abbrev S128x128 : Shape := ⟨2, ![128, 128]⟩
abbrev S128x256 : Shape := ⟨2, ![128, 256]⟩
abbrev S16x256 : Shape := ⟨2, ![16, 256]⟩
abbrev S256 : Shape := ⟨1, ![256]⟩
abbrev S8x256 : Shape := ⟨2, ![8, 256]⟩
abbrev S80x256 : Shape := ⟨2, ![80, 256]⟩
abbrev S1x16x256 : Shape := ⟨3, ![1, 16, 256]⟩

abbrev nBuf : Space → Nat
  | .hbm => 11
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x2048, .f32⟩
  | .hbm, ⟨2, _⟩ => ⟨S2048, .f32⟩
  | .hbm, ⟨3, _⟩ => ⟨S8x2x128x128, .f32⟩
  | .hbm, ⟨4, _⟩ => ⟨S1024x8x256, .f32⟩
  | .hbm, ⟨5, _⟩ => ⟨S8x1024x256, .f32⟩
  | .hbm, ⟨6, _⟩ => ⟨S8x1024x256, .bf16⟩
  | .hbm, ⟨7, _⟩ => ⟨S8x1x256, .f32⟩
  | .hbm, ⟨8, _⟩ => ⟨S8x2x128x128, .bf16⟩
  | .hbm, ⟨9, _⟩ => ⟨S8x16x32768, .i32⟩
  | .hbm, ⟨10, _⟩ => ⟨S8x16x32768, .f32⟩
  | .local _ .vmem, ⟨0, _⟩ => ⟨S256x1024, .f32⟩
  | .local _ .vmem, ⟨1, _⟩ => ⟨S256x1024, .f32⟩
  | .local _ .vmem, ⟨2, _⟩ => ⟨S8x1024x256, .bf16⟩
  | .local _ .vmem, ⟨3, _⟩ => ⟨S8x1x256, .f32⟩
  | .local _ .vmem, ⟨4, _⟩ => ⟨S8x2x128x128, .bf16⟩
  | .local _ .vmem, ⟨5, _⟩ => ⟨S8x16x256, .i32⟩
  | .local _ .vmem, ⟨6, _⟩ => ⟨S8x16x256, .i32⟩
  | .local _ .vmem, ⟨7, _⟩ => ⟨S8x16x256, .f32⟩
  | .local _ .vmem, ⟨8, _⟩ => ⟨S8x16x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v3 : Index := Scalar.indexCast arg7
  let c0_2 : Index := 0#32
  let c0_3 : Index := 0#32
  ![v3.toNat, 0, 0]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let v7 : Index := Scalar.indexCast arg7
  let c0_4 : Index := 0#32
  let c0_5 : Index := 0#32
  ![v7.toNat, 0, 0]
def k0_off3 (k0_t1 : Fin k0_t1_loop.trips) : Fin 4 → Nat :=
  let c0_i32 : BitVec 32 := 0#32
  let c1_i32 : BitVec 32 := 1#32
  let arg7 : BitVec 32 := Scf.iv c0_i32 c1_i32 k0_t1
  let v14 : Index := Scalar.indexCast arg7
  let c0_6 : Index := 0#32
  let c0_7 : Index := 0#32
  let c0_8 : Index := 0#32
  ![v14.toNat, 0, 0, 0]
def k0_off4 (k0_t1 : Fin k0_t1_loop.trips) : Fin 4 → Nat :=
  let c0_i32 : BitVec 32 := 0#32
  let c1_i32 : BitVec 32 := 1#32
  let arg7 : BitVec 32 := Scf.iv c0_i32 c1_i32 k0_t1
  let v372 : Index := Scalar.indexCast arg7
  let c1 : Index := 1#32
  let c0_93 : Index := 0#32
  let c0_94 : Index := 0#32
  ![v372.toNat, 1, 0, 0]
def k0_off5 (k0_t1 : Fin k0_t1_loop.trips) : Fin 3 → Nat :=
  let c0_i32 : BitVec 32 := 0#32
  let c1_i32 : BitVec 32 := 1#32
  let arg7 : BitVec 32 := Scf.iv c0_i32 c1_i32 k0_t1
  let v1369 : Index := Scalar.indexCast arg7
  let c0_346 : Index := 0#32
  let c0_347 : Index := 0#32
  ![v1369.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x16x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S32768x1024 : Shape := ⟨2, ![32768, 1024]⟩
abbrev S1024x2048 : Shape := ⟨2, ![1024, 2048]⟩
abbrev S2048 : Shape := ⟨1, ![2048]⟩
abbrev S8x2x128x128 : Shape := ⟨4, ![8, 2, 128, 128]⟩
abbrev S1024x8x256 : Shape := ⟨3, ![1024, 8, 256]⟩
abbrev S8x1024x256 : Shape := ⟨3, ![8, 1024, 256]⟩
abbrev S8x1x256 : Shape := ⟨3, ![8, 1, 256]⟩
abbrev S8x16x32768 : Shape := ⟨3, ![8, 16, 32768]⟩
abbrev S256x1024 : Shape := ⟨2, ![256, 1024]⟩
abbrev S8x16x256 : Shape := ⟨3, ![8, 16, 256]⟩
abbrev S1x1024x256 : Shape := ⟨3, ![1, 1024, 256]⟩
abbrev S1024x256 : Shape := ⟨2, ![1024, 256]⟩
abbrev S256x256 : Shape := ⟨2, ![256, 256]⟩
abbrev S1x1x256 : Shape := ⟨3, ![1, 1, 256]⟩
abbrev S1x256 : Shape := ⟨2, ![1, 256]⟩
abbrev S256x128 : Shape := ⟨2, ![256, 128]⟩
abbrev S1x1x128x128 : Shape := ⟨4, ![1, 1, 128, 128]⟩
abbrev S128x128 : Shape := ⟨2, ![128, 128]⟩
abbrev S128x256 : Shape := ⟨2, ![128, 256]⟩
abbrev S16x256 : Shape := ⟨2, ![16, 256]⟩
abbrev S256 : Shape := ⟨1, ![256]⟩
abbrev S8x256 : Shape := ⟨2, ![8, 256]⟩
abbrev S80x256 : Shape := ⟨2, ![80, 256]⟩
abbrev S1x16x256 : Shape := ⟨3, ![1, 16, 256]⟩

abbrev nBuf : Space → Nat
  | .hbm => 11
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x2048, .f32⟩
  | .hbm, ⟨2, _⟩ => ⟨S2048, .f32⟩
  | .hbm, ⟨3, _⟩ => ⟨S8x2x128x128, .f32⟩
  | .hbm, ⟨4, _⟩ => ⟨S1024x8x256, .f32⟩
  | .hbm, ⟨5, _⟩ => ⟨S8x1024x256, .f32⟩
  | .hbm, ⟨6, _⟩ => ⟨S8x1024x256, .bf16⟩
  | .hbm, ⟨7, _⟩ => ⟨S8x1x256, .f32⟩
  | .hbm, ⟨8, _⟩ => ⟨S8x2x128x128, .bf16⟩
  | .hbm, ⟨9, _⟩ => ⟨S8x16x32768, .i32⟩
  | .hbm, ⟨10, _⟩ => ⟨S8x16x32768, .f32⟩
  | .local _ .vmem, ⟨0, _⟩ => ⟨S256x1024, .f32⟩
  | .local _ .vmem, ⟨1, _⟩ => ⟨S256x1024, .f32⟩
  | .local _ .vmem, ⟨2, _⟩ => ⟨S8x1024x256, .bf16⟩
  | .local _ .vmem, ⟨3, _⟩ => ⟨S8x1x256, .f32⟩
  | .local _ .vmem, ⟨4, _⟩ => ⟨S8x2x128x128, .bf16⟩
  | .local _ .vmem, ⟨5, _⟩ => ⟨S8x16x256, .i32⟩
  | .local _ .vmem, ⟨6, _⟩ => ⟨S8x16x256, .i32⟩
  | .local _ .vmem, ⟨7, _⟩ => ⟨S8x16x256, .f32⟩
  | .local _ .vmem, ⟨8, _⟩ => ⟨S8x16x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v3 : Index := Scalar.indexCast arg7
  let c0_2 : Index := 0#32
  let c0_3 : Index := 0#32
  ![v3.toNat, 0, 0]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let v7 : Index := Scalar.indexCast arg7
  let c0_4 : Index := 0#32
  let c0_5 : Index := 0#32
  ![v7.toNat, 0, 0]
def k0_off3 (k0_t1 : Fin k0_t1_loop.trips) : Fin 4 → Nat :=
  let c0_i32 : BitVec 32 := 0#32
  let c1_i32 : BitVec 32 := 1#32
  let arg7 : BitVec 32 := Scf.iv c0_i32 c1_i32 k0_t1
  let v14 : Index := Scalar.indexCast arg7
  let c0_6 : Index := 0#32
  let c0_7 : Index := 0#32
  let c0_8 : Index := 0#32
  ![v14.toNat, 0, 0, 0]
def k0_off4 (k0_t1 : Fin k0_t1_loop.trips) : Fin 4 → Nat :=
  let c0_i32 : BitVec 32 := 0#32
  let c1_i32 : BitVec 32 := 1#32
  let arg7 : BitVec 32 := Scf.iv c0_i32 c1_i32 k0_t1
  let v372 : Index := Scalar.indexCast arg7
  let c1 : Index := 1#32
  let c0_93 : Index := 0#32
  let c0_94 : Index := 0#32
  ![v372.toNat, 1, 0, 0]
def k0_off5 (k0_t1 : Fin k0_t1_loop.trips) : Fin 3 → Nat :=
  let c0_i32 : BitVec 32 := 0#32
  let c1_i32 : BitVec 32 := 1#32
  let arg7 : BitVec 32 := Scf.iv c0_i32 c1_i32 k0_t1
  let v1369 : Index := Scalar.indexCast arg7
  let c0_346 : Index := 0#32
  let c0_347 : Index := 0#32
  ![v1369.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x16x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32768x1024 : Shape := ⟨2, ![32768, 1024]⟩
abbrev S1024x2048 : Shape := ⟨2, ![1024, 2048]⟩
abbrev S2048 : Shape := ⟨1, ![2048]⟩
abbrev S8x2x128x128 : Shape := ⟨4, ![8, 2, 128, 128]⟩
abbrev S32768x2048 : Shape := ⟨2, ![32768, 2048]⟩
abbrev S1x2048 : Shape := ⟨2, ![1, 2048]⟩
abbrev S32768x8x2x128 : Shape := ⟨4, ![32768, 8, 2, 128]⟩
abbrev S8x2x128x32768 : Shape := ⟨4, ![8, 2, 128, 32768]⟩
abbrev S32768x8x2x16 : Shape := ⟨4, ![32768, 8, 2, 16]⟩
abbrev S32768x8x1x16 : Shape := ⟨4, ![32768, 8, 1, 16]⟩
abbrev S32768x8x16 : Shape := ⟨3, ![32768, 8, 16]⟩
abbrev S32768x8x16x1 : Shape := ⟨4, ![32768, 8, 16, 1]⟩
abbrev S32768x8x16x16 : Shape := ⟨4, ![32768, 8, 16, 16]⟩
abbrev S32768x8x256 : Shape := ⟨3, ![32768, 8, 256]⟩
abbrev S_ : Shape := ⟨0, ![]⟩
abbrev S1 : Shape := ⟨1, ![1]⟩
abbrev S1x1x1x1 : Shape := ⟨4, ![1, 1, 1, 1]⟩
abbrev S32768x8 : Shape := ⟨2, ![32768, 8]⟩
abbrev S32768x8x1 : Shape := ⟨3, ![32768, 8, 1]⟩
abbrev S8x16x32768 : Shape := ⟨3, ![8, 16, 32768]⟩

abbrev nBuf : Space → Nat
  | .hbm => 76
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2048, .f32⟩
  | .hbm, ⟨2, _⟩ => ⟨S2048, .f32⟩
  | .hbm, ⟨3, _⟩ => ⟨S8x2x128x128, .f32⟩
  | .hbm, ⟨4, _⟩ => ⟨S32768x2048, .f32⟩
  | .hbm, ⟨5, _⟩ => ⟨S1x2048, .f32⟩
  | .hbm, ⟨6, _⟩ => ⟨S32768x2048, .f32⟩
  | .hbm, ⟨7, _⟩ => ⟨S32768x2048, .f32⟩
  | .hbm, ⟨8, _⟩ => ⟨S32768x8x2x128, .f32⟩
  | .hbm, ⟨9, _⟩ => ⟨S8x2x128x32768, .f32⟩
  | .hbm, ⟨10, _⟩ => ⟨S32768x8x2x128, .f32⟩
  | .hbm, ⟨11, _⟩ => ⟨S32768x8x2x16, .f32⟩
  | .hbm, ⟨12, _⟩ => ⟨S32768x8x2x16, .i32⟩
  | .hbm, ⟨13, _⟩ => ⟨S32768x8x1x16, .f32⟩
  | .hbm, ⟨14, _⟩ => ⟨S32768x8x16, .f32⟩
  | .hbm, ⟨15, _⟩ => ⟨S32768x8x16x1, .f32⟩
  | .hbm, ⟨16, _⟩ => ⟨S32768x8x1x16, .f32⟩
  | .hbm, ⟨17, _⟩ => ⟨S32768x8x16, .f32⟩
  | .hbm, ⟨18, _⟩ => ⟨S32768x8x1x16, .f32⟩
  | .hbm, ⟨19, _⟩ => ⟨S32768x8x16x16, .f32⟩
  | .hbm, ⟨20, _⟩ => ⟨S32768x8x16x16, .f32⟩
  | .hbm, ⟨21, _⟩ => ⟨S32768x8x16x16, .f32⟩
  | .hbm, ⟨22, _⟩ => ⟨S32768x8x256, .f32⟩
  | .hbm, ⟨23, _⟩ => ⟨S32768x8x1x16, .i32⟩
  | .hbm, ⟨24, _⟩ => ⟨S32768x8x16, .i32⟩
  | .hbm, ⟨25, _⟩ => ⟨S32768x8x16x1, .i32⟩
  | .hbm, ⟨26, _⟩ => ⟨S_, .i32⟩
  | .hbm, ⟨27, _⟩ => ⟨S32768x8x16x1, .i32⟩
  | .hbm, ⟨28, _⟩ => ⟨S32768x8x16x1, .i32⟩
  | .hbm, ⟨29, _⟩ => ⟨S32768x8x1x16, .i32⟩
  | .hbm, ⟨30, _⟩ => ⟨S32768x8x16, .i32⟩
  | .hbm, ⟨31, _⟩ => ⟨S32768x8x1x16, .i32⟩
  | .hbm, ⟨32, _⟩ => ⟨S32768x8x16x16, .i32⟩
  | .hbm, ⟨33, _⟩ => ⟨S32768x8x16x16, .i32⟩
  | .hbm, ⟨34, _⟩ => ⟨S32768x8x16x16, .i32⟩
  | .hbm, ⟨35, _⟩ => ⟨S32768x8x256, .i32⟩
  | .hbm, ⟨36, _⟩ => ⟨S32768x8x16, .f32⟩
  | .hbm, ⟨37, _⟩ => ⟨S32768x8x16, .i32⟩
  | .hbm, ⟨38, _⟩ => ⟨S_, .i32⟩
  | .hbm, ⟨39, _⟩ => ⟨S32768x8x16, .i32⟩
  | .hbm, ⟨40, _⟩ => ⟨S32768x8x16, .i1⟩
  | .hbm, ⟨41, _⟩ => ⟨S_, .i32⟩
  | .hbm, ⟨42, _⟩ => ⟨S32768x8x16, .i32⟩
  | .hbm, ⟨43, _⟩ => ⟨S32768x8x16, .i32⟩
  | .hbm, ⟨44, _⟩ => ⟨S32768x8x16, .i32⟩
  | .hbm, ⟨45, _⟩ => ⟨S32768x8x16x1, .i32⟩
  | .hbm, ⟨46, _⟩ => ⟨S1, .i32⟩
  | .hbm, ⟨47, _⟩ => ⟨S_, .i32⟩
  | .hbm, ⟨48, _⟩ => ⟨S32768x8x16x1, .i32⟩
  | .hbm, ⟨49, _⟩ => ⟨S32768x8x16x1, .i1⟩
  | .hbm, ⟨50, _⟩ => ⟨S1x1x1x1, .i32⟩
  | .hbm, ⟨51, _⟩ => ⟨S32768x8x16x1, .i32⟩
  | .hbm, ⟨52, _⟩ => ⟨S32768x8x16x1, .i1⟩
  | .hbm, ⟨53, _⟩ => ⟨S32768x8x16x1, .i1⟩
  | .hbm, ⟨54, _⟩ => ⟨S_, .i1⟩
  | .hbm, ⟨55, _⟩ => ⟨S32768x8x16, .i1⟩
  | .hbm, ⟨56, _⟩ => ⟨S32768x8x16, .i32⟩
  | .hbm, ⟨57, _⟩ => ⟨S_, .i32⟩
  | .hbm, ⟨58, _⟩ => ⟨S32768x8x16, .i32⟩
  | .hbm, ⟨59, _⟩ => ⟨S32768x8x16, .i32⟩
  | .hbm, ⟨60, _⟩ => ⟨S_, .f32⟩
  | .hbm, ⟨61, _⟩ => ⟨S32768x8, .f32⟩
  | .hbm, ⟨62, _⟩ => ⟨S_, .f32⟩
  | .hbm, ⟨63, _⟩ => ⟨S32768x8, .f32⟩
  | .hbm, ⟨64, _⟩ => ⟨S32768x8, .f32⟩
  | .hbm, ⟨65, _⟩ => ⟨S32768x8x1, .f32⟩
  | .hbm, ⟨66, _⟩ => ⟨S32768x8x16, .f32⟩
  | .hbm, ⟨67, _⟩ => ⟨S32768x8x16, .f32⟩
  | .hbm, ⟨68, _⟩ => ⟨S32768x8x16, .f32⟩
  | .hbm, ⟨69, _⟩ => ⟨S_, .f32⟩
  | .hbm, ⟨70, _⟩ => ⟨S32768x8, .f32⟩
  | .hbm, ⟨71, _⟩ => ⟨S32768x8x1, .f32⟩
  | .hbm, ⟨72, _⟩ => ⟨S32768x8x16, .f32⟩
  | .hbm, ⟨73, _⟩ => ⟨S32768x8x16, .f32⟩
  | .hbm, ⟨74, _⟩ => ⟨S8x16x32768, .i32⟩
  | .hbm, ⟨75, _⟩ => ⟨S8x16x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_values : Ref sig .tc := ⟨.hbm, 11, rfl⟩
abbrev main_indices : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_values_0 : Ref sig .tc := ⟨.hbm, 36, rfl⟩
abbrev main_indices_1 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_c_1 : Ref sig .tc := ⟨.hbm, 46, rfl⟩
abbrev main_call0_c_2 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_3 : Ref sig .tc := ⟨.hbm, 54, rfl⟩
abbrev main_call0_v12 : Ref sig .tc := ⟨.hbm, 55, rfl⟩
abbrev main_call0_v13 : Ref sig .tc := ⟨.hbm, 56, rfl⟩
abbrev main_call0_c_4 : Ref sig .tc := ⟨.hbm, 57, rfl⟩
abbrev main_call0_v14 : Ref sig .tc := ⟨.hbm, 58, rfl⟩
abbrev main_v29 : Ref sig .tc := ⟨.hbm, 59, rfl⟩
abbrev main_cst : Ref sig .tc := ⟨.hbm, 60, rfl⟩
abbrev main_v30 : Ref sig .tc := ⟨.hbm, 61, rfl⟩
abbrev main_cst_2 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_3 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩

abbrev nD : Nat := 1
abbrev τ : Topo := Topo.v7x

variable {F : FTy → Type} [FloatOps F]
-- ==== EvenIn.lean ====
abbrev S16x2048x1024 : Shape := ⟨3, ![16, 2048, 1024]⟩
abbrev S1024x3584 : Shape := ⟨2, ![1024, 3584]⟩
abbrev S32768x1024 : Shape := ⟨2, ![32768, 1024]⟩
abbrev S32768x3584 : Shape := ⟨2, ![32768, 3584]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S1024x3584, .f32⟩
  | .hbm, ⟨2, _⟩ => ⟨S32768x1024, .f32⟩
  | .hbm, ⟨3, _⟩ => ⟨S32768x3584, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInIdeal.lean ====
abbrev S16x2048x1024 : Shape := ⟨3, ![16, 2048, 1024]⟩
abbrev S1024x3584 : Shape := ⟨2, ![1024, 3584]⟩
abbrev S32768x1024 : Shape := ⟨2, ![32768, 1024]⟩
abbrev S32768x3584 : Shape := ⟨2, ![32768, 3584]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S1024x3584, .f32⟩
  | .hbm, ⟨2, _⟩ => ⟨S32768x1024, .f32⟩
  | .hbm, ⟨3, _⟩ => ⟨S32768x3584, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInRefIdeal.lean ====
abbrev S16x2048x1024 : Shape := ⟨3, ![16, 2048, 1024]⟩
abbrev S1024x3584 : Shape := ⟨2, ![1024, 3584]⟩
abbrev S16x2048x3584 : Shape := ⟨3, ![16, 2048, 3584]⟩
abbrev S32768x3584 : Shape := ⟨2, ![32768, 3584]⟩

abbrev nBuf : Space → Nat
  | .hbm => 4
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x3584, .f32⟩
  | .hbm, ⟨2, _⟩ => ⟨S16x2048x3584, .f32⟩
  | .hbm, ⟨3, _⟩ => ⟨S32768x3584, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== EvenInCtx.lean ====
abbrev S16x256x1024 : Shape := ⟨3, ![16, 256, 1024]⟩
abbrev S1024x3584 : Shape := ⟨2, ![1024, 3584]⟩
abbrev S4096x1024 : Shape := ⟨2, ![4096, 1024]⟩
abbrev S4096x3584 : Shape := ⟨2, ![4096, 3584]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16x256x1024, .f32⟩
  | .hbm, ⟨1, _⟩ => ⟨S1024x3584, .f32⟩
  | .hbm, ⟨2, _⟩ => ⟨S4096x1024, .f32⟩
  | .hbm, ⟨3, _⟩ => ⟨S4096x3584, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInCtxIdeal.lean ====
abbrev S16x256x1024 : Shape := ⟨3, ![16, 256, 1024]⟩
abbrev S1024x3584 : Shape := ⟨2, ![1024, 3584]⟩
abbrev S4096x1024 : Shape := ⟨2, ![4096, 1024]⟩
abbrev S4096x3584 : Shape := ⟨2, ![4096, 3584]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16x256x1024, .f32⟩
  | .hbm, ⟨1, _⟩ => ⟨S1024x3584, .f32⟩
  | .hbm, ⟨2, _⟩ => ⟨S4096x1024, .f32⟩
  | .hbm, ⟨3, _⟩ => ⟨S4096x3584, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInCtxRefIdeal.lean ====
abbrev S16x256x1024 : Shape := ⟨3, ![16, 256, 1024]⟩
abbrev S1024x3584 : Shape := ⟨2, ![1024, 3584]⟩
abbrev S16x256x3584 : Shape := ⟨3, ![16, 256, 3584]⟩
abbrev S4096x3584 : Shape := ⟨2, ![4096, 3584]⟩

abbrev nBuf : Space → Nat
  | .hbm => 4
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024x3584, .f32⟩
  | .hbm, ⟨2, _⟩ => ⟨S16x256x3584, .f32⟩
  | .hbm, ⟨3, _⟩ => ⟨S4096x3584, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixOut.lean ====
abbrev S16x2048x1024 : Shape := ⟨3, ![16, 2048, 1024]⟩
abbrev S1024x1024 : Shape := ⟨2, ![1024, 1024]⟩
abbrev S32768x1024 : Shape := ⟨2, ![32768, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S32768x1024, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixOutIdeal.lean ====
abbrev S16x2048x1024 : Shape := ⟨3, ![16, 2048, 1024]⟩
abbrev S1024x1024 : Shape := ⟨2, ![1024, 1024]⟩
abbrev S32768x1024 : Shape := ⟨2, ![32768, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S32768x1024, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixOutRefIdeal.lean ====
abbrev S16x2048x1024 : Shape := ⟨3, ![16, 2048, 1024]⟩
abbrev S1024x1024 : Shape := ⟨2, ![1024, 1024]⟩
abbrev S32768x1024 : Shape := ⟨2, ![32768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S16x2048x1024, .f32⟩
  | .hbm, ⟨3, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixOutCtx.lean ====
abbrev S16x256x1024 : Shape := ⟨3, ![16, 256, 1024]⟩
abbrev S1024x1024 : Shape := ⟨2, ![1024, 1024]⟩
abbrev S4096x1024 : Shape := ⟨2, ![4096, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16x256x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixOutCtxIdeal.lean ====
abbrev S16x256x1024 : Shape := ⟨3, ![16, 256, 1024]⟩
abbrev S1024x1024 : Shape := ⟨2, ![1024, 1024]⟩
abbrev S4096x1024 : Shape := ⟨2, ![4096, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16x256x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixOutCtxRefIdeal.lean ====
abbrev S16x256x1024 : Shape := ⟨3, ![16, 256, 1024]⟩
abbrev S1024x1024 : Shape := ⟨2, ![1024, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024x1024, .f32⟩
  | .hbm, ⟨2, _⟩ => ⟨S16x256x1024, .f32⟩
  | .hbm, ⟨3, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OddIn.lean ====
abbrev S16x2048x1024 : Shape := ⟨3, ![16, 2048, 1024]⟩
abbrev S1024x1536 : Shape := ⟨2, ![1024, 1536]⟩
abbrev S32768x1024 : Shape := ⟨2, ![32768, 1024]⟩
abbrev S32768x1536 : Shape := ⟨2, ![32768, 1536]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S1024x1536, .f32⟩
  | .hbm, ⟨2, _⟩ => ⟨S32768x1024, .f32⟩
  | .hbm, ⟨3, _⟩ => ⟨S32768x1536, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInRefIdeal.lean ====
abbrev S16x2048x1024 : Shape := ⟨3, ![16, 2048, 1024]⟩
abbrev S1024x1536 : Shape := ⟨2, ![1024, 1536]⟩
abbrev S16x2048x1536 : Shape := ⟨3, ![16, 2048, 1536]⟩
abbrev S32768x1536 : Shape := ⟨2, ![32768, 1536]⟩

abbrev nBuf : Space → Nat
  | .hbm => 4
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x1536, .f32⟩
  | .hbm, ⟨2, _⟩ => ⟨S16x2048x1536, .f32⟩
  | .hbm, ⟨3, _⟩ => ⟨S32768x1536, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OddKeys.lean ====
abbrev S16x256x1024 : Shape := ⟨3, ![16, 256, 1024]⟩
abbrev S1024x1536 : Shape := ⟨2, ![1024, 1536]⟩
abbrev S1024x512 : Shape := ⟨2, ![1024, 512]⟩
abbrev S4096x1024 : Shape := ⟨2, ![4096, 1024]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S16x256x1024, .f32⟩
  | .hbm, ⟨1, _⟩ => ⟨S1024x1536, .f32⟩
  | .hbm, ⟨2, _⟩ => ⟨S1024x512, .f32⟩
  | .hbm, ⟨3, _⟩ => ⟨S4096x1024, .f32⟩
  | .hbm, ⟨4, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S512x512, .f32⟩
  | .local _ .vmem, ⟨4, _⟩ => ⟨S512x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddKeysRefIdeal.lean ====
abbrev S16x256x1024 : Shape := ⟨3, ![16, 256, 1024]⟩
abbrev S1024x1536 : Shape := ⟨2, ![1024, 1536]⟩
abbrev S1024x512 : Shape := ⟨2, ![1024, 512]⟩
abbrev S16x256x512 : Shape := ⟨3, ![16, 256, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024x1536, .f32⟩
  | .hbm, ⟨2, _⟩ => ⟨S1024x512, .f32⟩
  | .hbm, ⟨3, _⟩ => ⟨S16x256x512, .f32⟩
  | .hbm, ⟨4, _⟩ => ⟨S4096x512, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mix.lean ====
abbrev S2048x1024 : Shape := ⟨2, ![2048, 1024]⟩
abbrev S2048x128 : Shape := ⟨2, ![2048, 128]⟩
abbrev S262144x8x128 : Shape := ⟨3, ![262144, 8, 128]⟩
abbrev S16384x128 : Shape := ⟨2, ![16384, 128]⟩
abbrev S2048x128x8 : Shape := ⟨3, ![2048, 128, 8]⟩
abbrev S2097152x128 : Shape := ⟨2, ![2097152, 128]⟩
abbrev S128x128 : Shape := ⟨2, ![128, 128]⟩
abbrev S16x1024 : Shape := ⟨2, ![16, 1024]⟩
abbrev S8x1024 : Shape := ⟨2, ![8, 1024]⟩
abbrev S8x128 : Shape := ⟨2, ![8, 128]⟩
abbrev S1024x128 : Shape := ⟨2, ![1024, 128]⟩
abbrev S1024 : Shape := ⟨1, ![1024]⟩
abbrev S1x1024 : Shape := ⟨2, ![1, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x128, .f32⟩
  | .hbm, ⟨2, _⟩ => ⟨S262144x8x128, .i32⟩
  | .hbm, ⟨3, _⟩ => ⟨S16384x128, .f32⟩
  | .hbm, ⟨4, _⟩ => ⟨S2048x128x8, .f32⟩
  | .hbm, ⟨5, _⟩ => ⟨S2048x1024, .f32⟩
  | .hbm, ⟨6, _⟩ => ⟨S2097152x128, .i32⟩
  | .hbm, ⟨7, _⟩ => ⟨S16384x128, .f32⟩
  | .local _ .vmem, ⟨0, _⟩ => ⟨S128x128, .f32⟩
  | .local _ .vmem, ⟨1, _⟩ => ⟨S128x128, .f32⟩
  | .local _ .vmem, ⟨2, _⟩ => ⟨S16x1024, .f32⟩
  | .local _ .vmem, ⟨3, _⟩ => ⟨S16x1024, .f32⟩
  | .local _ .vmem, ⟨4, _⟩ => ⟨S16384x128, .i32⟩
  | .local _ .vmem, ⟨5, _⟩ => ⟨S16384x128, .i32⟩
  | .local _ .vmem, ⟨6, _⟩ => ⟨S128x128, .f32⟩
  | .local _ .vmem, ⟨7, _⟩ => ⟨S128x128, .f32⟩
  | .local _ .vmem, ⟨8, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixRefIdeal.lean ====
abbrev S2048x1024 : Shape := ⟨2, ![2048, 1024]⟩
abbrev S2048x128 : Shape := ⟨2, ![2048, 128]⟩
abbrev S262144x8x128 : Shape := ⟨3, ![262144, 8, 128]⟩
abbrev S2048x128x1024 : Shape := ⟨3, ![2048, 128, 1024]⟩
abbrev S_ : Shape := ⟨0, ![]⟩
abbrev S16384x128 : Shape := ⟨2, ![16384, 128]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x128, .f32⟩
  | .hbm, ⟨2, _⟩ => ⟨S262144x8x128, .i32⟩
  | .hbm, ⟨3, _⟩ => ⟨S2048x128x1024, .i32⟩
  | .hbm, ⟨4, _⟩ => ⟨S_, .i32⟩
  | .hbm, ⟨5, _⟩ => ⟨S2048x128x1024, .i32⟩
  | .hbm, ⟨6, _⟩ => ⟨S2048x128x1024, .i32⟩
  | .hbm, ⟨7, _⟩ => ⟨S2048x128x1024, .f32⟩
  | .hbm, ⟨8, _⟩ => ⟨S_, .i32⟩
  | .hbm, ⟨9, _⟩ => ⟨S2048x128x1024, .i32⟩
  | .hbm, ⟨10, _⟩ => ⟨S2048x128x1024, .i32⟩
  | .hbm, ⟨11, _⟩ => ⟨S2048x128x1024, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S_, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S2048x128, .f32⟩
  | .hbm, ⟨31, _⟩ => ⟨S2048x1024, .f32⟩
  | .hbm, ⟨32, _⟩ => ⟨S16384x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== RouteAll.lean ====
abbrev S36864x1024 : Shape := ⟨2, ![36864, 1024]⟩
abbrev S1024x2048 : Shape := ⟨2, ![1024, 2048]⟩
abbrev S2048 : Shape := ⟨1, ![2048]⟩
abbrev S8x2x128x128 : Shape := ⟨4, ![8, 2, 128, 128]⟩
abbrev S1024x8x256 : Shape := ⟨3, ![1024, 8, 256]⟩
abbrev S8x1024x256 : Shape := ⟨3, ![8, 1024, 256]⟩
abbrev S8x1x256 : Shape := ⟨3, ![8, 1, 256]⟩
abbrev S8x16x36864 : Shape := ⟨3, ![8, 16, 36864]⟩
abbrev S256x1024 : Shape := ⟨2, ![256, 1024]⟩
abbrev S8x16x256 : Shape := ⟨3, ![8, 16, 256]⟩
abbrev S1x1024x256 : Shape := ⟨3, ![1, 1024, 256]⟩
abbrev S1024x256 : Shape := ⟨2, ![1024, 256]⟩
abbrev S256x256 : Shape := ⟨2, ![256, 256]⟩
abbrev S1x1x256 : Shape := ⟨3, ![1, 1, 256]⟩
abbrev S1x256 : Shape := ⟨2, ![1, 256]⟩
abbrev S256x128 : Shape := ⟨2, ![256, 128]⟩
abbrev S1x1x128x128 : Shape := ⟨4, ![1, 1, 128, 128]⟩
abbrev S128x128 : Shape := ⟨2, ![128, 128]⟩
abbrev S128x256 : Shape := ⟨2, ![128, 256]⟩
abbrev S16x256 : Shape := ⟨2, ![16, 256]⟩
abbrev S256 : Shape := ⟨1, ![256]⟩
abbrev S8x256 : Shape := ⟨2, ![8, 256]⟩
abbrev S80x256 : Shape := ⟨2, ![80, 256]⟩
abbrev S1x16x256 : Shape := ⟨3, ![1, 16, 256]⟩

abbrev nBuf : Space → Nat
  | .hbm => 11
  | .vmem => 9
  | .smem => 0
  | _ => 0

abbrev bufTy : (tb : Table) → Fin (tcTables nBuf tb) → BufTy
  | .hbm, ⟨0, _⟩ => ⟨S36864x1024, .f32⟩
  | .hbm, ⟨1, _⟩ => ⟨S1024x2048, .f32⟩
  | .hbm, ⟨2, _⟩ => ⟨S2048, .f32⟩
  | .hbm, ⟨3, _⟩ => ⟨S8x2x128x128, .f32⟩
  | .hbm, ⟨4, _⟩ => ⟨S1024x8x256, .f32⟩
  | .hbm, ⟨5, _⟩ => ⟨S8x1024x256, .f32⟩
  | .hbm, ⟨6, _⟩ => ⟨S8x1024x256, .bf16⟩
  | .hbm, ⟨7, _⟩ => ⟨S8x1x256, .f32⟩
  | .hbm, ⟨8, _⟩ => ⟨S8x2x128x128, .bf16⟩
  | .hbm, ⟨9, _⟩ => ⟨S8x16x36864, .i32⟩
  | .hbm, ⟨10, _⟩ => ⟨S8x16x36864, .f32⟩
  | .local _ .vmem, ⟨0, _⟩ => ⟨S256x1024, .f32⟩
  | .local _ .vmem, ⟨1, _⟩ => ⟨S256x1024, .f32⟩
  | .local _ .vmem, ⟨2, _⟩ => ⟨S8x1024x256, .bf16⟩
  | .local _ .vmem, ⟨3, _⟩ => ⟨S8x1x256, .f32⟩
  | .local _ .vmem, ⟨4, _⟩ => ⟨S8x2x128x128, .bf16⟩
  | .local _ .vmem, ⟨5, _⟩ => ⟨S8x16x256, .i32⟩
  | .local _ .vmem, ⟨6, _⟩ => ⟨S8x16x256, .i32⟩
  | .local _ .vmem, ⟨7, _⟩ => ⟨S8x16x256, .f32⟩
  | .local _ .vmem, ⟨8, _⟩ => ⟨S8x16x256, .f32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![144], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v3 : Index := Scalar.indexCast arg7
  let c0_2 : Index := 0#32
  let c0_3 : Index := 0#32
  ![v3.toNat, 0, 0]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let v7 : Index := Scalar.indexCast arg7
  let c0_4 : Index := 0#32
  let c0_5 : Index := 0#32
  ![v7.toNat, 0, 0]
def k0_off3 (k0_t1 : Fin k0_t1_loop.trips) : Fin 4 → Nat :=
  let c0_i32 : BitVec 32 := 0#32
  let c1_i32 : BitVec 32 := 1#32
  let arg7 : BitVec 32 := Scf.iv c0_i32 c1_i32 k0_t1
  let v14 : Index := Scalar.indexCast arg7
  let c0_6 : Index := 0#32
  let c0_7 : Index := 0#32
  let c0_8 : Index := 0#32
  ![v14.toNat, 0, 0, 0]
def k0_off4 (k0_t1 : Fin k0_t1_loop.trips) : Fin 4 → Nat :=
  let c0_i32 : BitVec 32 := 0#32
  let c1_i32 : BitVec 32 := 1#32
  let arg7 : BitVec 32 := Scf.iv c0_i32 c1_i32 k0_t1
  let v372 : Index := Scalar.indexCast arg7
  let c1 : Index := 1#32
  let c0_93 : Index := 0#32
  let c0_94 : Index := 0#32
  ![v372.toNat, 1, 0, 0]
def k0_off5 (k0_t1 : Fin k0_t1_loop.trips) : Fin 3 → Nat :=
  let c0_i32 : BitVec 32 := 0#32
  let c1_i32 : BitVec 32 := 1#32
  let arg7 : BitVec 32 := Scf.iv c0_i32 c1_i32 k0_t1
  let v1369 : Index := Scalar.indexCast arg7
  let c0_346 : Index := 0#32
  let c0_347 : Index := 0#32
  ![v1369.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x16x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RouteAllRefIdeal.lean ====
abbrev S36864x1024 : Shape := ⟨2, ![36864, 1024]⟩
abbrev S1024x2048 : Shape := ⟨2, ![1024, 2048]⟩
abbrev S2048 : Shape := ⟨1, ![2048]⟩
abbrev S8x2x128x128 : Shape := ⟨4, ![8, 2, 128, 128]⟩
abbrev S36864x2048 : Shape := ⟨2, ![36864, 2048]⟩
abbrev S1x2048 : Shape := ⟨2, ![1, 2048]⟩
abbrev S36864x8x2x128 : Shape := ⟨4, ![36864, 8, 2, 128]⟩
abbrev S8x2x128x36864 : Shape := ⟨4, ![8, 2, 128, 36864]⟩
abbrev S36864x8x2x16 : Shape := ⟨4, ![36864, 8, 2, 16]⟩
abbrev S36864x8x1x16 : Shape := ⟨4, ![36864, 8, 1, 16]⟩
abbrev S36864x8x16 : Shape := ⟨3, ![36864, 8, 16]⟩
abbrev S36864x8x16x1 : Shape := ⟨4, ![36864, 8, 16, 1]⟩
abbrev S36864x8x16x16 : Shape := ⟨4, ![36864, 8, 16, 16]⟩
abbrev S36864x8x256 : Shape := ⟨3, ![36864, 8, 256]⟩
abbrev S_ : Shape := ⟨0, ![]⟩
abbrev S1 : Shape := ⟨1, ![1]⟩
abbrev S1x1x1x1 : Shape := ⟨4, ![1, 1, 1, 1]⟩
abbrev S36864x8 : Shape := ⟨2, ![36864, 8]⟩
abbrev S36864x8x1 : Shape := ⟨3, ![36864, 8, 1]⟩
abbrev S8x16x36864 : Shape := ⟨3, ![8, 16, 36864]⟩

abbrev nBuf : Space → Nat
  | .hbm => 76
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S1024x2048, .f32⟩
  | .hbm, ⟨2, _⟩ => ⟨S2048, .f32⟩
  | .hbm, ⟨3, _⟩ => ⟨S8x2x128x128, .f32⟩
  | .hbm, ⟨4, _⟩ => ⟨S36864x2048, .f32⟩
  | .hbm, ⟨5, _⟩ => ⟨S1x2048, .f32⟩
  | .hbm, ⟨6, _⟩ => ⟨S36864x2048, .f32⟩
  | .hbm, ⟨7, _⟩ => ⟨S36864x2048, .f32⟩
  | .hbm, ⟨8, _⟩ => ⟨S36864x8x2x128, .f32⟩
  | .hbm, ⟨9, _⟩ => ⟨S8x2x128x36864, .f32⟩
  | .hbm, ⟨10, _⟩ => ⟨S36864x8x2x128, .f32⟩
  | .hbm, ⟨11, _⟩ => ⟨S36864x8x2x16, .f32⟩
  | .hbm, ⟨12, _⟩ => ⟨S36864x8x2x16, .i32⟩
  | .hbm, ⟨13, _⟩ => ⟨S36864x8x1x16, .f32⟩
  | .hbm, ⟨14, _⟩ => ⟨S36864x8x16, .f32⟩
  | .hbm, ⟨15, _⟩ => ⟨S36864x8x16x1, .f32⟩
  | .hbm, ⟨16, _⟩ => ⟨S36864x8x1x16, .f32⟩
  | .hbm, ⟨17, _⟩ => ⟨S36864x8x16, .f32⟩
  | .hbm, ⟨18, _⟩ => ⟨S36864x8x1x16, .f32⟩
  | .hbm, ⟨19, _⟩ => ⟨S36864x8x16x16, .f32⟩
  | .hbm, ⟨20, _⟩ => ⟨S36864x8x16x16, .f32⟩
  | .hbm, ⟨21, _⟩ => ⟨S36864x8x16x16, .f32⟩
  | .hbm, ⟨22, _⟩ => ⟨S36864x8x256, .f32⟩
  | .hbm, ⟨23, _⟩ => ⟨S36864x8x1x16, .i32⟩
  | .hbm, ⟨24, _⟩ => ⟨S36864x8x16, .i32⟩
  | .hbm, ⟨25, _⟩ => ⟨S36864x8x16x1, .i32⟩
  | .hbm, ⟨26, _⟩ => ⟨S_, .i32⟩
  | .hbm, ⟨27, _⟩ => ⟨S36864x8x16x1, .i32⟩
  | .hbm, ⟨28, _⟩ => ⟨S36864x8x16x1, .i32⟩
  | .hbm, ⟨29, _⟩ => ⟨S36864x8x1x16, .i32⟩
  | .hbm, ⟨30, _⟩ => ⟨S36864x8x16, .i32⟩
  | .hbm, ⟨31, _⟩ => ⟨S36864x8x1x16, .i32⟩
  | .hbm, ⟨32, _⟩ => ⟨S36864x8x16x16, .i32⟩
  | .hbm, ⟨33, _⟩ => ⟨S36864x8x16x16, .i32⟩
  | .hbm, ⟨34, _⟩ => ⟨S36864x8x16x16, .i32⟩
  | .hbm, ⟨35, _⟩ => ⟨S36864x8x256, .i32⟩
  | .hbm, ⟨36, _⟩ => ⟨S36864x8x16, .f32⟩
  | .hbm, ⟨37, _⟩ => ⟨S36864x8x16, .i32⟩
  | .hbm, ⟨38, _⟩ => ⟨S_, .i32⟩
  | .hbm, ⟨39, _⟩ => ⟨S36864x8x16, .i32⟩
  | .hbm, ⟨40, _⟩ => ⟨S36864x8x16, .i1⟩
  | .hbm, ⟨41, _⟩ => ⟨S_, .i32⟩
  | .hbm, ⟨42, _⟩ => ⟨S36864x8x16, .i32⟩
  | .hbm, ⟨43, _⟩ => ⟨S36864x8x16, .i32⟩
  | .hbm, ⟨44, _⟩ => ⟨S36864x8x16, .i32⟩
  | .hbm, ⟨45, _⟩ => ⟨S36864x8x16x1, .i32⟩
  | .hbm, ⟨46, _⟩ => ⟨S1, .i32⟩
  | .hbm, ⟨47, _⟩ => ⟨S_, .i32⟩
  | .hbm, ⟨48, _⟩ => ⟨S36864x8x16x1, .i32⟩
  | .hbm, ⟨49, _⟩ => ⟨S36864x8x16x1, .i1⟩
  | .hbm, ⟨50, _⟩ => ⟨S1x1x1x1, .i32⟩
  | .hbm, ⟨51, _⟩ => ⟨S36864x8x16x1, .i32⟩
  | .hbm, ⟨52, _⟩ => ⟨S36864x8x16x1, .i1⟩
  | .hbm, ⟨53, _⟩ => ⟨S36864x8x16x1, .i1⟩
  | .hbm, ⟨54, _⟩ => ⟨S_, .i1⟩
  | .hbm, ⟨55, _⟩ => ⟨S36864x8x16, .i1⟩
  | .hbm, ⟨56, _⟩ => ⟨S36864x8x16, .i32⟩
  | .hbm, ⟨57, _⟩ => ⟨S_, .i32⟩
  | .hbm, ⟨58, _⟩ => ⟨S36864x8x16, .i32⟩
  | .hbm, ⟨59, _⟩ => ⟨S36864x8x16, .i32⟩
  | .hbm, ⟨60, _⟩ => ⟨S_, .f32⟩
  | .hbm, ⟨61, _⟩ => ⟨S36864x8, .f32⟩
  | .hbm, ⟨62, _⟩ => ⟨S_, .f32⟩
  | .hbm, ⟨63, _⟩ => ⟨S36864x8, .f32⟩
  | .hbm, ⟨64, _⟩ => ⟨S36864x8, .f32⟩
  | .hbm, ⟨65, _⟩ => ⟨S36864x8x1, .f32⟩
  | .hbm, ⟨66, _⟩ => ⟨S36864x8x16, .f32⟩
  | .hbm, ⟨67, _⟩ => ⟨S36864x8x16, .f32⟩
  | .hbm, ⟨68, _⟩ => ⟨S36864x8x16, .f32⟩
  | .hbm, ⟨69, _⟩ => ⟨S_, .f32⟩
  | .hbm, ⟨70, _⟩ => ⟨S36864x8, .f32⟩
  | .hbm, ⟨71, _⟩ => ⟨S36864x8x1, .f32⟩
  | .hbm, ⟨72, _⟩ => ⟨S36864x8x16, .f32⟩
  | .hbm, ⟨73, _⟩ => ⟨S36864x8x16, .f32⟩
  | .hbm, ⟨74, _⟩ => ⟨S8x16x36864, .i32⟩
  | .hbm, ⟨75, _⟩ => ⟨S8x16x36864, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_values : Ref sig .tc := ⟨.hbm, 11, rfl⟩
abbrev main_indices : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_values_0 : Ref sig .tc := ⟨.hbm, 36, rfl⟩
abbrev main_indices_1 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_c_1 : Ref sig .tc := ⟨.hbm, 46, rfl⟩
abbrev main_call0_c_2 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_3 : Ref sig .tc := ⟨.hbm, 54, rfl⟩
abbrev main_call0_v12 : Ref sig .tc := ⟨.hbm, 55, rfl⟩
abbrev main_call0_v13 : Ref sig .tc := ⟨.hbm, 56, rfl⟩
abbrev main_call0_c_4 : Ref sig .tc := ⟨.hbm, 57, rfl⟩
abbrev main_call0_v14 : Ref sig .tc := ⟨.hbm, 58, rfl⟩
abbrev main_v29 : Ref sig .tc := ⟨.hbm, 59, rfl⟩
abbrev main_cst : Ref sig .tc := ⟨.hbm, 60, rfl⟩
abbrev main_v30 : Ref sig .tc := ⟨.hbm, 61, rfl⟩
abbrev main_cst_2 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_3 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩

abbrev nD : Nat := 1
abbrev τ : Topo := Topo.v7x

variable {F : FTy → Type} [FloatOps F]
-- ==== Proof.Route.Tensors.lean ====
module

public import proofs.«01_k».proof.Proof.Gen.KernelIdeal.Value
public import Idealize.ShloMosaic.Lib.Tactic

@[expose] public section

set_option maxRecDepth 16384

noncomputable section

/-! The selection rounds of one head as operations on whole blocks: a block holds one row per
    candidate and one column per token. -/

namespace Cert.Route

open Cert.KernelIdeal Cert.KernelIdeal.Gen Idealize.ShloMosaic Idealize.ShloMosaic.TcCoe Idealize.SL.Sem

variable {F : FTy → Type} [FloatOps F]

/-- The row numbers of a block of 128 rows. -/
def rows128 : IVec S128x256 32 := iota .tc S128x256 32 [0] iota_S128x256_d0_w32

/-- The row numbers of a block of 80 rows. -/
def rows80 : IVec S80x256 32 := iota .tc S80x256 32 [0] iota_S80x256_d0_w32

/-- The row numbers of a block of 16 rows. -/
def rows16 : IVec S16x256 32 := iota .tc S16x256 32 [0] iota_S16x256_d0_w32

/-- The largest entry of each column, 128 rows. -/
def mx128 (s : FVec F S128x256 .f32) : FVec F S1x256 .f32 :=
  shapeCast S1x256 (multiReduction .maximumf [0] S256 s 0xFF800000#32 reduces_S128x256_S256 (.inl rfl) rfl)
    shapeCasts_S256_S1x256

/-- The first row at which each column takes its largest entry, 128 rows. -/
def am128 (s : FVec F S128x256 .f32) : IVec S1x256 32 :=
  shapeCast S1x256
    (multiReductionI .minsi [0] S256
      (select (cmpf .oeq s (broadcastTo S128x256 (mx128 s) broadcasts_S1x256_S128x256)) rows128
        (broadcast S128x256 128#32)) 2147483647#32 reduces_S128x256_S256 rfl) shapeCasts_S256_S1x256

/-- The block after one round: the row picked in each column is replaced by minus infinity. -/
def nx128 (s : FVec F S128x256 .f32) : FVec F S128x256 .f32 :=
  select (cmpi .eq rows128 (broadcastTo S128x256 (am128 s) broadcasts_S1x256_S128x256))
    (broadcast S128x256 (Scalar.ofBits .f32 0xFF800000#32)) s

/-- The largest entry of each column, 80 rows. -/
def mx80 (s : FVec F S80x256 .f32) : FVec F S1x256 .f32 :=
  shapeCast S1x256 (multiReduction .maximumf [0] S256 s 0xFF800000#32 reduces_S80x256_S256 (.inl rfl) rfl)
    shapeCasts_S256_S1x256

/-- The first row at which each column takes its largest entry, 80 rows. -/
def am80 (s : FVec F S80x256 .f32) : IVec S1x256 32 :=
  shapeCast S1x256
    (multiReductionI .minsi [0] S256
      (select (cmpf .oeq s (broadcastTo S80x256 (mx80 s) broadcasts_S1x256_S80x256)) rows80
        (broadcast S80x256 80#32)) 2147483647#32 reduces_S80x256_S256 rfl) shapeCasts_S256_S1x256

/-- The block after one round, 80 rows. -/
def nx80 (s : FVec F S80x256 .f32) : FVec F S80x256 .f32 :=
  select (cmpi .eq rows80 (broadcastTo S80x256 (am80 s) broadcasts_S1x256_S80x256))
    (broadcast S80x256 (Scalar.ofBits .f32 0xFF800000#32)) s

/-- A row written into row `b` of a block of 16 rows. -/
def putF (b : BitVec 32) (r : FVec F S1x256 .f32) (v : FVec F S16x256 .f32) : FVec F S16x256 .f32 :=
  select (cmpi .eq rows16 (broadcast S16x256 b))
    (broadcastTo S16x256 (shapeCast S1x256 r shapeCasts_S1x256_S1x256) broadcasts_S1x256_S16x256) v

/-- An integer row written into row `b` of a block of 16 rows. -/
def putI (b : BitVec 32) (r : IVec S1x256 32) (v : IVec S16x256 32) : IVec S16x256 32 :=
  select (cmpi .eq rows16 (broadcast S16x256 b))
    (broadcastTo S16x256 (shapeCast S1x256 r shapeCasts_S1x256_S1x256) broadcasts_S1x256_S16x256) v

/-- The integer held by the candidate whose row number is `r`, in each column; -1 where none is. -/
def pickI (r : IVec S1x256 32) (ci : IVec S80x256 32) : IVec S1x256 32 :=
  shapeCast S1x256
    (multiReductionI .maxsi [0] S256
      (select (cmpi .eq rows80 (broadcastTo S80x256 r broadcasts_S1x256_S80x256)) ci
        (broadcast S80x256 4294967295#32)) 2147483648#32 reduces_S80x256_S256 rfl) shapeCasts_S256_S1x256

/-- The block after `j` rounds, 128 rows. -/
def it128 (s : FVec F S128x256 .f32) : ℕ → FVec F S128x256 .f32
  | 0 => s
  | j + 1 => nx128 (it128 s j)

/-- The values picked in the first `j` rounds, one row per round, 128 rows. -/
def topF128 (s : FVec F S128x256 .f32) : ℕ → FVec F S16x256 .f32
  | 0 => broadcast S16x256 (Scalar.ofBits .f32 0x00000000#32)
  | j + 1 => putF (BitVec.ofNat 32 j) (mx128 (it128 s j)) (topF128 s j)

/-- The rows picked in the first `j` rounds, 128 rows. -/
def topI128 (s : FVec F S128x256 .f32) : ℕ → IVec S16x256 32
  | 0 => broadcast S16x256 0#32
  | j + 1 => putI (BitVec.ofNat 32 j) (am128 (it128 s j)) (topI128 s j)

/-- The block after `j` rounds, 80 rows. -/
def it80 (s : FVec F S80x256 .f32) : ℕ → FVec F S80x256 .f32
  | 0 => s
  | j + 1 => nx80 (it80 s j)

/-- The values picked in the first `j` rounds, 80 rows. -/
def topF80 (s : FVec F S80x256 .f32) : ℕ → FVec F S16x256 .f32
  | 0 => broadcast S16x256 (Scalar.ofBits .f32 0x00000000#32)
  | j + 1 => putF (BitVec.ofNat 32 j) (mx80 (it80 s j)) (topF80 s j)

/-- The rows picked in the first `j` rounds, 80 rows. -/
def topI80 (s : FVec F S80x256 .f32) : ℕ → IVec S16x256 32
  | 0 => broadcast S16x256 0#32
  | j + 1 => putI (BitVec.ofNat 32 j) (am80 (it80 s j)) (topI80 s j)

theorem fold_rows128 : iota .tc S128x256 32 [0] iota_S128x256_d0_w32 = rows128 := rfl
theorem fold_rows80 : iota .tc S80x256 32 [0] iota_S80x256_d0_w32 = rows80 := rfl
theorem fold_rows16 : iota .tc S16x256 32 [0] iota_S16x256_d0_w32 = rows16 := rfl

theorem fold_mx128 (s : FVec F S128x256 .f32) :
    shapeCast S1x256 (multiReduction .maximumf [0] S256 s 0xFF800000#32 reduces_S128x256_S256 (.inl rfl) rfl)
      shapeCasts_S256_S1x256 = mx128 s := rfl

theorem fold_am128 (s : FVec F S128x256 .f32) :
    shapeCast S1x256
    (multiReductionI .minsi [0] S256
      (select (cmpf .oeq s (broadcastTo S128x256 (mx128 s) broadcasts_S1x256_S128x256)) rows128
        (broadcast S128x256 128#32)) 2147483647#32 reduces_S128x256_S256 rfl) shapeCasts_S256_S1x256 = am128 s := rfl

theorem fold_nx128 (s : FVec F S128x256 .f32) :
    select (cmpi .eq rows128 (broadcastTo S128x256 (am128 s) broadcasts_S1x256_S128x256))
      (broadcast S128x256 (Scalar.ofBits .f32 0xFF800000#32)) s = nx128 s := rfl

theorem fold_mx80 (s : FVec F S80x256 .f32) :
    shapeCast S1x256 (multiReduction .maximumf [0] S256 s 0xFF800000#32 reduces_S80x256_S256 (.inl rfl) rfl)
      shapeCasts_S256_S1x256 = mx80 s := rfl

theorem fold_am80 (s : FVec F S80x256 .f32) :
    shapeCast S1x256
    (multiReductionI .minsi [0] S256
      (select (cmpf .oeq s (broadcastTo S80x256 (mx80 s) broadcasts_S1x256_S80x256)) rows80
        (broadcast S80x256 80#32)) 2147483647#32 reduces_S80x256_S256 rfl) shapeCasts_S256_S1x256 = am80 s := rfl

theorem fold_nx80 (s : FVec F S80x256 .f32) :
    select (cmpi .eq rows80 (broadcastTo S80x256 (am80 s) broadcasts_S1x256_S80x256))
      (broadcast S80x256 (Scalar.ofBits .f32 0xFF800000#32)) s = nx80 s := rfl

theorem fold_putF (b : BitVec 32) (r : FVec F S1x256 .f32) (v : FVec F S16x256 .f32) :
    select (cmpi .eq rows16 (broadcast S16x256 b))
      (broadcastTo S16x256 (shapeCast S1x256 r shapeCasts_S1x256_S1x256) broadcasts_S1x256_S16x256) v = putF b r v :=
  rfl

theorem fold_putI (b : BitVec 32) (r : IVec S1x256 32) (v : IVec S16x256 32) :
    select (cmpi .eq rows16 (broadcast S16x256 b))
      (broadcastTo S16x256 (shapeCast S1x256 r shapeCasts_S1x256_S1x256) broadcasts_S1x256_S16x256) v = putI b r v :=
  rfl

theorem fold_pickI (r : IVec S1x256 32) (ci : IVec S80x256 32) :
    shapeCast S1x256
    (multiReductionI .maxsi [0] S256
      (select (cmpi .eq rows80 (broadcastTo S80x256 r broadcasts_S1x256_S80x256)) ci
        (broadcast S80x256 4294967295#32)) 2147483648#32 reduces_S80x256_S256 rfl) shapeCasts_S256_S1x256 =
      pickI r ci := rfl

/-- Row `j` of a block of 16 rows. -/
def rowF (v : FVec F S16x256 .f32) (j : ℕ) : FVec F S1x256 .f32 :=
  if h : S16x256.Slices ![j, 0] S1x256 then extractStridedSlice S1x256 ![j, 0] v h
  else broadcast S1x256 (Scalar.ofBits .f32 0x00000000#32)

/-- Row `j` of an integer block of 16 rows. -/
def rowI (v : IVec S16x256 32) (j : ℕ) : IVec S1x256 32 :=
  if h : S16x256.Slices ![j, 0] S1x256 then extractStridedSlice S1x256 ![j, 0] v h
  else broadcast S1x256 0#32

theorem fold_rowF (v : FVec F S16x256 .f32) (j : ℕ) (h : S16x256.Slices ![j, 0] S1x256) :
    extractStridedSlice S1x256 ![j, 0] v h = rowF v j := (dif_pos h).symm

theorem fold_rowI (v : IVec S16x256 32) (j : ℕ) (h : S16x256.Slices ![j, 0] S1x256) :
    extractStridedSlice S1x256 ![j, 0] v h = rowI v j := (dif_pos h).symm

/-- The 80 candidate sums kept out of the 256 pairs of a left and a right pick. -/
def candF (a b : FVec F S16x256 .f32) : FVec F S80x256 .f32 :=
  concatenate S80x256 0 [
    ⟨S16x256, addf (broadcastTo S16x256 (rowF a 0) broadcasts_S1x256_S16x256) b⟩,
    ⟨S8x256, addf (broadcastTo S8x256 (rowF a 1) broadcasts_S1x256_S8x256) (extractStridedSlice S8x256 ![0, 0] b slices_S16x256_o0_0_S8x256)⟩,
    ⟨S8x256, addf (broadcastTo S8x256 (rowF a 2) broadcasts_S1x256_S8x256) (extractStridedSlice S8x256 ![0, 0] b slices_S16x256_o0_0_S8x256)⟩,
    ⟨S8x256, addf (broadcastTo S8x256 (rowF a 3) broadcasts_S1x256_S8x256) (extractStridedSlice S8x256 ![0, 0] b slices_S16x256_o0_0_S8x256)⟩,
    ⟨S8x256, addf (broadcastTo S8x256 (rowF a 4) broadcasts_S1x256_S8x256) (extractStridedSlice S8x256 ![0, 0] b slices_S16x256_o0_0_S8x256)⟩,
    ⟨S8x256, addf (broadcastTo S8x256 (rowF a 5) broadcasts_S1x256_S8x256) (extractStridedSlice S8x256 ![0, 0] b slices_S16x256_o0_0_S8x256)⟩,
    ⟨S8x256, addf (broadcastTo S8x256 (rowF a 6) broadcasts_S1x256_S8x256) (extractStridedSlice S8x256 ![0, 0] b slices_S16x256_o0_0_S8x256)⟩,
    ⟨S8x256, addf (broadcastTo S8x256 (rowF a 7) broadcasts_S1x256_S8x256) (extractStridedSlice S8x256 ![0, 0] b slices_S16x256_o0_0_S8x256)⟩,
    ⟨S8x256, addf (extractStridedSlice S8x256 ![8, 0] a slices_S16x256_o8_0_S8x256) (broadcastTo S8x256 (rowF b 0) broadcasts_S1x256_S8x256)⟩]
    concatenates_S16x256_S8x256_S8x256_S8x256_S8x256_S8x256_S8x256_S8x256_S8x256_S80x256_d0

/-- The expert numbers of the 80 candidates. -/
def candI (a b : IVec S16x256 32) : IVec S80x256 32 :=
  concatenate S80x256 0 [
    ⟨S16x256, addi (broadcastTo S16x256 (muli (rowI a 0) (broadcast S1x256 128#32)) broadcasts_S1x256_S16x256) b⟩,
    ⟨S8x256, addi (broadcastTo S8x256 (muli (rowI a 1) (broadcast S1x256 128#32)) broadcasts_S1x256_S8x256) (extractStridedSlice S8x256 ![0, 0] b slices_S16x256_o0_0_S8x256)⟩,
    ⟨S8x256, addi (broadcastTo S8x256 (muli (rowI a 2) (broadcast S1x256 128#32)) broadcasts_S1x256_S8x256) (extractStridedSlice S8x256 ![0, 0] b slices_S16x256_o0_0_S8x256)⟩,
    ⟨S8x256, addi (broadcastTo S8x256 (muli (rowI a 3) (broadcast S1x256 128#32)) broadcasts_S1x256_S8x256) (extractStridedSlice S8x256 ![0, 0] b slices_S16x256_o0_0_S8x256)⟩,
    ⟨S8x256, addi (broadcastTo S8x256 (muli (rowI a 4) (broadcast S1x256 128#32)) broadcasts_S1x256_S8x256) (extractStridedSlice S8x256 ![0, 0] b slices_S16x256_o0_0_S8x256)⟩,
    ⟨S8x256, addi (broadcastTo S8x256 (muli (rowI a 5) (broadcast S1x256 128#32)) broadcasts_S1x256_S8x256) (extractStridedSlice S8x256 ![0, 0] b slices_S16x256_o0_0_S8x256)⟩,
    ⟨S8x256, addi (broadcastTo S8x256 (muli (rowI a 6) (broadcast S1x256 128#32)) broadcasts_S1x256_S8x256) (extractStridedSlice S8x256 ![0, 0] b slices_S16x256_o0_0_S8x256)⟩,
    ⟨S8x256, addi (broadcastTo S8x256 (muli (rowI a 7) (broadcast S1x256 128#32)) broadcasts_S1x256_S8x256) (extractStridedSlice S8x256 ![0, 0] b slices_S16x256_o0_0_S8x256)⟩,
    ⟨S8x256, addi (muli (extractStridedSlice S8x256 ![8, 0] a slices_S16x256_o8_0_S8x256) (broadcast S8x256 128#32)) (broadcastTo S8x256 (rowI b 0) broadcasts_S1x256_S8x256)⟩]
    concatenates_S16x256_S8x256_S8x256_S8x256_S8x256_S8x256_S8x256_S8x256_S8x256_S80x256_d0

/-- The expert numbers at the first `j` picked candidates, one row per pick. -/
def selI (pos : IVec S16x256 32) (ci : IVec S80x256 32) : ℕ → IVec S16x256 32
  | 0 => broadcast S16x256 0#32
  | j + 1 => putI (BitVec.ofNat 32 j) (pickI (rowI pos j) ci) (selI pos ci j)

end Cert.Route
-- ==== Proof.Route.Trip.lean ====
module

public import proofs.«01_k».proof.Proof.Route.Tensors

@[expose] public section

set_option maxRecDepth 16384

noncomputable section

/-! What one head's pass of the loop stores, in terms of the selection rounds. -/

namespace Cert.Route

open Cert.KernelIdeal Cert.KernelIdeal.Gen Idealize.ShloMosaic Idealize.ShloMosaic.TcCoe Idealize.SL.Sem

variable {F : FTy → Type} [FloatOps F]

section Words

variable (arg2 : Memref sig .tc .vmem S8x1024x256 .bf16) (arg3 : Memref sig .tc .vmem S8x1x256 .f32)
  (arg4 : Memref sig .tc .vmem S8x2x128x128 .bf16) (v0 : Vec F S256x1024 .f32)
  (X_arg2 : BufTy.Contents (Elt F) arg2.view.ty) (X_arg3 : BufTy.Contents (Elt F) arg3.view.ty)
  (X_arg4 : BufTy.Contents (Elt F) arg4.view.ty) (k : Fin k0_t1_loop.trips)

/-- The query weights of head `k`, as read from the window. -/
abbrev ldW : Vec F S1x1024x256 .bf16 :=
  View.readAt (Elt F) arg2.view
    (Rect.unit (s := S8x1024x256) (k0_off1 k) S1x1024x256.size (k0_off1_inb k)).toLoadRect X_arg2

/-- The query biases of head `k`, as read from the window. -/
abbrev ldB : Vec F S1x1x256 .f32 :=
  View.readAt (Elt F) arg3.view
    (Rect.unit (s := S8x1x256) (k0_off2 k) S1x1x256.size (k0_off2_inb k)).toLoadRect X_arg3

/-- The left keys of head `k`, as read from the window. -/
abbrev ldK0 : Vec F S1x1x128x128 .bf16 :=
  View.readAt (Elt F) arg4.view
    (Rect.unit (s := S8x2x128x128) (k0_off3 k) S1x1x128x128.size (k0_off3_inb k)).toLoadRect X_arg4

/-- The right keys of head `k`, as read from the window. -/
abbrev ldK1 : Vec F S1x1x128x128 .bf16 :=
  View.readAt (Elt F) arg4.view
    (Rect.unit (s := S8x2x128x128) (k0_off4 k) S1x1x128x128.size (k0_off4_inb k)).toLoadRect X_arg4

/-- The scores of the left keys, one row per key and one column per token. -/
def scL (x : Vec F S256x1024 .f32) (w : Vec F S1x1024x256 .bf16) (b : Vec F S1x1x256 .f32)
    (k0 : Vec F S1x1x128x128 .bf16) : FVec F S128x256 .f32 := k0_pay4 (k0_pay1 x) w b k0

/-- The scores of the right keys. -/
def scR (x : Vec F S256x1024 .f32) (w : Vec F S1x1024x256 .bf16) (b : Vec F S1x1x256 .f32)
    (k1 : Vec F S1x1x128x128 .bf16) : FVec F S128x256 .f32 := k0_pay74 (k0_pay73 (k0_pay3 (k0_pay1 x) w b)) k1

theorem fold_scL (x : Vec F S256x1024 .f32) (w : Vec F S1x1024x256 .bf16) (b : Vec F S1x1x256 .f32)
    (k0 : Vec F S1x1x128x128 .bf16) : k0_pay4 (k0_pay1 x) w b k0 = scL x w b k0 := rfl

theorem fold_scR (x : Vec F S256x1024 .f32) (w : Vec F S1x1024x256 .bf16) (b : Vec F S1x1x256 .f32)
    (k1 : Vec F S1x1x128x128 .bf16) : k0_pay74 (k0_pay73 (k0_pay3 (k0_pay1 x) w b)) k1 = scR x w b k1 := rfl

/-- The values of the 16 picked sums of one head, from its two blocks of scores. -/
def bestF (s0 s1 : FVec F S128x256 .f32) : FVec F S16x256 .f32 := topF80 (candF (topF128 s0 16) (topF128 s1 16)) 16

/-- The places of the 16 picked sums among the 80 candidates. -/
def bestP (s0 s1 : FVec F S128x256 .f32) : IVec S16x256 32 := topI80 (candF (topF128 s0 16) (topF128 s1 16)) 16

/-- The expert numbers of the 16 picked sums. -/
def bestE (s0 s1 : FVec F S128x256 .f32) : IVec S16x256 32 :=
  selI (bestP s0 s1) (candI (topI128 s0 16) (topI128 s1 16)) 16

/-- The value of the picked sums, as the loop's pass computes it. -/
theorem word_best : trip_k0_t1.sl.r_120 arg2 arg3 arg4 v0 X_arg2 X_arg3 X_arg4 k =
    bestF (scL v0 (ldW arg2 X_arg2 k) (ldB arg3 X_arg3 k) (ldK0 arg4 X_arg4 k))
      (scR v0 (ldW arg2 X_arg2 k) (ldB arg3 X_arg3 k) (ldK1 arg4 X_arg4 k)) := by
  sl_unfold_run_names
  simp only [k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay75, k0_pay76,
    k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106,
    k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142,
    k0_pay143, k0_pay144, k0_pay145, k0_pay146, k0_pay147, k0_pay148, k0_pay149, k0_pay150, k0_pay151,
    k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178,
    k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205,
    k0_pay206, k0_pay207, k0_pay208, k0_pay209, k0_pay210, k0_pay211, k0_pay212, k0_pay213, k0_pay214,
    k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232,
    k0_pay233, k0_pay234, k0_pay235, k0_pay236, k0_pay237, k0_pay239, fold_rows128, fold_rows80, fold_rows16,
    fold_mx128, fold_am128, fold_nx128, fold_mx80, fold_am80, fold_nx80, fold_putF, fold_putI, fold_pickI,
    fold_rowF, fold_rowI, fold_scL, fold_scR]
  rfl

/-- The expert numbers stored by the loop's pass. -/
theorem word_expert :
    k0_pay239 (trip_k0_t1.sl.r_87 arg2 arg3 arg4 v0 X_arg2 X_arg3 X_arg4 k) (trip_k0_t1.sl.r_121 arg2 arg3 arg4 v0 X_arg2 X_arg3 X_arg4 k) trip_k0_t1.sl.v818 trip_k0_t1.sl.v19
      (trip_k0_t1.sl.v1328 arg2 arg3 arg4 v0 X_arg2 X_arg3 X_arg4 k) =
    shapeCast S1x16x256 (bestE (scL v0 (ldW arg2 X_arg2 k) (ldB arg3 X_arg3 k) (ldK0 arg4 X_arg4 k))
      (scR v0 (ldW arg2 X_arg2 k) (ldB arg3 X_arg3 k) (ldK1 arg4 X_arg4 k))) shapeCasts_S16x256_S1x16x256 := by
  sl_unfold_run_names
  simp only [k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay75, k0_pay76,
    k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106,
    k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142,
    k0_pay143, k0_pay144, k0_pay145, k0_pay146, k0_pay147, k0_pay148, k0_pay149, k0_pay150, k0_pay151,
    k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178,
    k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205,
    k0_pay206, k0_pay207, k0_pay208, k0_pay209, k0_pay210, k0_pay211, k0_pay212, k0_pay213, k0_pay214,
    k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232,
    k0_pay233, k0_pay234, k0_pay235, k0_pay236, k0_pay237, k0_pay239, fold_rows128, fold_rows80, fold_rows16,
    fold_mx128, fold_am128, fold_nx128, fold_mx80, fold_am80, fold_nx80, fold_putF, fold_putI, fold_pickI,
    fold_rowF, fold_rowI, fold_scL, fold_scR]
  rfl

end Words

end Cert.Route
-- ==== Proof.Route.Block.lean ====
module

public import proofs.«01_k».proof.Proof.Route.Trip
public import Idealize.ShloMosaic.Lib.Pointwise
public import Idealize.ShloMosaic.Lib.Pipeline.ValueKit.Tiles

@[expose] public section

set_option maxRecDepth 16384

noncomputable section

/-! What one grid point leaves in its two output blocks: row `h` of the heads axis is head `h`'s
    picks. -/

namespace Cert.Route

open Cert.KernelIdeal Cert.KernelIdeal.Gen Idealize.ShloMosaic Idealize.ShloMosaic.TcCoe Idealize.SL.Sem
open Idealize.ShloMosaic.Pointwise

variable {F : FTy → Type} [FloatOps F]

/-- The query weights of one head. -/
def headW (x1 : Vec F S8x1024x256 .bf16) (h : Fin 8) : Vec F S1x1024x256 .bf16 :=
  fun i => x1 (ix3 (n0 := 8) (n1 := 1024) (n2 := 256) h (i 1) (i 2))

/-- The query biases of one head. -/
def headB (x2 : Vec F S8x1x256 .f32) (h : Fin 8) : Vec F S1x1x256 .f32 :=
  fun i => x2 (ix3 (n0 := 8) (n1 := 1) (n2 := 256) h (i 1) (i 2))

/-- The keys of one head and one side. -/
def headK (x3 : Vec F S8x2x128x128 .bf16) (h : Fin 8) (p : Fin 2) : Vec F S1x1x128x128 .bf16 :=
  fun i => x3 (ix4 (n0 := 8) (n1 := 2) (n2 := 128) (n3 := 128) h p (i 2) (i 3))

/-- One head's scores of the left keys. -/
def sL (x0 : Vec F S256x1024 .f32) (x1 : Vec F S8x1024x256 .bf16) (x2 : Vec F S8x1x256 .f32)
    (x3 : Vec F S8x2x128x128 .bf16) (h : Fin 8) : FVec F S128x256 .f32 :=
  scL x0 (headW x1 h) (headB x2 h) (headK x3 h 0)

/-- One head's scores of the right keys. -/
def sR (x0 : Vec F S256x1024 .f32) (x1 : Vec F S8x1024x256 .bf16) (x2 : Vec F S8x1x256 .f32)
    (x3 : Vec F S8x2x128x128 .bf16) (h : Fin 8) : FVec F S128x256 .f32 :=
  scR x0 (headW x1 h) (headB x2 h) (headK x3 h 1)

/-- The gates of one head from its best sums: the softmax over the 16 rows. -/
def gate (b : FVec F S16x256 .f32) : FVec F S16x256 .f32 := divf (k0_pay238 b) (k0_pay240 b)

/-- The block of expert numbers of one grid point. -/
def blkE (x0 : Vec F S256x1024 .f32) (x1 : Vec F S8x1024x256 .bf16) (x2 : Vec F S8x1x256 .f32)
    (x3 : Vec F S8x2x128x128 .bf16) : Vec F S8x16x256 .i32 :=
  fun y => bestE (sL x0 x1 x2 x3 (y 0)) (sR x0 x1 x2 x3 (y 0)) (ix2 (n0 := 16) (n1 := 256) (y 1) (y 2))

/-- The block of gates of one grid point. -/
def blkG (x0 : Vec F S256x1024 .f32) (x1 : Vec F S8x1024x256 .bf16) (x2 : Vec F S8x1x256 .f32)
    (x3 : Vec F S8x2x128x128 .bf16) : Vec F S8x16x256 .f32 :=
  fun y => gate (bestF (sL x0 x1 x2 x3 (y 0)) (sR x0 x1 x2 x3 (y 0))) (ix2 (n0 := 16) (n1 := 256) (y 1) (y 2))

theorem trips_eq : k0_t1_loop.trips = 8 := by decide +kernel

theorem off1_val (k : Fin k0_t1_loop.trips) :
    k0_off1 k 0 = k.val ∧ k0_off1 k 1 = 0 ∧ k0_off1 k 2 = 0 := by revert k; decide +kernel

theorem off2_val (k : Fin k0_t1_loop.trips) :
    k0_off2 k 0 = k.val ∧ k0_off2 k 1 = 0 ∧ k0_off2 k 2 = 0 := by revert k; decide +kernel

theorem off3_val (k : Fin k0_t1_loop.trips) :
    k0_off3 k 0 = k.val ∧ k0_off3 k 1 = 0 ∧ k0_off3 k 2 = 0 ∧ k0_off3 k 3 = 0 := by revert k; decide +kernel

theorem off4_val (k : Fin k0_t1_loop.trips) :
    k0_off4 k 0 = k.val ∧ k0_off4 k 1 = 1 ∧ k0_off4 k 2 = 0 ∧ k0_off4 k 3 = 0 := by revert k; decide +kernel

theorem off5_val (k : Fin k0_t1_loop.trips) :
    k0_off5 k 0 = k.val ∧ k0_off5 k 1 = 0 ∧ k0_off5 k 2 = 0 := by revert k; decide +kernel

/-- The head a pass of the loop works on. -/
def hd (k : Fin k0_t1_loop.trips) : Fin 8 := ⟨k.val, lt_of_lt_of_eq k.isLt trips_eq⟩

theorem ld_headW (x1 : Vec F S8x1024x256 .bf16) (k : Fin k0_t1_loop.trips) :
    View.ld x1 (Rect.unit (s := S8x1024x256) (k0_off1 k) S1x1024x256.size (k0_off1_inb k)) = headW x1 (hd k) := by
  obtain ⟨h0, h1, h2⟩ := off1_val k
  funext i
  have hi := (i 0).isLt
  have hi' : (i 0).val < 1 := hi
  refine congrArg x1 (funext fun a => Fin.ext ?_)
  rw [Rect.idx_unit_val]
  match a with
  | ⟨0, _⟩ => show k0_off1 k 0 + (i 0).val = k.val; omega
  | ⟨1, _⟩ => show k0_off1 k 1 + (i 1).val = (i 1).val; omega
  | ⟨2, _⟩ => show k0_off1 k 2 + (i 2).val = (i 2).val; omega

theorem ld_headB (x2 : Vec F S8x1x256 .f32) (k : Fin k0_t1_loop.trips) :
    View.ld x2 (Rect.unit (s := S8x1x256) (k0_off2 k) S1x1x256.size (k0_off2_inb k)) = headB x2 (hd k) := by
  obtain ⟨h0, h1, h2⟩ := off2_val k
  funext i
  have hi := (i 0).isLt
  have hi' : (i 0).val < 1 := hi
  refine congrArg x2 (funext fun a => Fin.ext ?_)
  rw [Rect.idx_unit_val]
  match a with
  | ⟨0, _⟩ => show k0_off2 k 0 + (i 0).val = k.val; omega
  | ⟨1, _⟩ => show k0_off2 k 1 + (i 1).val = (i 1).val; omega
  | ⟨2, _⟩ => show k0_off2 k 2 + (i 2).val = (i 2).val; omega

theorem ld_headK0 (x3 : Vec F S8x2x128x128 .bf16) (k : Fin k0_t1_loop.trips) :
    View.ld x3 (Rect.unit (s := S8x2x128x128) (k0_off3 k) S1x1x128x128.size (k0_off3_inb k)) =
      headK x3 (hd k) 0 := by
  obtain ⟨h0, h1, h2, h3⟩ := off3_val k
  funext i
  have hi : (i 0).val < 1 := (i 0).isLt
  have hj : (i 1).val < 1 := (i 1).isLt
  refine congrArg x3 (funext fun a => Fin.ext ?_)
  rw [Rect.idx_unit_val]
  match a with
  | ⟨0, _⟩ => show k0_off3 k 0 + (i 0).val = k.val; omega
  | ⟨1, _⟩ => show k0_off3 k 1 + (i 1).val = 0; omega
  | ⟨2, _⟩ => show k0_off3 k 2 + (i 2).val = (i 2).val; omega
  | ⟨3, _⟩ => show k0_off3 k 3 + (i 3).val = (i 3).val; omega

theorem ld_headK1 (x3 : Vec F S8x2x128x128 .bf16) (k : Fin k0_t1_loop.trips) :
    View.ld x3 (Rect.unit (s := S8x2x128x128) (k0_off4 k) S1x1x128x128.size (k0_off4_inb k)) =
      headK x3 (hd k) 1 := by
  obtain ⟨h0, h1, h2, h3⟩ := off4_val k
  funext i
  have hi : (i 0).val < 1 := (i 0).isLt
  have hj : (i 1).val < 1 := (i 1).isLt
  refine congrArg x3 (funext fun a => Fin.ext ?_)
  rw [Rect.idx_unit_val]
  match a with
  | ⟨0, _⟩ => show k0_off4 k 0 + (i 0).val = k.val; omega
  | ⟨1, _⟩ => show k0_off4 k 1 + (i 1).val = 1; omega
  | ⟨2, _⟩ => show k0_off4 k 2 + (i 2).val = (i 2).val; omega
  | ⟨3, _⟩ => show k0_off4 k 3 + (i 3).val = (i 3).val; omega

theorem ldW_unread (arg : Memref sig .tc .vmem S8x1024x256 .bf16) (harg : arg.IsWhole) (x1 : Vec F S8x1024x256 .bf16)
    (k : Fin k0_t1_loop.trips) : ldW (F := F) arg (harg.unread x1) k = headW x1 (hd k) := by
  rw [← ld_headW x1 k]
  unfold ldW
  rw [View.readAt_eq_ld, harg.read_unread]

theorem ldB_unread (arg : Memref sig .tc .vmem S8x1x256 .f32) (harg : arg.IsWhole) (x2 : Vec F S8x1x256 .f32)
    (k : Fin k0_t1_loop.trips) : ldB (F := F) arg (harg.unread x2) k = headB x2 (hd k) := by
  rw [← ld_headB x2 k]
  unfold ldB
  rw [View.readAt_eq_ld, harg.read_unread]

theorem ldK0_unread (arg : Memref sig .tc .vmem S8x2x128x128 .bf16) (harg : arg.IsWhole) (x3 : Vec F S8x2x128x128 .bf16)
    (k : Fin k0_t1_loop.trips) : ldK0 (F := F) arg (harg.unread x3) k = headK x3 (hd k) 0 := by
  rw [← ld_headK0 x3 k]
  unfold ldK0
  rw [View.readAt_eq_ld, harg.read_unread]

theorem ldK1_unread (arg : Memref sig .tc .vmem S8x2x128x128 .bf16) (harg : arg.IsWhole) (x3 : Vec F S8x2x128x128 .bf16)
    (k : Fin k0_t1_loop.trips) : ldK1 (F := F) arg (harg.unread x3) k = headK x3 (hd k) 1 := by
  rw [← ld_headK1 x3 k]
  unfold ldK1
  rw [View.readAt_eq_ld, harg.read_unread]

section Run

variable (𝒱 : Variants) (c : Dev nD) (bd : Option 𝒱.V) (i : grid0.Coords)
  (arg1 : Memref sig .tc .vmem S256x1024 .f32) (harg1 : arg1.IsWhole)
  (arg2 : Memref sig .tc .vmem S8x1024x256 .bf16) (harg2 : arg2.IsWhole)
  (arg3 : Memref sig .tc .vmem S8x1x256 .f32) (harg3 : arg3.IsWhole)
  (arg4 : Memref sig .tc .vmem S8x2x128x128 .bf16) (harg4 : arg4.IsWhole)
  (arg5 : Memref sig .tc .vmem S8x16x256 .i32) (harg5 : arg5.IsWhole)
  (arg6 : Memref sig .tc .vmem S8x16x256 .f32) (harg6 : arg6.IsWhole)
  (x0 : Vec F S256x1024 .f32) (x1 : Vec F S8x1024x256 .bf16) (x2 : Vec F S8x1x256 .f32)
  (x3 : Vec F S8x2x128x128 .bf16)

/-- A store of the loop to the expert numbers is some pass's. -/
theorem mem_pb_fst (v0 : Vec F S256x1024 .f32)
    (X_arg2 : BufTy.Contents (Elt F) arg2.view.ty) (X_arg3 : BufTy.Contents (Elt F) arg3.view.ty)
    (X_arg4 : BufTy.Contents (Elt F) arg4.view.ty)
    (n : ℕ) (hn : n ≤ k0_t1_loop.trips) (p : View.Piece (Elt F) S8x16x256 .i32)
    (hp : p ∈ (pb_k0_t1 (F := F) 𝒱 c bd i arg1 harg1 arg2 harg2 arg3 harg3 arg4 harg4 arg5 harg5 arg6 harg6 v0 X_arg2 X_arg3 X_arg4 n).1) :
    ∃ k, p ∈ (tripL_k0_t1 (F := F) 𝒱 c bd i arg1 harg1 arg2 harg2 arg3 harg3 arg4 harg4 arg5 harg5 arg6 harg6 v0 X_arg2 X_arg3 X_arg4 k).1 := by
  induction n with
  | zero => simp [pb_k0_t1] at hp
  | succ n ih =>
    rw [pb_k0_t1_succ (F := F) 𝒱 c bd i arg1 harg1 arg2 harg2 arg3 harg3 arg4 harg4 arg5 harg5 arg6 harg6 v0 X_arg2 X_arg3 X_arg4 ⟨n, hn⟩] at hp
    rcases List.mem_append.mp hp with h | h
    · exact ⟨_, h⟩
    · exact ih (Nat.le_of_succ_le hn) h

/-- A store of the loop to the gates is some pass's. -/
theorem mem_pb_snd (v0 : Vec F S256x1024 .f32)
    (X_arg2 : BufTy.Contents (Elt F) arg2.view.ty) (X_arg3 : BufTy.Contents (Elt F) arg3.view.ty)
    (X_arg4 : BufTy.Contents (Elt F) arg4.view.ty)
    (n : ℕ) (hn : n ≤ k0_t1_loop.trips) (p : View.Piece (Elt F) S8x16x256 .f32)
    (hp : p ∈ (pb_k0_t1 (F := F) 𝒱 c bd i arg1 harg1 arg2 harg2 arg3 harg3 arg4 harg4 arg5 harg5 arg6 harg6 v0 X_arg2 X_arg3 X_arg4 n).2) :
    ∃ k, p ∈ (tripL_k0_t1 (F := F) 𝒱 c bd i arg1 harg1 arg2 harg2 arg3 harg3 arg4 harg4 arg5 harg5 arg6 harg6 v0 X_arg2 X_arg3 X_arg4 k).2 := by
  induction n with
  | zero => simp [pb_k0_t1] at hp
  | succ n ih =>
    rw [pb_k0_t1_succ (F := F) 𝒱 c bd i arg1 harg1 arg2 harg2 arg3 harg3 arg4 harg4 arg5 harg5 arg6 harg6 v0 X_arg2 X_arg3 X_arg4 ⟨n, hn⟩] at hp
    rcases List.mem_append.mp hp with h | h
    · exact ⟨_, h⟩
    · exact ih (Nat.le_of_succ_le hn) h

/-- One pass's store to the expert numbers. -/
theorem trip_fst (v0 : Vec F S256x1024 .f32) (k : Fin k0_t1_loop.trips) :
    (tripL_k0_t1 (F := F) 𝒱 c bd i arg1 harg1 arg2 harg2 arg3 harg3 arg4 harg4 arg5 harg5 arg6 harg6 v0 (harg2.unread x1) (harg3.unread x2) (harg4.unread x3) k).1 =
      [⟨Rect.unit (k0_off5 k) S1x16x256.size (k0_off5_inb k),
        shapeCast S1x16x256 (bestE (sL v0 x1 x2 x3 (hd k)) (sR v0 x1 x2 x3 (hd k))) shapeCasts_S16x256_S1x16x256⟩] := by
  unfold tripL_k0_t1 trip_k0_t1
  dsimp only
  rw [word_expert]
  rw [ldW_unread, ldB_unread, ldK0_unread, ldK1_unread]
  rfl

/-- One pass's store to the gates. -/
theorem trip_snd (v0 : Vec F S256x1024 .f32) (k : Fin k0_t1_loop.trips) :
    (tripL_k0_t1 (F := F) 𝒱 c bd i arg1 harg1 arg2 harg2 arg3 harg3 arg4 harg4 arg5 harg5 arg6 harg6 v0 (harg2.unread x1) (harg3.unread x2) (harg4.unread x3) k).2 =
      [⟨Rect.unit (k0_off5 k) S1x16x256.size (k0_off5_inb k),
        shapeCast S1x16x256 (gate (bestF (sL v0 x1 x2 x3 (hd k)) (sR v0 x1 x2 x3 (hd k)))) shapeCasts_S16x256_S1x16x256⟩] := by
  unfold tripL_k0_t1 trip_k0_t1
  dsimp only
  delta trip_k0_t1.sl.r_123 trip_k0_t1.sl.r_124
  rw [word_best]
  rw [ldW_unread, ldB_unread, ldK0_unread, ldK1_unread]
  rfl

theorem emb_off5 (k : Fin k0_t1_loop.trips) (z : S1x16x256.Idx) :
    (Rect.unit (s := S8x16x256) (k0_off5 k) S1x16x256.size (k0_off5_inb k)).emb z =
      ix3 (n0 := 8) (n1 := 16) (n2 := 256) (hd k) (z 1) (z 2) := by
  obtain ⟨h0, h1, h2⟩ := off5_val k
  have hz : (z 0).val < 1 := (z 0).isLt
  refine funext fun a => Fin.ext ?_
  show ((Rect.unit (s := S8x16x256) (k0_off5 k) S1x16x256.size (k0_off5_inb k)).idx z a).val = _
  rw [Rect.idx_unit_val]
  match a with
  | ⟨0, _⟩ => show k0_off5 k 0 + (z 0).val = k.val; omega
  | ⟨1, _⟩ => show k0_off5 k 1 + (z 1).val = (z 1).val; omega
  | ⟨2, _⟩ => show k0_off5 k 2 + (z 2).val = (z 2).val; omega

theorem cast_read {α : Type} (v : S16x256.Idx → α) (z : S1x16x256.Idx) :
    shapeCast S1x16x256 v shapeCasts_S16x256_S1x16x256 z = v (ix2 (n0 := 16) (n1 := 256) (z 1) (z 2)) := by
  rw [eq_ix3 z]
  generalize z 0 = a
  generalize z 1 = b
  generalize z 2 = d
  pointwise

/-- The block of expert numbers a grid point leaves. -/
theorem out_expert : out0_A_4 (F := F) c i arg1 harg1 arg2 harg2 arg3 harg3 arg4 harg4 arg5 harg5 arg6 harg6 x0 x1 x2 x3 =
    blkE x0 x1 x2 x3 := by
  unfold out0_A_4
  rw [View.read_writes_eq_canon _ _ _ (cover0_A_4 c i arg1 harg1 arg2 harg2 arg3 harg3 arg4 harg4 arg5 harg5 arg6 harg6 x0 x1 x2 x3)]
  funext y
  refine View.canon_apply_of_pieces (blkE x0 x1 x2 x3) _ ?_ y
    (cover0_A_4 c i arg1 harg1 arg2 harg2 arg3 harg3 arg4 harg4 arg5 harg5 arg6 harg6 x0 x1 x2 x3 y)
  unfold kernelRun0_A
  dsimp only
  sl_unfold_run_names
  intro p hp
  rw [View.readAt_eq_ld, harg1.read_unread, View.ld_unit_zero (S := S256x1024) (by decide)] at hp
  obtain ⟨k, hk⟩ := mem_pb_fst (F := F) _ _ _ _ _ _ _ _ _ _ _ _ _ _ _ _ _ _ _ _ _ (by decide +kernel) p hp
  rw [trip_fst, List.mem_singleton] at hk
  subst hk
  intro z
  refine (cast_read (α := BitVec 32) (bestE (sL x0 x1 x2 x3 (hd k)) (sR x0 x1 x2 x3 (hd k))) z).trans ?_
  exact (congrArg (blkE x0 x1 x2 x3) (emb_off5 k z)).symm

/-- The block of gates a grid point leaves. -/
theorem out_gate : out0_A_5 (F := F) c i arg1 harg1 arg2 harg2 arg3 harg3 arg4 harg4 arg5 harg5 arg6 harg6 x0 x1 x2 x3 =
    blkG x0 x1 x2 x3 := by
  unfold out0_A_5
  rw [View.read_writes_eq_canon _ _ _ (cover0_A_5 c i arg1 harg1 arg2 harg2 arg3 harg3 arg4 harg4 arg5 harg5 arg6 harg6 x0 x1 x2 x3)]
  funext y
  refine View.canon_apply_of_pieces (blkG x0 x1 x2 x3) _ ?_ y
    (cover0_A_5 c i arg1 harg1 arg2 harg2 arg3 harg3 arg4 harg4 arg5 harg5 arg6 harg6 x0 x1 x2 x3 y)
  unfold kernelRun0_A
  dsimp only
  sl_unfold_run_names
  intro p hp
  rw [View.readAt_eq_ld, harg1.read_unread, View.ld_unit_zero (S := S256x1024) (by decide)] at hp
  obtain ⟨k, hk⟩ := mem_pb_snd (F := F) _ _ _ _ _ _ _ _ _ _ _ _ _ _ _ _ _ _ _ _ _ (by decide +kernel) p hp
  rw [trip_snd, List.mem_singleton] at hk
  subst hk
  intro z
  refine (cast_read (α := F .f32) (gate (bestF (sL x0 x1 x2 x3 (hd k)) (sR x0 x1 x2 x3 (hd k)))) z).trans ?_
  exact (congrArg (blkG x0 x1 x2 x3) (emb_off5 k z)).symm

end Run

end Cert.Route
-- ==== Proof.Route.Picks.lean ====
/-
  The order in which a stable descending sort lists the positions of a column, as a property of a sequence of positions
  (`Picks`), and the three sequences that have it: the rounds of a repeated maximum (`picks_pick`), the positions of the
  host's stable sort (`picks_sorted`), and the rounds on a kept part of the column that leaves out nothing the first `k`
  positions could need (`Picks.lift`). Two sequences with the property agree (`Picks.unique`).
-/
module

public import Idealize.ShloMosaic.PureOps
public import Idealize.ShloMosaic.PureOps.Ideal
public import Idealize.ShloMosaic.Lib.SortFacts

@[expose] public section

noncomputable section

namespace Cert.Route

open Idealize.ShloMosaic

variable {n : ℕ}

/-- Position `p` is listed before position `q`: its entry is greater, or equal at a lower position. -/
def Before (x : Fin n → EReal) (p q : Fin n) : Prop := x q < x p ∨ (x p = x q ∧ p < q)

theorem Before.le {x : Fin n → EReal} {p q : Fin n} (h : Before x p q) : x q ≤ x p := by
  rcases h with h | h
  · exact h.le
  · exact h.1.ge

theorem Before.asymm {x : Fin n → EReal} {p q : Fin n} (h : Before x p q) (h' : Before x q p) : False := by
  rcases h with h | h <;> rcases h' with h' | h'
  · exact lt_asymm h h'
  · exact absurd h'.1 h.ne
  · exact absurd h.1 h'.ne
  · exact lt_asymm h.2 h'.2

theorem Before.trans {x : Fin n → EReal} {p q r : Fin n} (h : Before x p q) (h' : Before x q r) : Before x p r := by
  rcases h with h | h <;> rcases h' with h' | h'
  · exact .inl (h'.trans h)
  · exact .inl (h'.1 ▸ h)
  · exact .inl (h.1 ▸ h')
  · exact .inr ⟨h.1.trans h'.1, h.2.trans h'.2⟩

theorem before_total (x : Fin n → EReal) {p q : Fin n} (h : p ≠ q) : Before x p q ∨ Before x q p := by
  rcases lt_trichotomy (x p) (x q) with h' | h' | h'
  · exact .inr (.inl h')
  · rcases lt_or_gt_of_ne h with h'' | h''
    · exact .inl (.inr ⟨h', h''⟩)
    · exact .inr (.inr ⟨h'.symm, h''⟩)
  · exact .inl (.inl h')

/-- The first `k` terms of `f` are the first `k` positions in the order: each is new, and before every position that is
    neither an earlier term nor itself. -/
def Picks (x : Fin n → EReal) (f : ℕ → Fin n) (k : ℕ) : Prop :=
  ∀ j < k, (∀ i < j, f i ≠ f j) ∧ ∀ p, (∀ i < j, f i ≠ p) → p ≠ f j → Before x (f j) p

/-- Two sequences that list the first `k` positions are the same. -/
theorem Picks.unique {x : Fin n → EReal} {f g : ℕ → Fin n} {k : ℕ} (hf : Picks x f k) (hg : Picks x g k) :
    ∀ j < k, f j = g j := by
  intro j
  induction j using Nat.strong_induction_on with
  | _ j ih =>
    intro hj
    by_contra hne
    have h1 := (hf j hj).2 (g j) (fun i hi => by rw [ih i hi (hi.trans hj)]; exact (hg j hj).1 i hi) (Ne.symm hne)
    have h2 := (hg j hj).2 (f j) (fun i hi => by rw [← ih i hi (hi.trans hj)]; exact (hf j hj).1 i hi) hne
    exact h1.asymm h2

/-- An earlier term is before a later one. -/
theorem Picks.before {x : Fin n → EReal} {f : ℕ → Fin n} {k : ℕ} (hf : Picks x f k) {i j : ℕ} (hij : i < j) (hj : j < k) :
    Before x (f i) (f j) :=
  (hf i (hij.trans hj)).2 (f j) (fun i' hi' => (hf j hj).1 i' (hi'.trans hij)) (Ne.symm ((hf j hj).1 i hij))

theorem Picks.anti {x : Fin n → EReal} {f : ℕ → Fin n} {k : ℕ} (hf : Picks x f k) {i j : ℕ} (hij : i ≤ j) (hj : j < k) :
    x (f j) ≤ x (f i) := by
  rcases hij.eq_or_lt with rfl | h
  · exact le_rfl
  · exact (hf.before h hj).le

theorem Picks.mono {x : Fin n → EReal} {f : ℕ → Fin n} {k k' : ℕ} (hf : Picks x f k) (h : k' ≤ k) : Picks x f k' :=
  fun j hj => hf j (hj.trans_le h)

/-! ## The rounds of a repeated maximum -/

/-- Some position is before all the others. -/
theorem exists_top [NeZero n] (c : Fin n → EReal) : ∃ p, ∀ q, q ≠ p → Before c p q := by
  have key : ∀ s : Finset (Fin n), s.Nonempty → ∃ p ∈ s, ∀ q ∈ s, q ≠ p → Before c p q := by
    intro s hs
    induction hs using Finset.Nonempty.cons_induction with
    | singleton a => exact ⟨a, Finset.mem_singleton_self a, fun q hq h => absurd (Finset.mem_singleton.mp hq) h⟩
    | cons a s ha hs ih =>
      obtain ⟨p, hp, hb⟩ := ih
      rcases before_total c (show a ≠ p from fun h => ha (h ▸ hp)) with h | h
      · refine ⟨a, Finset.mem_cons_self a s, fun q hq hqa => ?_⟩
        rcases Finset.mem_cons.mp hq with rfl | hq
        · exact absurd rfl hqa
        · by_cases hqp : q = p
          · exact hqp ▸ h
          · exact h.trans (hb q hq hqp)
      · refine ⟨p, Finset.mem_cons.mpr (.inr hp), fun q hq hqp => ?_⟩
        rcases Finset.mem_cons.mp hq with rfl | hq
        · exact h
        · exact hb q hq hqp
  obtain ⟨p, -, h⟩ := key Finset.univ ⟨0, Finset.mem_univ _⟩
  exact ⟨p, fun q => h q (Finset.mem_univ q)⟩

/-- The position of the column's first greatest entry. -/
def top [NeZero n] (c : Fin n → EReal) : Fin n := (exists_top c).choose

theorem before_top [NeZero n] (c : Fin n → EReal) {q : Fin n} (h : q ≠ top c) : Before c (top c) q :=
  (exists_top c).choose_spec q h

theorem le_top' [NeZero n] (c : Fin n → EReal) (q : Fin n) : c q ≤ c (top c) := by
  by_cases h : q = top c
  · rw [h]
  · exact (before_top c h).le

theorem top_le [NeZero n] (c : Fin n → EReal) {q : Fin n} (h : c q = c (top c)) : top c ≤ q := by
  by_cases hq : q = top c
  · exact hq.ge
  · rcases before_top c hq with h' | h'
    · exact absurd h h'.ne
    · exact h'.2.le

/-- The column after `j` rounds: each round writes −∞ at the first greatest entry. -/
def cur [NeZero n] (x : Fin n → EReal) : ℕ → Fin n → EReal
  | 0 => x
  | j + 1 => fun p => if p = top (cur x j) then ⊥ else cur x j p

/-- The position round `j` picks. -/
def pick [NeZero n] (x : Fin n → EReal) (j : ℕ) : Fin n := top (cur x j)

theorem cur_picked [NeZero n] (x : Fin n → EReal) (j : ℕ) (p : Fin n) (h : ∃ i < j, pick x i = p) : cur x j p = ⊥ := by
  induction j with
  | zero => obtain ⟨i, hi, -⟩ := h; exact absurd hi (Nat.not_lt_zero i)
  | succ j ih =>
    show (if p = pick x j then ⊥ else cur x j p) = ⊥
    split
    · rfl
    · rename_i hne
      obtain ⟨i, hi, rfl⟩ := h
      rcases Nat.lt_succ_iff_lt_or_eq.mp hi with hi | rfl
      · exact ih ⟨i, hi, rfl⟩
      · exact absurd rfl hne

theorem cur_new [NeZero n] (x : Fin n → EReal) (j : ℕ) (p : Fin n) (h : ∀ i < j, pick x i ≠ p) : cur x j p = x p := by
  induction j with
  | zero => rfl
  | succ j ih =>
    show (if p = pick x j then ⊥ else cur x j p) = x p
    rw [if_neg (fun e => h j (Nat.lt_succ_self j) e.symm), ih fun i hi => h i (hi.trans (Nat.lt_succ_self j))]

/-- Fewer than `n` terms leave a position out. -/
theorem exists_new (f : ℕ → Fin n) {j : ℕ} (hj : j < n) : ∃ p, ∀ i < j, f i ≠ p := by
  by_contra hcon
  push Not at hcon
  have h : (Finset.univ : Finset (Fin n)) ⊆ (Finset.range j).image f := fun p _ => by
    obtain ⟨i, hi, e⟩ := hcon p
    exact Finset.mem_image.mpr ⟨i, Finset.mem_range.mpr hi, e⟩
  have := (Finset.card_le_card h).trans Finset.card_image_le
  rw [Finset.card_univ, Fintype.card_fin, Finset.card_range] at this
  omega

theorem pick_new [NeZero n] {x : Fin n → EReal} (hx : ∀ p, x p ≠ ⊥) {j : ℕ} (hj : j < n) : ∀ i < j, pick x i ≠ pick x j := by
  intro i hi e
  obtain ⟨p, hp⟩ := exists_new (pick x) hj
  have h1 := le_top' (cur x j) p
  have h2 : cur x j (top (cur x j)) = ⊥ := cur_picked x j _ ⟨i, hi, e⟩
  rw [h2, cur_new x j p hp] at h1
  exact hx p (le_bot_iff.mp h1)

/-- On a column without −∞ the rounds of a repeated maximum list the first positions of the order. -/
theorem picks_pick [NeZero n] {x : Fin n → EReal} (hx : ∀ p, x p ≠ ⊥) : Picks x (pick x) n := by
  intro j hj
  have hnew := pick_new hx hj
  refine ⟨hnew, fun p hp hne => ?_⟩
  have h := before_top (cur x j) (q := p) hne
  unfold Before at h ⊢
  have e : cur x j (top (cur x j)) = x (top (cur x j)) := cur_new x j _ hnew
  rw [e, cur_new x j p hp] at h
  exact h

/-- The value round `j` finds. -/
theorem cur_pick [NeZero n] {x : Fin n → EReal} (hx : ∀ p, x p ≠ ⊥) {j : ℕ} (hj : j < n) :
    cur x j (pick x j) = x (pick x j) :=
  cur_new x j _ (pick_new hx hj)

/-! ## The host's stable sort -/

/-- Two relations that compare later members of the list with earlier ones alike sort it alike. -/
theorem stableSort_eq {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The host's relation: the entry at `p` is greater than the entry at `q`. -/
abbrev gtRel (x : Fin n → EReal) (p q : Fin n) : Bool := decide (x q < x p)

open Classical in
theorem pairwise_sorted (x : Fin n → EReal) : (sortPositions n (gtRel x)).Pairwise (Before x) := by
  have h1 : sortPositions n (gtRel x) = sortPositions n fun p q => decide (Before x p q) := by
    unfold sortPositions
    refine stableSort_eq _ _ _ ((List.pairwise_lt_finRange n).imp fun {a b} hab => ?_)
    unfold gtRel Before
    simp [hab.le]
  have h2 : (sortPositions n fun p q => decide (Before x p q)).Pairwise fun b c => decide (Before x c b) = false :=
    pairwise_stableSort (fun p q => decide (Before x p q)) _
      (fun a b h => by simp only [decide_eq_true_eq, decide_eq_false_iff_not] at h ⊢; exact fun h' => h.asymm h')
      (fun _ _ h => h)
      (fun a b c hab hbc => by
        simp only [decide_eq_false_iff_not] at hab hbc ⊢
        intro hac
        by_cases e1 : a = b
        · exact hbc (e1 ▸ hac)
        · by_cases e2 : b = c
          · exact hab (e2 ▸ hac)
          · have i1 := (before_total x e1).resolve_left hab
            have i2 := (before_total x e2).resolve_left hbc
            exact hac.asymm (i2.trans i1))
      (List.finRange n)
  rw [h1]
  have h3 : (sortPositions n fun p q => decide (Before x p q)).Nodup :=
    ((perm_sortPositions n _).nodup_iff).mpr (List.nodup_finRange n)
  refine (h3.and h2).imp fun {a b} hab => ?_
  exact (before_total x hab.1).resolve_right fun h => by simp [h] at hab

/-- The position the host's stable descending sort puts at `j`. -/
def sorted [NeZero n] (x : Fin n → EReal) (j : ℕ) : Fin n :=
  if h : j < n then sortedFrom (gtRel x) ⟨j, h⟩ else 0

theorem sorted_before [NeZero n] (x : Fin n → EReal) {i j : ℕ} (hij : i < j) (hj : j < n) : Before x (sorted x i) (sorted x j) := by
  unfold sorted
  rw [dif_pos (hij.trans hj), dif_pos hj]
  unfold sortedFrom
  exact List.pairwise_iff_get.mp (pairwise_sorted x) _ _ hij

/-- The host's stable sort lists the positions in the order. -/
theorem picks_sorted [NeZero n] (x : Fin n → EReal) : Picks x (sorted x) n := by
  intro j hj
  refine ⟨fun i hi e => ?_, fun p hp hne => ?_⟩
  · have h := sorted_before x hi hj
    rw [e] at h
    exact h.asymm h
  · obtain ⟨k, rfl⟩ := sortedFrom_surjective (gtRel x) p
    have hk : sorted x k.val = sortedFrom (gtRel x) k := by unfold sorted; rw [dif_pos k.isLt]
    rw [← hk] at hp hne ⊢
    rcases lt_trichotomy j k.val with h | h | h
    · exact sorted_before x h k.isLt
    · exact absurd (h ▸ rfl) hne
    · exact absurd rfl (hp k.val h)

/-! ## A kept part of the column -/

/-- The first `k` positions of a kept part of the column, placed in the column, are the column's first `k` positions, when
    the part keeps the order of positions and every position left out has at least `k` kept positions before it. -/
theorem Picks.lift {m : ℕ} {x : Fin n → EReal} {e : Fin m → Fin n} (he : StrictMono e) {f : ℕ → Fin m} {k : ℕ}
    (hf : Picks (fun i => x (e i)) f k)
    (hout : ∀ p, (∀ i, e i ≠ p) → ∃ s : Finset (Fin m), k ≤ s.card ∧ ∀ i ∈ s, Before x (e i) p) :
    Picks x (fun j => e (f j)) k := by
  intro j hj
  refine ⟨fun i hi h => (hf j hj).1 i hi (he.injective h), fun p hp hne => ?_⟩
  have up : ∀ a b : Fin m, Before (fun i => x (e i)) a b → Before x (e a) (e b) := fun a b h => by
    rcases h with h | h
    · exact .inl h
    · exact .inr ⟨h.1, he h.2⟩
  by_cases hin : ∃ i, e i = p
  · obtain ⟨i, rfl⟩ := hin
    exact up _ _ ((hf j hj).2 i (fun i' hi' h => hp i' hi' (congrArg e h)) fun h => hne (congrArg e h))
  · push Not at hin
    obtain ⟨s, hs, hb⟩ := hout p hin
    have hex : ∃ i ∈ s, ∀ i' < j, f i' ≠ i := by
      by_contra hcon
      push Not at hcon
      have hsub : s ⊆ (Finset.range j).image f := fun i hi => by
        obtain ⟨i', hi', h⟩ := hcon i hi
        exact Finset.mem_image.mpr ⟨i', Finset.mem_range.mpr hi', h⟩
      have := (Finset.card_le_card hsub).trans Finset.card_image_le
      rw [Finset.card_range] at this
      omega
    obtain ⟨i, hi, hnew⟩ := hex
    by_cases hij : i = f j
    · subst hij; exact hb _ hi
    · exact (up _ _ ((hf j hj).2 i hnew hij)).trans (hb i hi)

end Cert.Route

end
-- ==== Proof.Route.Prune.lean ====
/-
  The pruned candidates: of the 256 sums `u a + v b` of two descending lists of sixteen, in row-major order, the first sixteen
  in the order lie among the 80 kept ones (`a = 0`; `1 ≤ a ≤ 7` with `b ≤ 7`; `8 ≤ a` with `b = 0`), in the kept ones' order.
-/
module

public import proofs.«01_k».proof.Proof.Route.Picks

@[expose] public section

noncomputable section

namespace Cert.Route

/-- First coordinate of the kept candidate `c`. -/
def keepA (c : ℕ) : ℕ := if c < 16 then 0 else if c < 72 then 1 + (c - 16) / 8 else 8 + (c - 72)
/-- Second coordinate of the kept candidate `c`. -/
def keepB (c : ℕ) : ℕ := if c < 16 then c else if c < 72 then (c - 16) % 8 else 0

theorem keepA_lt (c : Fin 80) : keepA c.val < 16 := by have := c.isLt; unfold keepA; split <;> (try split) <;> omega
theorem keepB_lt (c : Fin 80) : keepB c.val < 16 := by have := c.isLt; unfold keepB; split <;> (try split) <;> omega

/-- The place of the kept candidate `c` among the 256. -/
def keep (c : Fin 80) : Fin 256 :=
  ⟨16 * keepA c.val + keepB c.val, by have := keepA_lt c; have := keepB_lt c; omega⟩

theorem keep_strictMono : StrictMono keep := by
  intro c d h
  have hc := c.isLt
  have hd := d.isLt
  have h' : c.val < d.val := h
  show 16 * keepA c.val + keepB c.val < 16 * keepA d.val + keepB d.val
  unfold keepA keepB
  split <;> (try split) <;> (try split) <;> (try split) <;> omega

/-- The kept candidates that are at most the place `p` in both coordinates. -/
def below (p : Fin 256) : Finset (Fin 80) :=
  Finset.univ.filter fun c => keepA c.val ≤ p.val / 16 ∧ keepB c.val ≤ p.val % 16

set_option maxRecDepth 16384 in
theorem card_below : ∀ p : Fin 256, (∀ c, keep c ≠ p) → 16 ≤ (below p).card := by
  decide +kernel

/-- The sum at place `p` of the 256, in row-major order. -/
def sums (u v : Fin 16 → EReal) (p : Fin 256) : EReal :=
  u ⟨p.val / 16, by have := p.isLt; omega⟩ + v ⟨p.val % 16, Nat.mod_lt _ (by decide)⟩

theorem sums_keep (u v : Fin 16 → EReal) (c : Fin 80) :
    sums u v (keep c) = u ⟨keepA c.val, keepA_lt c⟩ + v ⟨keepB c.val, keepB_lt c⟩ := by
  have hb := keepB_lt c
  have e1 : (16 * keepA c.val + keepB c.val) / 16 = keepA c.val := by omega
  have e2 : (16 * keepA c.val + keepB c.val) % 16 = keepB c.val := by omega
  unfold sums keep
  exact congrArg₂ (· + ·) (congrArg u (Fin.ext e1)) (congrArg v (Fin.ext e2))

/-- The first sixteen of the kept sums are the first sixteen of all the sums. -/
theorem picks_keep {u v : Fin 16 → EReal} (hu : Antitone u) (hv : Antitone v) {f : ℕ → Fin 80}
    (hf : Picks (fun c => sums u v (keep c)) f 16) : Picks (sums u v) (fun j => keep (f j)) 16 := by
  refine hf.lift keep_strictMono fun p hp => ⟨below p, card_below p hp, fun c hc => ?_⟩
  obtain ⟨ha, hb⟩ := (Finset.mem_filter.mp hc).2
  have hle : sums u v p ≤ sums u v (keep c) := by
    rw [sums_keep]
    exact add_le_add (hu (Fin.mk_le_mk.mpr ha)) (hv (Fin.mk_le_mk.mpr hb))
  rcases hle.lt_or_eq with h | h
  · exact .inl h
  · refine .inr ⟨h.symm, ?_⟩
    have hlt : (keep c).val ≤ p.val := by
      show 16 * keepA c.val + keepB c.val ≤ p.val
      omega
    exact lt_of_le_of_ne hlt (fun e => hp c e)

/-- The host's first sixteen sums are the rounds' on the kept sums, when no kept sum is −∞. -/
theorem sorted_eq_keep {u v : Fin 16 → EReal} (hu : Antitone u) (hv : Antitone v)
    (hne : ∀ c, sums u v (keep c) ≠ ⊥) {j : ℕ} (hj : j < 16) :
    sorted (sums u v) j = keep (pick (fun c => sums u v (keep c)) j) :=
  ((picks_sorted (sums u v)).mono (by decide)).unique (picks_keep hu hv ((picks_pick hne).mono (by decide))) j hj

end Cert.Route

end
-- ==== Proof.Route.Folds.lean ====
module

public import proofs.«01_k».proof.Proof.Route.Prune
public import Idealize.ShloMosaic.PureOps.Reduce

@[expose] public section

noncomputable section

/-! A column's largest entry, its first place, and the entry kept at one place, as folds over the
    column. -/

namespace Cert.Route

open Idealize.ShloMosaic

variable {n : ℕ}

/-- The running maximum from minus infinity is the entry at the first largest place. -/
theorem fold_max_eq [NeZero n] (x : Fin n → EReal) :
    Finset.fold max ⊥ (fun k => x k) Finset.univ = x (top x) :=
  le_antisymm ((Finset.fold_max_le _).mpr ⟨bot_le, fun k _ => le_top' x k⟩)
    ((Finset.le_fold_max _).mpr (.inr ⟨top x, Finset.mem_univ _, le_rfl⟩))

theorem toInt_minsi (a b : BitVec 32) : (IntOp.minsi a b).toInt = min a.toInt b.toInt := by
  unfold IntOp.minsi
  by_cases h : a.toInt < b.toInt
  · rw [if_pos (by rw [BitVec.slt_eq_decide]; exact decide_eq_true h), min_eq_left h.le]
  · rw [if_neg (by rw [BitVec.slt_eq_decide]; simpa using h), min_eq_right (not_lt.mp h)]

theorem toInt_maxsi (a b : BitVec 32) : (IntOp.maxsi a b).toInt = max a.toInt b.toInt := by
  unfold IntOp.maxsi
  by_cases h : b.toInt < a.toInt
  · rw [if_pos (by rw [BitVec.slt_eq_decide]; exact decide_eq_true h), max_eq_left h.le]
  · rw [if_neg (by rw [BitVec.slt_eq_decide]; simpa using h), max_eq_right (not_lt.mp h)]

/-- A running signed minimum is the entry that is below every other and below the start. -/
theorem fold_minsi_eq (f : Fin n → BitVec 32) (b : BitVec 32) (p : Fin n) (hb : (f p).toInt ≤ b.toInt)
    (hf : ∀ k, (f p).toInt ≤ (f k).toInt) : Finset.fold IntOp.minsi b f Finset.univ = f p := by
  apply BitVec.eq_of_toInt_eq
  rw [← Finset.fold_hom (op := IntOp.minsi) (op' := min) (m := BitVec.toInt) toInt_minsi]
  exact le_antisymm ((Finset.fold_min_le _).mpr (.inr ⟨p, Finset.mem_univ _, le_rfl⟩))
    ((Finset.le_fold_min _).mpr ⟨hb, fun k _ => hf k⟩)

/-- A running signed maximum is the entry that is above every other and above the start. -/
theorem fold_maxsi_eq (f : Fin n → BitVec 32) (b : BitVec 32) (p : Fin n) (hb : b.toInt ≤ (f p).toInt)
    (hf : ∀ k, (f k).toInt ≤ (f p).toInt) : Finset.fold IntOp.maxsi b f Finset.univ = f p := by
  apply BitVec.eq_of_toInt_eq
  rw [← Finset.fold_hom (op := IntOp.maxsi) (op' := max) (m := BitVec.toInt) toInt_maxsi]
  exact le_antisymm ((Finset.fold_max_le _).mpr ⟨hb, fun k _ => hf k⟩)
    ((Finset.le_fold_max _).mpr (.inr ⟨p, Finset.mem_univ _, le_rfl⟩))

theorem toInt_ofNat_small {k : ℕ} (hk : k < 2 ^ 31) : (BitVec.ofNat 32 k).toInt = k := by
  have h : (BitVec.ofNat 32 k).toNat = k := by rw [BitVec.toNat_ofNat]; exact Nat.mod_eq_of_lt (by omega)
  rw [BitVec.toInt_eq_toNat_of_lt (by omega), h]

/-- The least row number among the rows holding the largest entry is the first largest place. -/
theorem fold_first_eq [NeZero n] (hn : n < 2 ^ 31) (x : Fin n → EReal) :
    Finset.fold IntOp.minsi 2147483647#32
      (fun k => if x k = x (top x) then BitVec.ofNat 32 k.val else BitVec.ofNat 32 n) Finset.univ =
      BitVec.ofNat 32 (top x).val := by
  have hp : (if x (top x) = x (top x) then BitVec.ofNat 32 (top x).val else BitVec.ofNat 32 n) =
      BitVec.ofNat 32 (top x).val := if_pos rfl
  have ht : (BitVec.ofNat 32 (top x).val).toInt = (top x).val := toInt_ofNat_small (by have := (top x).isLt; omega)
  rw [fold_minsi_eq _ _ (top x) _ _]
  · exact hp
  · rw [hp, ht, show (2147483647#32).toInt = 2147483647 by decide]
    have := (top x).isLt; omega
  · intro k
    rw [hp, ht]
    by_cases h : x k = x (top x)
    · rw [if_pos h, toInt_ofNat_small (by have := k.isLt; omega)]
      exact_mod_cast top_le x h
    · rw [if_neg h, toInt_ofNat_small hn]
      exact_mod_cast (top x).isLt.le

/-- The largest of an entry at one place and minus ones elsewhere is the entry, if it is not negative. -/
theorem fold_only_eq (c : Fin n → BitVec 32) (p : Fin n) (hp : 0 ≤ (c p).toInt) :
    Finset.fold IntOp.maxsi 2147483648#32 (fun k => if k = p then c k else 4294967295#32) Finset.univ = c p := by
  have hv : (if p = p then c p else 4294967295#32) = c p := if_pos rfl
  rw [fold_maxsi_eq _ _ p _ _]
  · exact hv
  · rw [hv, show (2147483648#32).toInt = -2147483648 by decide]; omega
  · intro k
    rw [hv]
    by_cases h : k = p
    · rw [if_pos h, h]
    · rw [if_neg h, show (4294967295#32).toInt = -1 by decide]; omega

/-- Two small row numbers agree as words only when they agree. -/
theorem ofNat_inj_small {a b : ℕ} (ha : a < 2 ^ 32) (hb : b < 2 ^ 32) :
    BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

/-- A selection on the equality of two small row numbers. -/
theorem select_eq_small {α : Type} {a b : ℕ} (ha : a < 2 ^ 32) (hb : b < 2 ^ 32) (x y : α) :
    Scalar.select (IntOp.cmpi .eq (BitVec.ofNat 32 a) (BitVec.ofNat 32 b)) x y = if a = b then x else y := by
  unfold Scalar.select IntOp.cmpi
  by_cases h : a = b
  · subst h; simp
  · have : BitVec.ofNat 32 a ≠ BitVec.ofNat 32 b := fun e => h ((ofNat_inj_small ha hb).mp e)
    have hf : (BitVec.ofNat 32 a == BitVec.ofNat 32 b) = false := beq_false_of_ne this
    rw [if_neg h]
    show (if BitVec.ofBool (BitVec.ofNat 32 a == BitVec.ofNat 32 b) = 1 then x else y) = y
    rw [hf]
    rfl

end Cert.Route
-- ==== Proof.Route.Columns.lean ====
module

public import proofs.«01_k».proof.Proof.Route.Block
public import proofs.«01_k».proof.Proof.Route.Folds
public import Idealize.ShloMosaic.PureOps.IdealRules

@[expose] public section

set_option maxRecDepth 16384

noncomputable section

/-! The rounds on blocks, read one column at a time: each column goes through the rounds of a
    repeated maximum. -/

namespace Cert.Route

open Cert.KernelIdeal Cert.KernelIdeal.Gen Idealize.ShloMosaic Idealize.ShloMosaic.TcCoe Idealize.SL.Sem

theorem ofBits_neg_inf : Ideal.ofBits .f32 4286578688#32 = (⊥ : EReal) := by
  simp [Ideal.ofBits, Ideal.ieee]

theorem rows16_read (r : Fin 16) (t : Fin 256) :
    rows16 (ix2 (n0 := 16) (n1 := 256) r t) = BitVec.ofNat 32 r.val := by
  show BitVec.ofNat 32 (0 * 256 + r.val) = BitVec.ofNat 32 r.val
  rw [Nat.zero_mul, Nat.zero_add]

/-- A row written into a block of 16 rows, read. -/
theorem putF_read (j : ℕ) (hj : j < 2 ^ 32) (q : FVec Ideal S1x256 .f32) (v : FVec Ideal S16x256 .f32) (r : Fin 16)
    (t : Fin 256) : putF (BitVec.ofNat 32 j) q v (ix2 (n0 := 16) (n1 := 256) r t) =
      if r.val = j then q (ix2 (n0 := 1) (n1 := 256) 0 t) else v (ix2 (n0 := 16) (n1 := 256) r t) := by
  rw [← select_eq_small (by have := r.isLt; omega) hj, ← rows16_read r t]
  pointwise [putF]

/-- An integer row written into a block of 16 rows, read. -/
theorem putI_read (j : ℕ) (hj : j < 2 ^ 32) (q : IVec S1x256 32) (v : IVec S16x256 32) (r : Fin 16)
    (t : Fin 256) : putI (BitVec.ofNat 32 j) q v (ix2 (n0 := 16) (n1 := 256) r t) =
      if r.val = j then q (ix2 (n0 := 1) (n1 := 256) 0 t) else v (ix2 (n0 := 16) (n1 := 256) r t) := by
  rw [← select_eq_small (by have := r.isLt; omega) hj, ← rows16_read r t]
  pointwise [putI]

/-- The integer at the candidate whose place is given, read. -/
theorem pickI_read (q : IVec S1x256 32) (ci : IVec S80x256 32) (r : Fin 1) (t : Fin 256) (p : Fin 80)
    (hq : q (ix2 (n0 := 1) (n1 := 256) 0 t) = BitVec.ofNat 32 p.val)
    (hc : 0 ≤ (ci (ix2 (n0 := 80) (n1 := 256) p t)).toInt) :
    pickI q ci (ix2 (n0 := 1) (n1 := 256) r t) = ci (ix2 (n0 := 80) (n1 := 256) p t) := by
  rw [← fold_only_eq (fun k => ci (ix2 (n0 := 80) (n1 := 256) k t)) p hc]
  pointwise [pickI]
  rw [hq]
  refine congrArg (fun f => Finset.fold IntOp.maxsi 2147483648#32 f Finset.univ) (funext fun k => ?_)
  rw [show rows80 (ix2 (n0 := 80) (n1 := 256) k t) = BitVec.ofNat 32 k.val from by
    show BitVec.ofNat 32 (0 * 256 + k.val) = BitVec.ofNat 32 k.val
    rw [Nat.zero_mul, Nat.zero_add],
    select_eq_small (by have := k.isLt; omega) (by have := p.isLt; omega)]
  simp only [Fin.ext_iff]

/-! ### 128 rows -/

/-- A column of a block of 128 rows. -/
def col128 (s : FVec Ideal S128x256 .f32) (t : Fin 256) : Fin 128 → EReal := fun k => s (ix2 (n0 := 128) (n1 := 256) k t)

theorem rows128_read (r : Fin 128) (t : Fin 256) :
    rows128 (ix2 (n0 := 128) (n1 := 256) r t) = BitVec.ofNat 32 r.val := by
  show BitVec.ofNat 32 (0 * 256 + r.val) = BitVec.ofNat 32 r.val
  rw [Nat.zero_mul, Nat.zero_add]

/-- The largest entry of a column, read. -/
theorem mx128_read (s : FVec Ideal S128x256 .f32) (r : Fin 1) (t : Fin 256) :
    mx128 s (ix2 (n0 := 1) (n1 := 256) r t) = col128 s t (top (col128 s t)) := by
  rw [← fold_max_eq (col128 s t), ← ofBits_neg_inf]
  pointwise [mx128]
  rfl

/-- The first place of the largest entry of a column, read. -/
theorem am128_read (s : FVec Ideal S128x256 .f32) (r : Fin 1) (t : Fin 256) :
    am128 s (ix2 (n0 := 1) (n1 := 256) r t) = BitVec.ofNat 32 (top (col128 s t)).val := by
  rw [← fold_first_eq (by norm_num) (col128 s t), ← mx128_read s 0 t]
  pointwise [am128]
  simp only [rows128_read]
  rfl

/-- A round takes the first largest entry of each column to minus infinity. -/
theorem nx128_col (s : FVec Ideal S128x256 .f32) (t : Fin 256) :
    col128 (nx128 s) t = fun p => if p = top (col128 s t) then ⊥ else col128 s t p := by
  funext p
  show nx128 s (ix2 (n0 := 128) (n1 := 256) p t) = _
  rw [← ofBits_neg_inf]
  pointwise [nx128]
  rw [rows128_read, am128_read, select_eq_small (by have := p.isLt; omega) (by have := (top (col128 s t)).isLt; omega)]
  simp only [Fin.ext_iff]
  rfl

/-- The column after `j` rounds. -/
theorem it128_col (s : FVec Ideal S128x256 .f32) (t : Fin 256) (j : ℕ) :
    col128 (it128 s j) t = cur (col128 s t) j := by
  induction j with
  | zero => rfl
  | succ j ih =>
    show col128 (nx128 (it128 s j)) t = fun p => if p = top (cur (col128 s t) j) then ⊥ else cur (col128 s t) j p
    rw [nx128_col, ih]

/-- The value picked in round `r`, in a column with no minus infinity. -/
theorem topF128_read (s : FVec Ideal S128x256 .f32) (t : Fin 256) (hx : ∀ p, col128 s t p ≠ ⊥)
    (j : ℕ) (hj : j ≤ 16) (r : Fin 16) (hr : r.val < j) :
    topF128 s j (ix2 (n0 := 16) (n1 := 256) r t) = col128 s t (pick (col128 s t) r.val) := by
  induction j with
  | zero => exact absurd hr (Nat.not_lt_zero _)
  | succ j ih =>
    show putF (BitVec.ofNat 32 j) (mx128 (it128 s j)) (topF128 s j) (ix2 (n0 := 16) (n1 := 256) r t) = _
    rw [putF_read _ (by omega)]
    by_cases h : r.val = j
    · rw [if_pos h, mx128_read, it128_col, h]
      exact cur_pick hx (by omega)
    · rw [if_neg h]
      exact ih (by omega) (by omega)

/-- The row picked in round `r`. -/
theorem topI128_read (s : FVec Ideal S128x256 .f32) (t : Fin 256)
    (j : ℕ) (hj : j ≤ 16) (r : Fin 16) (hr : r.val < j) :
    topI128 s j (ix2 (n0 := 16) (n1 := 256) r t) = BitVec.ofNat 32 (pick (col128 s t) r.val).val := by
  induction j with
  | zero => exact absurd hr (Nat.not_lt_zero _)
  | succ j ih =>
    show putI (BitVec.ofNat 32 j) (am128 (it128 s j)) (topI128 s j) (ix2 (n0 := 16) (n1 := 256) r t) = _
    rw [putI_read _ (by omega)]
    by_cases h : r.val = j
    · rw [if_pos h, am128_read, it128_col, h]
      rfl
    · rw [if_neg h]
      exact ih (by omega) (by omega)

/-! ### 80 rows -/

/-- A column of a block of 80 rows. -/
def col80 (s : FVec Ideal S80x256 .f32) (t : Fin 256) : Fin 80 → EReal := fun k => s (ix2 (n0 := 80) (n1 := 256) k t)

theorem rows80_read (r : Fin 80) (t : Fin 256) :
    rows80 (ix2 (n0 := 80) (n1 := 256) r t) = BitVec.ofNat 32 r.val := by
  show BitVec.ofNat 32 (0 * 256 + r.val) = BitVec.ofNat 32 r.val
  rw [Nat.zero_mul, Nat.zero_add]

/-- The largest entry of a column, read. -/
theorem mx80_read (s : FVec Ideal S80x256 .f32) (r : Fin 1) (t : Fin 256) :
    mx80 s (ix2 (n0 := 1) (n1 := 256) r t) = col80 s t (top (col80 s t)) := by
  rw [← fold_max_eq (col80 s t), ← ofBits_neg_inf]
  pointwise [mx80]
  rfl

/-- The first place of the largest entry of a column, read. -/
theorem am80_read (s : FVec Ideal S80x256 .f32) (r : Fin 1) (t : Fin 256) :
    am80 s (ix2 (n0 := 1) (n1 := 256) r t) = BitVec.ofNat 32 (top (col80 s t)).val := by
  rw [← fold_first_eq (by norm_num) (col80 s t), ← mx80_read s 0 t]
  pointwise [am80]
  simp only [rows80_read]
  rfl

/-- A round takes the first largest entry of each column to minus infinity. -/
theorem nx80_col (s : FVec Ideal S80x256 .f32) (t : Fin 256) :
    col80 (nx80 s) t = fun p => if p = top (col80 s t) then ⊥ else col80 s t p := by
  funext p
  show nx80 s (ix2 (n0 := 80) (n1 := 256) p t) = _
  rw [← ofBits_neg_inf]
  pointwise [nx80]
  rw [rows80_read, am80_read, select_eq_small (by have := p.isLt; omega) (by have := (top (col80 s t)).isLt; omega)]
  simp only [Fin.ext_iff]
  rfl

/-- The column after `j` rounds. -/
theorem it80_col (s : FVec Ideal S80x256 .f32) (t : Fin 256) (j : ℕ) :
    col80 (it80 s j) t = cur (col80 s t) j := by
  induction j with
  | zero => rfl
  | succ j ih =>
    show col80 (nx80 (it80 s j)) t = fun p => if p = top (cur (col80 s t) j) then ⊥ else cur (col80 s t) j p
    rw [nx80_col, ih]

/-- The value picked in round `r`, in a column with no minus infinity. -/
theorem topF80_read (s : FVec Ideal S80x256 .f32) (t : Fin 256) (hx : ∀ p, col80 s t p ≠ ⊥)
    (j : ℕ) (hj : j ≤ 16) (r : Fin 16) (hr : r.val < j) :
    topF80 s j (ix2 (n0 := 16) (n1 := 256) r t) = col80 s t (pick (col80 s t) r.val) := by
  induction j with
  | zero => exact absurd hr (Nat.not_lt_zero _)
  | succ j ih =>
    show putF (BitVec.ofNat 32 j) (mx80 (it80 s j)) (topF80 s j) (ix2 (n0 := 16) (n1 := 256) r t) = _
    rw [putF_read _ (by omega)]
    by_cases h : r.val = j
    · rw [if_pos h, mx80_read, it80_col, h]
      exact cur_pick hx (by omega)
    · rw [if_neg h]
      exact ih (by omega) (by omega)

/-- The row picked in round `r`. -/
theorem topI80_read (s : FVec Ideal S80x256 .f32) (t : Fin 256)
    (j : ℕ) (hj : j ≤ 16) (r : Fin 16) (hr : r.val < j) :
    topI80 s j (ix2 (n0 := 16) (n1 := 256) r t) = BitVec.ofNat 32 (pick (col80 s t) r.val).val := by
  induction j with
  | zero => exact absurd hr (Nat.not_lt_zero _)
  | succ j ih =>
    show putI (BitVec.ofNat 32 j) (am80 (it80 s j)) (topI80 s j) (ix2 (n0 := 16) (n1 := 256) r t) = _
    rw [putI_read _ (by omega)]
    by_cases h : r.val = j
    · rw [if_pos h, am80_read, it80_col, h]
      rfl
    · rw [if_neg h]
      exact ih (by omega) (by omega)

end Cert.Route
-- ==== Proof.Route.Cands.lean ====
module

public import proofs.«01_k».proof.Proof.Route.Columns
public import proofs.«01_k».proof.Proof.Route.Prune

@[expose] public section

set_option maxRecDepth 16384

noncomputable section

/-! The 80 candidates of a token and the picks among them. -/

namespace Cert.Route

open Cert.KernelIdeal Cert.KernelIdeal.Gen Idealize.ShloMosaic Idealize.ShloMosaic.TcCoe Idealize.SL.Sem

theorem rowF_read (v : FVec Ideal S16x256 .f32) (j : Fin 16) (r : Fin 1) (t : Fin 256) :
    rowF v j.val (ix2 (n0 := 1) (n1 := 256) r t) = v (ix2 (n0 := 16) (n1 := 256) j t) := by
  have h : S16x256.Slices ![j.val, 0] S1x256 := by revert j; decide +kernel
  rw [← fold_rowF v j.val h]
  have e : (ix2 (n0 := 16) (n1 := 256) j t : S16x256.Idx) = fun i => ⟨(![j.val, 0] : Fin 2 → ℕ) i + (ix2 (n0 := 1) (n1 := 256) r t i).val, by
    fin_cases i
    · show j.val + r.val < 16
      omega
    · show 0 + t.val < 256
      omega⟩ := by
    funext i
    fin_cases i
    · apply Fin.ext
      show j.val = j.val + r.val
      omega
    · apply Fin.ext
      show t.val = 0 + t.val
      omega
  rw [e]
  rfl

theorem rowI_read (v : IVec S16x256 32) (j : Fin 16) (r : Fin 1) (t : Fin 256) :
    rowI v j.val (ix2 (n0 := 1) (n1 := 256) r t) = v (ix2 (n0 := 16) (n1 := 256) j t) := by
  have h : S16x256.Slices ![j.val, 0] S1x256 := by revert j; decide +kernel
  rw [← fold_rowI v j.val h]
  have e : (ix2 (n0 := 16) (n1 := 256) j t : S16x256.Idx) = fun i => ⟨(![j.val, 0] : Fin 2 → ℕ) i + (ix2 (n0 := 1) (n1 := 256) r t i).val, by
    fin_cases i
    · show j.val + r.val < 16
      omega
    · show 0 + t.val < 256
      omega⟩ := by
    funext i
    fin_cases i
    · apply Fin.ext
      show j.val = j.val + r.val
      omega
    · apply Fin.ext
      show t.val = 0 + t.val
      omega
  rw [e]
  rfl

theorem rows_congr {α : Type} (v : S16x256.Idx → α) {p q : Fin 16} (t : Fin 256) (h : p.val = q.val) :
    v (ix2 (n0 := 16) (n1 := 256) p t) = v (ix2 (n0 := 16) (n1 := 256) q t) := by rw [Fin.ext h]

/-- A candidate is the sum of a left and a right pick. -/
theorem candF_read (a b : FVec Ideal S16x256 .f32) (c : Fin 80) (t : Fin 256) :
    candF a b (ix2 (n0 := 80) (n1 := 256) c t) = a (ix2 (n0 := 16) (n1 := 256) ⟨keepA c.val, keepA_lt c⟩ t) + b (ix2 (n0 := 16) (n1 := 256) ⟨keepB c.val, keepB_lt c⟩ t) := by
  have hc := c.isLt
  pointwise [candF]
  have e0 : rowF a 0 (ix2 (n0 := 1) (n1 := 256) 0 t) = a (ix2 (n0 := 16) (n1 := 256) 0 t) := rowF_read a 0 0 t
  have e1 : rowF a 1 (ix2 (n0 := 1) (n1 := 256) 0 t) = a (ix2 (n0 := 16) (n1 := 256) 1 t) := rowF_read a 1 0 t
  have e2 : rowF a 2 (ix2 (n0 := 1) (n1 := 256) 0 t) = a (ix2 (n0 := 16) (n1 := 256) 2 t) := rowF_read a 2 0 t
  have e3 : rowF a 3 (ix2 (n0 := 1) (n1 := 256) 0 t) = a (ix2 (n0 := 16) (n1 := 256) 3 t) := rowF_read a 3 0 t
  have e4 : rowF a 4 (ix2 (n0 := 1) (n1 := 256) 0 t) = a (ix2 (n0 := 16) (n1 := 256) 4 t) := rowF_read a 4 0 t
  have e5 : rowF a 5 (ix2 (n0 := 1) (n1 := 256) 0 t) = a (ix2 (n0 := 16) (n1 := 256) 5 t) := rowF_read a 5 0 t
  have e6 : rowF a 6 (ix2 (n0 := 1) (n1 := 256) 0 t) = a (ix2 (n0 := 16) (n1 := 256) 6 t) := rowF_read a 6 0 t
  have e7 : rowF a 7 (ix2 (n0 := 1) (n1 := 256) 0 t) = a (ix2 (n0 := 16) (n1 := 256) 7 t) := rowF_read a 7 0 t
  have f0 : rowF b 0 (ix2 (n0 := 1) (n1 := 256) 0 t) = b (ix2 (n0 := 16) (n1 := 256) 0 t) := rowF_read b 0 0 t
  simp only [e0, e1, e2, e3, e4, e5, e6, e7, f0]
  split_ifs <;> refine congrArg₂ (· + ·) (rows_congr a t ?_) (rows_congr b t ?_) <;>
    simp only [keepA, keepB] <;> split_ifs <;> first | omega | (simp; omega) | simp

/-- A candidate's expert number comes from a left and a right pick. -/
theorem candI_read (a b : IVec S16x256 32) (c : Fin 80) (t : Fin 256) :
    candI a b (ix2 (n0 := 80) (n1 := 256) c t) = IntOp.addi (IntOp.muli (a (ix2 (n0 := 16) (n1 := 256) ⟨keepA c.val, keepA_lt c⟩ t)) 128#32) (b (ix2 (n0 := 16) (n1 := 256) ⟨keepB c.val, keepB_lt c⟩ t)) := by
  have hc := c.isLt
  pointwise [candI]
  have e0 : rowI a 0 (ix2 (n0 := 1) (n1 := 256) 0 t) = a (ix2 (n0 := 16) (n1 := 256) 0 t) := rowI_read a 0 0 t
  have e1 : rowI a 1 (ix2 (n0 := 1) (n1 := 256) 0 t) = a (ix2 (n0 := 16) (n1 := 256) 1 t) := rowI_read a 1 0 t
  have e2 : rowI a 2 (ix2 (n0 := 1) (n1 := 256) 0 t) = a (ix2 (n0 := 16) (n1 := 256) 2 t) := rowI_read a 2 0 t
  have e3 : rowI a 3 (ix2 (n0 := 1) (n1 := 256) 0 t) = a (ix2 (n0 := 16) (n1 := 256) 3 t) := rowI_read a 3 0 t
  have e4 : rowI a 4 (ix2 (n0 := 1) (n1 := 256) 0 t) = a (ix2 (n0 := 16) (n1 := 256) 4 t) := rowI_read a 4 0 t
  have e5 : rowI a 5 (ix2 (n0 := 1) (n1 := 256) 0 t) = a (ix2 (n0 := 16) (n1 := 256) 5 t) := rowI_read a 5 0 t
  have e6 : rowI a 6 (ix2 (n0 := 1) (n1 := 256) 0 t) = a (ix2 (n0 := 16) (n1 := 256) 6 t) := rowI_read a 6 0 t
  have e7 : rowI a 7 (ix2 (n0 := 1) (n1 := 256) 0 t) = a (ix2 (n0 := 16) (n1 := 256) 7 t) := rowI_read a 7 0 t
  have f0 : rowI b 0 (ix2 (n0 := 1) (n1 := 256) 0 t) = b (ix2 (n0 := 16) (n1 := 256) 0 t) := rowI_read b 0 0 t
  simp only [e0, e1, e2, e3, e4, e5, e6, e7, f0]
  split_ifs <;> refine congrArg₂ IntOp.addi (congrArg (IntOp.muli · 128#32) (rows_congr a t ?_)) (rows_congr b t ?_) <;>
    simp only [keepA, keepB] <;> split_ifs <;> first | omega | (simp; omega) | simp

end Cert.Route
-- ==== Proof.Route.Head.lean ====
module

public import proofs.«01_k».proof.Proof.Route.Cands

@[expose] public section

set_option maxRecDepth 16384

noncomputable section

/-! What one head finds for one token: the sixteen largest sums of a left and a right score, and the
    expert numbers they belong to. -/

namespace Cert.Route

open Cert.KernelIdeal Cert.KernelIdeal.Gen Idealize.ShloMosaic Idealize.ShloMosaic.TcCoe Idealize.SL.Sem

/-- The sixteen largest of a list, in order. -/
def lead (x : Fin 128 → EReal) (r : Fin 16) : EReal := x (sorted x r.val)

/-- The place, among the 256 pairs of leading entries, of the sum of rank `r`. -/
def place (x y : Fin 128 → EReal) (r : Fin 16) : Fin 256 := sorted (sums (lead x) (lead y)) r.val

/-- The sum of rank `r`. -/
def bestSum (x y : Fin 128 → EReal) (r : Fin 16) : EReal := sums (lead x) (lead y) (place x y r)

/-- The number of the expert at the place `p` of the 256. -/
def numAt (x y : Fin 128 → EReal) (p : Fin 256) : ℕ := (sorted x (p.val / 16)).val * 128 + (sorted y (p.val % 16)).val

theorem pick_eq_sorted {n : ℕ} [NeZero n] {x : Fin n → EReal} (hx : ∀ p, x p ≠ ⊥) {j : ℕ} (hj : j < n) :
    pick x j = sorted x j := Picks.unique (picks_pick hx) (picks_sorted x) j hj

theorem lead_anti (x : Fin 128 → EReal) : Antitone (lead x) := fun i j h =>
  Picks.anti (picks_sorted x) (i := i.val) (j := j.val) h (by have := j.isLt; omega)

theorem bestSum_anti (x y : Fin 128 → EReal) : Antitone (bestSum x y) := fun i j h =>
  Picks.anti (picks_sorted (sums (lead x) (lead y))) (i := i.val) (j := j.val) h (by have := j.isLt; omega)

theorem sums_ne_bot {x y : Fin 128 → EReal} (hx : ∀ p, x p ≠ ⊥) (hy : ∀ p, y p ≠ ⊥) (p : Fin 256) :
    sums (lead x) (lead y) p ≠ ⊥ := by
  unfold sums lead
  rw [Ne, EReal.add_eq_bot_iff, not_or]
  exact ⟨hx _, hy _⟩

theorem numAt_lt (x y : Fin 128 → EReal) (p : Fin 256) : numAt x y p < 16384 := by
  have h1 := (sorted x (p.val / 16)).isLt
  have h2 := (sorted y (p.val % 16)).isLt
  unfold numAt
  omega

/-- A product and a sum of small integer words. -/
theorem word_num (a b : ℕ) : IntOp.addi (IntOp.muli (BitVec.ofNat 32 a) 128#32) (BitVec.ofNat 32 b) = BitVec.ofNat 32 (a * 128 + b) := by
  show BitVec.ofNat 32 a * BitVec.ofNat 32 128 + BitVec.ofNat 32 b = _
  rw [BitVec.ofNat_add, BitVec.ofNat_mul]

/-- The rows of picked expert numbers, read. -/
theorem selI_read (pos : IVec S16x256 32) (ci : IVec S80x256 32) (t : Fin 256) (p : Fin 16 → Fin 80)
    (hp : ∀ r : Fin 16, pos (ix2 (n0 := 16) (n1 := 256) r t) = BitVec.ofNat 32 (p r).val)
    (hc : ∀ c : Fin 80, 0 ≤ (ci (ix2 (n0 := 80) (n1 := 256) c t)).toInt)
    (j : ℕ) (hj : j ≤ 16) (r : Fin 16) (hr : r.val < j) :
    selI pos ci j (ix2 (n0 := 16) (n1 := 256) r t) = ci (ix2 (n0 := 80) (n1 := 256) (p r) t) := by
  induction j with
  | zero => exact absurd hr (Nat.not_lt_zero _)
  | succ j ih =>
    show putI (BitVec.ofNat 32 j) (pickI (rowI pos j) ci) (selI pos ci j) (ix2 (n0 := 16) (n1 := 256) r t) = _
    rw [putI_read _ (by omega)]
    by_cases h : r.val = j
    · rw [if_pos h]
      refine pickI_read _ _ _ _ (p r) ?_ (hc _)
      rw [← h, rowI_read]
      exact hp r
    · rw [if_neg h]
      exact ih (by omega) (by omega)

section
variable (s0 s1 : FVec Ideal S128x256 .f32) (t : Fin 256)
  (hx : ∀ p, col128 s0 t p ≠ ⊥) (hy : ∀ p, col128 s1 t p ≠ ⊥)
include hx hy

theorem cands_col : col80 (candF (topF128 s0 16) (topF128 s1 16)) t =
    fun c => sums (lead (col128 s0 t)) (lead (col128 s1 t)) (keep c) := by
  funext c
  have ha := keepA_lt c
  have hb := keepB_lt c
  show candF _ _ (ix2 (n0 := 80) (n1 := 256) c t) = _
  rw [candF_read, sums_keep, topF128_read s0 t hx 16 (le_refl _) _ ha, topF128_read s1 t hy 16 (le_refl _) _ hb,
    pick_eq_sorted hx (by show keepA c.val < 128; omega), pick_eq_sorted hy (by show keepB c.val < 128; omega)]
  rfl

theorem cands_num (c : Fin 80) : candI (topI128 s0 16) (topI128 s1 16) (ix2 (n0 := 80) (n1 := 256) c t) =
    BitVec.ofNat 32 (numAt (col128 s0 t) (col128 s1 t) (keep c)) := by
  have ha := keepA_lt c
  have hb := keepB_lt c
  have e1 : (16 * keepA c.val + keepB c.val) / 16 = keepA c.val := by omega
  have e2 : (16 * keepA c.val + keepB c.val) % 16 = keepB c.val := by omega
  rw [candI_read, topI128_read s0 t 16 (le_refl _) _ ha, topI128_read s1 t 16 (le_refl _) _ hb,
    pick_eq_sorted hx (by show keepA c.val < 128; omega), pick_eq_sorted hy (by show keepB c.val < 128; omega), word_num]
  show BitVec.ofNat 32 ((sorted _ (keepA c.val)).val * 128 + (sorted _ (keepB c.val)).val) =
    BitVec.ofNat 32 ((sorted _ ((16 * keepA c.val + keepB c.val) / 16)).val * 128 +
      (sorted _ ((16 * keepA c.val + keepB c.val) % 16)).val)
  rw [e1, e2]

theorem cands_ne_bot (c : Fin 80) : col80 (candF (topF128 s0 16) (topF128 s1 16)) t c ≠ ⊥ := by
  rw [cands_col s0 s1 t hx hy]
  exact sums_ne_bot hx hy _

theorem keep_pick (r : Fin 16) :
    keep (pick (col80 (candF (topF128 s0 16) (topF128 s1 16)) t) r.val) = place (col128 s0 t) (col128 s1 t) r := by
  rw [cands_col s0 s1 t hx hy]
  exact (sorted_eq_keep (lead_anti _) (lead_anti _) (fun c => sums_ne_bot hx hy _) r.isLt).symm

/-- The sums a head keeps for a token are the sixteen largest, in order. -/
theorem bestF_read (r : Fin 16) :
    bestF s0 s1 (ix2 (n0 := 16) (n1 := 256) r t) = bestSum (col128 s0 t) (col128 s1 t) r := by
  show topF80 _ 16 (ix2 (n0 := 16) (n1 := 256) r t) = _
  rw [topF80_read _ t (cands_ne_bot s0 s1 t hx hy) 16 (le_refl _) r r.isLt]
  unfold bestSum
  rw [← keep_pick s0 s1 t hx hy r]
  exact congrFun (cands_col s0 s1 t hx hy) _

/-- The expert numbers a head keeps for a token are those of its sixteen largest sums, in order. -/
theorem bestE_read (r : Fin 16) : bestE s0 s1 (ix2 (n0 := 16) (n1 := 256) r t) =
    BitVec.ofNat 32 (numAt (col128 s0 t) (col128 s1 t) (place (col128 s0 t) (col128 s1 t) r)) := by
  show selI _ _ 16 (ix2 (n0 := 16) (n1 := 256) r t) = _
  rw [selI_read (bestP s0 s1) _ t (fun r => pick (col80 (candF (topF128 s0 16) (topF128 s1 16)) t) r.val)
    (fun r => topI80_read _ t 16 (le_refl _) r r.isLt) ?_ 16 (le_refl _) r r.isLt, cands_num s0 s1 t hx hy,
    keep_pick s0 s1 t hx hy]
  intro c
  rw [cands_num s0 s1 t hx hy, toInt_ofNat_small]
  · exact Int.natCast_nonneg _
  · have := numAt_lt (col128 s0 t) (col128 s1 t) (keep c)
    omega

end

end Cert.Route
-- ==== Proof.Route.RefShapes.lean ====
module

public import proofs.«01_k».proof.Proof.Route.Head
public import proofs.«01_k».proof.Proof.Gen.ReferenceIdeal.Run
public import Idealize.ShloMosaic.Lib.Pointwise

@[expose] public section

set_option maxRecDepth 16384

noncomputable section

/-! The shapes of the reference's arrays for a number of tokens, and how they fit each other. -/

namespace Cert.Route.Ref

open Cert.ReferenceIdeal Idealize.ShloMosaic

/-- The number of tokens: those of the last layer, or those of the first. -/
class Tokens (N : ℕ) : Prop where
  eq : N = 32768 ∨ N = 36864

instance : Tokens 32768 := ⟨.inl rfl⟩
instance : Tokens 36864 := ⟨.inr rfl⟩

abbrev SNx1024 (N : ℕ) : Shape := ⟨2, ![N, 1024]⟩
abbrev SNx2048 (N : ℕ) : Shape := ⟨2, ![N, 2048]⟩
abbrev SNx8x2x128 (N : ℕ) : Shape := ⟨4, ![N, 8, 2, 128]⟩
abbrev S8x2x128xN (N : ℕ) : Shape := ⟨4, ![8, 2, 128, N]⟩
abbrev SNx8x2x16 (N : ℕ) : Shape := ⟨4, ![N, 8, 2, 16]⟩
abbrev SNx8x1x16 (N : ℕ) : Shape := ⟨4, ![N, 8, 1, 16]⟩
abbrev SNx8x16 (N : ℕ) : Shape := ⟨3, ![N, 8, 16]⟩
abbrev SNx8x16x1 (N : ℕ) : Shape := ⟨4, ![N, 8, 16, 1]⟩
abbrev SNx8x16x16 (N : ℕ) : Shape := ⟨4, ![N, 8, 16, 16]⟩
abbrev SNx8x256 (N : ℕ) : Shape := ⟨3, ![N, 8, 256]⟩
abbrev SNx8 (N : ℕ) : Shape := ⟨2, ![N, 8]⟩
abbrev SNx8x1 (N : ℕ) : Shape := ⟨3, ![N, 8, 1]⟩
abbrev S8x16xN (N : ℕ) : Shape := ⟨3, ![8, 16, N]⟩

variable {N : ℕ} [Tokens N]

theorem bcast_S1x2048_SNx2048_0_1 : S1x2048.BroadcastsInDim (SNx2048 N) (![0, 1] : Fin 2 → Fin (SNx2048 N).rank) := by
  rcases Tokens.eq (N := N) with rfl | rfl <;> decide
theorem shapeCasts_SNx2048_SNx8x2x128 : (SNx2048 N).ShapeCasts (SNx8x2x128 N) := by
  rcases Tokens.eq (N := N) with rfl | rfl <;> decide
theorem transposes_S8x2x128xN_SNx8x2x128_3_0_1_2 : (S8x2x128xN N).Transposes [3, 0, 1, 2] (SNx8x2x128 N) := by
  rcases Tokens.eq (N := N) with rfl | rfl <;> decide
theorem sliceFits_SNx8x2x128_SNx8x2x16 : (SNx8x2x128 N).Slices (fun _ => 0) (SNx8x2x16 N) := by
  rcases Tokens.eq (N := N) with rfl | rfl <;> decide
theorem slices_SNx8x2x16_SNx8x1x16_0_0_0_0 : (SNx8x2x16 N).Slices ![0, 0, 0, 0] (SNx8x1x16 N) := by
  rcases Tokens.eq (N := N) with rfl | rfl <;> decide
theorem shapeCasts_SNx8x1x16_SNx8x16 : (SNx8x1x16 N).ShapeCasts (SNx8x16 N) := by
  rcases Tokens.eq (N := N) with rfl | rfl <;> decide
theorem bcast_SNx8x16_SNx8x16x1_0_1_2 : (SNx8x16 N).BroadcastsInDim (SNx8x16x1 N) (![0, 1, 2] : Fin 3 → Fin (SNx8x16x1 N).rank) := by
  rcases Tokens.eq (N := N) with rfl | rfl <;> decide
theorem slices_SNx8x2x16_SNx8x1x16_0_0_1_0 : (SNx8x2x16 N).Slices ![0, 0, 1, 0] (SNx8x1x16 N) := by
  rcases Tokens.eq (N := N) with rfl | rfl <;> decide
theorem bcast_SNx8x16_SNx8x1x16_0_1_3 : (SNx8x16 N).BroadcastsInDim (SNx8x1x16 N) (![0, 1, 3] : Fin 3 → Fin (SNx8x1x16 N).rank) := by
  rcases Tokens.eq (N := N) with rfl | rfl <;> decide
theorem bcast_SNx8x16x1_SNx8x16x16_0_1_2_3 : (SNx8x16x1 N).BroadcastsInDim (SNx8x16x16 N) (![0, 1, 2, 3] : Fin 4 → Fin (SNx8x16x16 N).rank) := by
  rcases Tokens.eq (N := N) with rfl | rfl <;> decide
theorem bcast_SNx8x1x16_SNx8x16x16_0_1_2_3 : (SNx8x1x16 N).BroadcastsInDim (SNx8x16x16 N) (![0, 1, 2, 3] : Fin 4 → Fin (SNx8x16x16 N).rank) := by
  rcases Tokens.eq (N := N) with rfl | rfl <;> decide
theorem shapeCasts_SNx8x16x16_SNx8x256 : (SNx8x16x16 N).ShapeCasts (SNx8x256 N) := by
  rcases Tokens.eq (N := N) with rfl | rfl <;> decide
theorem bcast_S_SNx8x16x1 : S_.BroadcastsInDim (SNx8x16x1 N) (![] : Fin 0 → Fin (SNx8x16x1 N).rank) := by
  rcases Tokens.eq (N := N) with rfl | rfl <;> decide
theorem sliceFits_SNx8x256_SNx8x16 : (SNx8x256 N).Slices (fun _ => 0) (SNx8x16 N) := by
  rcases Tokens.eq (N := N) with rfl | rfl <;> decide
theorem bcast_S_SNx8x16 : S_.BroadcastsInDim (SNx8x16 N) (![] : Fin 0 → Fin (SNx8x16 N).rank) := by
  rcases Tokens.eq (N := N) with rfl | rfl <;> decide
theorem shapeCasts_SNx8x16_SNx8x16x1 : (SNx8x16 N).ShapeCasts (SNx8x16x1 N) := by
  rcases Tokens.eq (N := N) with rfl | rfl <;> decide
theorem bcast_S1x1x1x1_SNx8x16x1_0_1_2_3 : S1x1x1x1.BroadcastsInDim (SNx8x16x1 N) (![0, 1, 2, 3] : Fin 4 → Fin (SNx8x16x1 N).rank) := by
  rcases Tokens.eq (N := N) with rfl | rfl <;> decide
theorem reducesTo_SNx8x16x1_SNx8x16_d3 : (SNx8x16x1 N).ReducesTo [3] (SNx8x16 N) := by
  rcases Tokens.eq (N := N) with rfl | rfl <;> decide
theorem reducesTo_SNx8x16_SNx8_d2 : (SNx8x16 N).ReducesTo [2] (SNx8 N) := by
  rcases Tokens.eq (N := N) with rfl | rfl <;> decide
theorem bcast_S_SNx8 : S_.BroadcastsInDim (SNx8 N) (![] : Fin 0 → Fin (SNx8 N).rank) := by
  rcases Tokens.eq (N := N) with rfl | rfl <;> decide
theorem bcast_SNx8_SNx8x1_0_1 : (SNx8 N).BroadcastsInDim (SNx8x1 N) (![0, 1] : Fin 2 → Fin (SNx8x1 N).rank) := by
  rcases Tokens.eq (N := N) with rfl | rfl <;> decide
theorem bcast_SNx8x1_SNx8x16_0_1_2 : (SNx8x1 N).BroadcastsInDim (SNx8x16 N) (![0, 1, 2] : Fin 3 → Fin (SNx8x16 N).rank) := by
  rcases Tokens.eq (N := N) with rfl | rfl <;> decide
theorem transposes_SNx8x16_S8x16xN_1_2_0 : (SNx8x16 N).Transposes [1, 2, 0] (S8x16xN N) := by
  rcases Tokens.eq (N := N) with rfl | rfl <;> decide
theorem dot_SNx1024_S1024x2048_SNx2048_1_0_0_1_n_n_wf : DotDims.WF (SNx1024 N) S1024x2048 (SNx2048 N) [1] [0] [0] [1] [] [] := by
  rcases Tokens.eq (N := N) with rfl | rfl <;> decide
theorem dot_S8x2x128x128_SNx8x2x128_S8x2x128xN_3_3_2_0_01_12_wf : DotDims.WF S8x2x128x128 (SNx8x2x128 N) (S8x2x128xN N) [3] [3] [2] [0] [0, 1] [1, 2] := by
  rcases Tokens.eq (N := N) with rfl | rfl <;> decide
theorem gather_SNx8x256_SNx8x16x1_SNx8x16_n_2_01_01_2_3_111_wf : GatherDims.WF (SNx8x256 N) (SNx8x16x1 N) (SNx8x16 N) [] [2] [0, 1] [2] [0, 1] 3 ![1, 1, 1] := by
  rcases Tokens.eq (N := N) with rfl | rfl <;> decide

/-- The dimensions of a product. -/
def dot_SNx1024_S1024x2048_SNx2048_1_0_0_1_n_n : DotDims (SNx1024 N) S1024x2048 (SNx2048 N) where
  lhsContracting := [1]
  rhsContracting := [0]
  lhsNonContracting := [0]
  rhsNonContracting := [1]
  lhsBatch := []
  rhsBatch := []
  wf := dot_SNx1024_S1024x2048_SNx2048_1_0_0_1_n_n_wf

/-- The dimensions of a product. -/
def dot_S8x2x128x128_SNx8x2x128_S8x2x128xN_3_3_2_0_01_12 : DotDims S8x2x128x128 (SNx8x2x128 N) (S8x2x128xN N) where
  lhsContracting := [3]
  rhsContracting := [3]
  lhsNonContracting := [2]
  rhsNonContracting := [0]
  lhsBatch := [0, 1]
  rhsBatch := [1, 2]
  wf := dot_S8x2x128x128_SNx8x2x128_S8x2x128xN_3_3_2_0_01_12_wf

/-- The dimensions of the selection along the last axis. -/
def gather_SNx8x256_SNx8x16x1_SNx8x16_n_2_01_01_2_3_111 : GatherDims (SNx8x256 N) (SNx8x16x1 N) (SNx8x16 N) where
  offsetDims := []
  collapsedSliceDims := [2]
  operandBatchingDims := [0, 1]
  startIndicesBatchingDims := [0, 1]
  startIndexMap := [2]
  indexVectorDim := 3
  sliceSizes := ![1, 1, 1]
  wf := gather_SNx8x256_SNx8x16x1_SNx8x16_n_2_01_01_2_3_111_wf

end Cert.Route.Ref
-- ==== Proof.Route.RefStages.lean ====
module

public import proofs.«01_k».proof.Proof.Route.RefShapes

@[expose] public section

set_option maxRecDepth 16384

noncomputable section

/-! The reference's results as a composition of its stages: scores, the sixteen best of each side, the 256 candidates
    and their numbers, the sixteen best candidates, the numbers taken along, the softmax. -/

namespace Cert.Route.Ref

open Cert.ReferenceIdeal Cert.ReferenceIdeal.Gen Idealize.ShloMosaic Idealize.ShloMosaic.TcCoe Idealize.SL.Sem

variable {N : ℕ} [Tokens N]

/-- The queries: the tokens' projections with the biases. -/
def query (a0 : FVec Ideal (SNx1024 N) .f32) (a1 : FVec Ideal S1024x2048 .f32) (a2 : FVec Ideal S2048 .f32) :
    FVec Ideal (SNx8x2x128 N) .f32 :=
  shapeCast _ (addf (Host.dotGeneral (F := Ideal) dot_SNx1024_S1024x2048_SNx2048_1_0_0_1_n_n none a0 a1)
    (broadcastInDim (SNx2048 N) ![0, 1] bcast_S1x2048_SNx2048_0_1 (broadcastInDim S1x2048 ![1] bcast_S2048_S1x2048_1 a2)))
    shapeCasts_SNx2048_SNx8x2x128

/-- The scores of the keys. -/
def score (a0 : FVec Ideal (SNx1024 N) .f32) (a1 : FVec Ideal S1024x2048 .f32) (a2 : FVec Ideal S2048 .f32)
    (a3 : FVec Ideal S8x2x128x128 .f32) : FVec Ideal (SNx8x2x128 N) .f32 :=
  transpose (SNx8x2x128 N) [3, 0, 1, 2] (Host.dotGeneral (F := Ideal) dot_S8x2x128x128_SNx8x2x128_S8x2x128xN_3_3_2_0_01_12 none
    a3 (query a0 a1 a2)) transposes_S8x2x128xN_SNx8x2x128_3_0_1_2

/-- The sixteen best scores of each side, in order, with their places. -/
def best1 (s : FVec Ideal (SNx8x2x128 N) .f32) : FVec Ideal (SNx8x2x16 N) .f32 × IVec (SNx8x2x16 N) 32 :=
  Host.topK (SNx8x2x16 N) 3 (FloatOps.cmpfTotal (F := Ideal) (φ := .f32) .gt) s sliceFits_SNx8x2x128_SNx8x2x16

/-- The 256 sums of a left and a right best score. -/
def cand (v : FVec Ideal (SNx8x2x16 N) .f32) : FVec Ideal (SNx8x256 N) .f32 :=
  shapeCast _ (addf
    (broadcastInDim (SNx8x16x16 N) ![0, 1, 2, 3] bcast_SNx8x16x1_SNx8x16x16_0_1_2_3
      (broadcastInDim (SNx8x16x1 N) ![0, 1, 2] bcast_SNx8x16_SNx8x16x1_0_1_2
        (shapeCast _ (extractStridedSlice (SNx8x1x16 N) ![0, 0, 0, 0] v slices_SNx8x2x16_SNx8x1x16_0_0_0_0) shapeCasts_SNx8x1x16_SNx8x16)))
    (broadcastInDim (SNx8x16x16 N) ![0, 1, 2, 3] bcast_SNx8x1x16_SNx8x16x16_0_1_2_3
      (broadcastInDim (SNx8x1x16 N) ![0, 1, 3] bcast_SNx8x16_SNx8x1x16_0_1_3
        (shapeCast _ (extractStridedSlice (SNx8x1x16 N) ![0, 0, 1, 0] v slices_SNx8x2x16_SNx8x1x16_0_0_1_0) shapeCasts_SNx8x1x16_SNx8x16))))
    shapeCasts_SNx8x16x16_SNx8x256

/-- The expert numbers of the 256 candidates. -/
def num (v : IVec (SNx8x2x16 N) 32) : IVec (SNx8x256 N) 32 :=
  shapeCast _ (addi
    (broadcastInDim (SNx8x16x16 N) ![0, 1, 2, 3] bcast_SNx8x16x1_SNx8x16x16_0_1_2_3
      (muli (broadcastInDim (SNx8x16x1 N) ![0, 1, 2] bcast_SNx8x16_SNx8x16x1_0_1_2
        (shapeCast _ (extractStridedSlice (SNx8x1x16 N) ![0, 0, 0, 0] v slices_SNx8x2x16_SNx8x1x16_0_0_0_0) shapeCasts_SNx8x1x16_SNx8x16))
        (broadcastInDim (SNx8x16x1 N) ![] bcast_S_SNx8x16x1 (constantI S_ 32 128#32))))
    (broadcastInDim (SNx8x16x16 N) ![0, 1, 2, 3] bcast_SNx8x1x16_SNx8x16x16_0_1_2_3
      (broadcastInDim (SNx8x1x16 N) ![0, 1, 3] bcast_SNx8x16_SNx8x1x16_0_1_3
        (shapeCast _ (extractStridedSlice (SNx8x1x16 N) ![0, 0, 1, 0] v slices_SNx8x2x16_SNx8x1x16_0_0_1_0) shapeCasts_SNx8x1x16_SNx8x16))))
    shapeCasts_SNx8x16x16_SNx8x256

/-- The sixteen best of the 256 candidates, in order, with their places. -/
def best2 (s : FVec Ideal (SNx8x256 N) .f32) : FVec Ideal (SNx8x16 N) .f32 × IVec (SNx8x16 N) 32 :=
  Host.topK (SNx8x16 N) 2 (FloatOps.cmpfTotal (F := Ideal) (φ := .f32) .gt) s sliceFits_SNx8x256_SNx8x16

/-- The places as the start indices of a gather, a negative one counted from the end. -/
def start (pos : IVec (SNx8x16 N) 32) : IVec (SNx8x16x1 N) 32 :=
  shapeCast _ (select (cmpi .slt pos (broadcastInDim (SNx8x16 N) ![] bcast_S_SNx8x16 (constantI S_ 32 0#32)))
    (addi pos (broadcastInDim (SNx8x16 N) ![] bcast_S_SNx8x16 (constantI S_ 32 256#32))) pos) shapeCasts_SNx8x16_SNx8x16x1

/-- Which start indices are in range. -/
def inRange (i : IVec (SNx8x16x1 N) 32) : IVec (SNx8x16 N) 1 :=
  Host.reduce IntOp.andi (andi
    (cmpi .sge i (broadcastInDim (SNx8x16x1 N) ![] bcast_S_SNx8x16x1 (constantI S_ 32 0#32)))
    (cmpi .sle i (broadcastInDim (SNx8x16x1 N) ![0, 1, 2, 3] bcast_S1x1x1x1_SNx8x16x1_0_1_2_3
      (broadcastInDim S1x1x1x1 ![3] bcast_S1_S1x1x1x1_3 (constantI S1 32 255#32)))))
    (constantI S_ 1 1#1) reducesTo_SNx8x16x1_SNx8x16_d3 h_S_

/-- The numbers at the given places. -/
def taken (ci : IVec (SNx8x256 N) 32) (i : IVec (SNx8x16x1 N) 32) : IVec (SNx8x16 N) 32 :=
  Host.gather gather_SNx8x256_SNx8x16x1_SNx8x16_n_2_01_01_2_3_111 ci i

/-- The numbers taken along the last axis, the least word where a place is out of range. -/
def along (ci : IVec (SNx8x256 N) 32) (pos : IVec (SNx8x16 N) 32) : IVec (SNx8x16 N) 32 :=
  select (inRange (start pos)) (taken ci (start pos))
    (broadcastInDim (SNx8x16 N) ![] bcast_S_SNx8x16 (constantI S_ 32 2147483648#32))

/-- The exponentials of a row's distances from its largest entry. -/
def shifted (b : FVec Ideal (SNx8x16 N) .f32) : FVec Ideal (SNx8x16 N) .f32 :=
  Host.exp (subf b (broadcastInDim (SNx8x16 N) ![0, 1, 2] bcast_SNx8x1_SNx8x16_0_1_2
    (broadcastInDim (SNx8x1 N) ![0, 1] bcast_SNx8_SNx8x1_0_1
      (maximumf (broadcastInDim (SNx8 N) ![] bcast_S_SNx8 (constant S_ .f32 0xFF800000#32))
        (Host.reduce FloatOps.maximumf b (constant S_ .f32 0xFF800000#32) reducesTo_SNx8x16_SNx8_d2 h_S_)))))

/-- The softmax of each row. -/
def soft (b : FVec Ideal (SNx8x16 N) .f32) : FVec Ideal (SNx8x16 N) .f32 :=
  Host.divf (shifted b) (broadcastInDim (SNx8x16 N) ![0, 1, 2] bcast_SNx8x1_SNx8x16_0_1_2
    (broadcastInDim (SNx8x1 N) ![0, 1] bcast_SNx8_SNx8x1_0_1
      (Host.reduceAdd (shifted b) (constant S_ .f32 0x00000000#32) reducesTo_SNx8x16_SNx8_d2 h_S_)))

/-- The expert numbers of the scores, by the stages. -/
def expertsOf (s : FVec Ideal (SNx8x2x128 N) .f32) : IVec (S8x16xN N) 32 :=
  transpose (S8x16xN N) [1, 2, 0] (along (num (best1 s).2) (best2 (cand (best1 s).1)).2) transposes_SNx8x16_S8x16xN_1_2_0

/-- The gates of the scores, by the stages. -/
def gatesOf (s : FVec Ideal (SNx8x2x128 N) .f32) : FVec Ideal (S8x16xN N) .f32 :=
  transpose (S8x16xN N) [1, 2, 0] (soft (best2 (cand (best1 s).1)).1) transposes_SNx8x16_S8x16xN_1_2_0

end Cert.Route.Ref
-- ==== Proof.Route.RefTops.lean ====
module

public import proofs.«01_k».proof.Proof.Route.RefStages

@[expose] public section

set_option maxRecDepth 16384

noncomputable section

/-! The reference's selections of the largest entries, read at an index. -/

namespace Cert.Route.Ref

open Cert.ReferenceIdeal Cert.ReferenceIdeal.Gen Idealize.ShloMosaic Idealize.ShloMosaic.TcCoe Idealize.SL.Sem

variable {N : ℕ} [Tokens N]

/-- The order the host's selection of the largest entries sorts by. -/
theorem gt_rel {n : ℕ} (x : Fin n → EReal) :
    (fun k k' => FloatOps.cmpfTotal (F := Ideal) (φ := .f32) .gt (x k) (x k') == 1#1) = gtRel x := by
  funext k k'
  show (BitVec.ofBool (decide (x k' < x k)) == 1#1) = decide (x k' < x k)
  cases decide (x k' < x k) <;> rfl

theorem sort2_fst {s : Shape} (d : ℕ) (hd : d < s.rank) (x : FVec Ideal s .f32) {β : Type} (y : s.Idx → β) :
    (Host.sort2 s d (fun l r => FloatOps.cmpfTotal (F := Ideal) (φ := .f32) .gt l.1 r.1) x y).1 =
    fun i => x (i.along ⟨d, hd⟩ (sortedFrom (gtRel fun k => x (i.along ⟨d, hd⟩ k)) (i ⟨d, hd⟩))) := by
  unfold Host.sort2
  rw [dif_pos hd]
  funext i
  rw [← gt_rel]

theorem sort2_snd {s : Shape} (d : ℕ) (hd : d < s.rank) (x : FVec Ideal s .f32) {β : Type} (y : s.Idx → β) :
    (Host.sort2 s d (fun l r => FloatOps.cmpfTotal (F := Ideal) (φ := .f32) .gt l.1 r.1) x y).2 =
    fun i => y (i.along ⟨d, hd⟩ (sortedFrom (gtRel fun k => x (i.along ⟨d, hd⟩ k)) (i ⟨d, hd⟩))) := by
  unfold Host.sort2
  rw [dif_pos hd]
  funext i
  rw [← gt_rel]

section
variable {s t : Shape} (d : ℕ) (hd : d < s.rank) (x : FVec Ideal s .f32) (h : s.Slices (fun _ => 0) t) (j : t.Idx) (i : s.Idx)
  (hi : ∀ a, (i a).val = (j (Fin.cast h.1.symm a)).val)
include hi

theorem slice_zero {α : Type} (y : s.Idx → α) : extractStridedSlice t (fun _ => 0) y h j = y i := by
  unfold extractStridedSlice
  refine congrArg y (funext fun a => Fin.ext ?_)
  show 0 + _ = _
  rw [Nat.zero_add, hi a]

/-- A value the host's selection of the largest entries gives. -/
theorem topK_val : (Host.topK t d (FloatOps.cmpfTotal (F := Ideal) (φ := .f32) .gt) x h).1 j =
    x (i.along ⟨d, hd⟩ (sortedFrom (gtRel fun k => x (i.along ⟨d, hd⟩ k)) (i ⟨d, hd⟩))) :=
  (slice_zero h j i hi _).trans (congrFun (sort2_fst d hd x _) i)

/-- The place of a value the host's selection of the largest entries gives. -/
theorem topK_pos : (Host.topK t d (FloatOps.cmpfTotal (F := Ideal) (φ := .f32) .gt) x h).2 j =
    BitVec.ofNat 32 (sortedFrom (gtRel fun k => x (i.along ⟨d, hd⟩ k)) (i ⟨d, hd⟩)).val := by
  refine ((slice_zero h j i hi _).trans (congrFun (sort2_snd d hd x _) i)).trans ?_
  rw [dif_pos hd]
  show BitVec.ofNat 32 ((i.along ⟨d, hd⟩ _) ⟨d, hd⟩).val = _
  unfold Shape.Idx.along
  rw [Function.update_self]

end

theorem sortedFrom_eq {n : ℕ} [NeZero n] (x f : Fin n → EReal) (k : Fin n) (hf : f = x) : sortedFrom (gtRel f) k = sorted x k.val := by
  subst hf
  exact (show sorted f k.val = _ from dif_pos k.isLt).symm

/-- A row of scores. -/
def row (s : FVec Ideal (SNx8x2x128 N) .f32) (n : Fin N) (h : Fin 8) (p : Fin 2) : Fin 128 → EReal :=
  fun k => s (ix4 (n0 := N) (n1 := 8) (n2 := 2) (n3 := 128) n h p k)

theorem along4 (n : Fin N) (h : Fin 8) (p : Fin 2) (r k : Fin 128) :
    Shape.Idx.along (s := (SNx8x2x128 N)) (ix4 (n0 := N) (n1 := 8) (n2 := 2) (n3 := 128) n h p r) 3 k =
      ix4 (n0 := N) (n1 := 8) (n2 := 2) (n3 := 128) n h p k := by
  funext i
  fin_cases i <;> rfl

theorem best1_val (s : FVec Ideal (SNx8x2x128 N) .f32) (n : Fin N) (h : Fin 8) (p : Fin 2) (r : Fin 16) :
    (best1 s).1 (ix4 (n0 := N) (n1 := 8) (n2 := 2) (n3 := 16) n h p r) = lead (row s n h p) r := by
  unfold best1
  rw [topK_val 3 (show 3 < 4 by decide) s sliceFits_SNx8x2x128_SNx8x2x16 _
    (ix4 (n0 := N) (n1 := 8) (n2 := 2) (n3 := 128) n h p ⟨r.val, by omega⟩) (by intro a; fin_cases a <;> rfl)]
  refine (congrArg s (along4 n h p _ _)).trans ?_
  exact congrArg (row s n h p) (sortedFrom_eq (row s n h p) _ ⟨r.val, by omega⟩ (funext fun k => congrArg s (along4 n h p _ k)))

theorem best1_pos (s : FVec Ideal (SNx8x2x128 N) .f32) (n : Fin N) (h : Fin 8) (p : Fin 2) (r : Fin 16) :
    (best1 s).2 (ix4 (n0 := N) (n1 := 8) (n2 := 2) (n3 := 16) n h p r) = BitVec.ofNat 32 (sorted (row s n h p) r.val).val := by
  unfold best1
  rw [topK_pos 3 (show 3 < 4 by decide) s sliceFits_SNx8x2x128_SNx8x2x16 _
    (ix4 (n0 := N) (n1 := 8) (n2 := 2) (n3 := 128) n h p ⟨r.val, by omega⟩) (by intro a; fin_cases a <;> rfl)]
  exact congrArg (fun q : Fin 128 => BitVec.ofNat 32 q.val) (sortedFrom_eq (row s n h p) _ ⟨r.val, by omega⟩ (funext fun k => congrArg s (along4 n h p _ k)))

/-- A row of candidates. -/
def crow (s : FVec Ideal (SNx8x256 N) .f32) (n : Fin N) (h : Fin 8) : Fin 256 → EReal :=
  fun k => s (ix3 (n0 := N) (n1 := 8) (n2 := 256) n h k)

theorem along3 (n : Fin N) (h : Fin 8) (r k : Fin 256) :
    Shape.Idx.along (s := (SNx8x256 N)) (ix3 (n0 := N) (n1 := 8) (n2 := 256) n h r) 2 k =
      ix3 (n0 := N) (n1 := 8) (n2 := 256) n h k := by
  funext i
  fin_cases i <;> rfl

theorem best2_val (s : FVec Ideal (SNx8x256 N) .f32) (n : Fin N) (h : Fin 8) (r : Fin 16) :
    (best2 s).1 (ix3 (n0 := N) (n1 := 8) (n2 := 16) n h r) = crow s n h (sorted (crow s n h) r.val) := by
  unfold best2
  rw [topK_val 2 (show 2 < 3 by decide) s sliceFits_SNx8x256_SNx8x16 _
    (ix3 (n0 := N) (n1 := 8) (n2 := 256) n h ⟨r.val, by omega⟩) (by intro a; fin_cases a <;> rfl)]
  refine (congrArg s (along3 n h _ _)).trans ?_
  exact congrArg (crow s n h) (sortedFrom_eq (crow s n h) _ ⟨r.val, by omega⟩ (funext fun k => congrArg s (along3 n h _ k)))

theorem best2_pos (s : FVec Ideal (SNx8x256 N) .f32) (n : Fin N) (h : Fin 8) (r : Fin 16) :
    (best2 s).2 (ix3 (n0 := N) (n1 := 8) (n2 := 16) n h r) = BitVec.ofNat 32 (sorted (crow s n h) r.val).val := by
  unfold best2
  rw [topK_pos 2 (show 2 < 3 by decide) s sliceFits_SNx8x256_SNx8x16 _
    (ix3 (n0 := N) (n1 := 8) (n2 := 256) n h ⟨r.val, by omega⟩) (by intro a; fin_cases a <;> rfl)]
  exact congrArg (fun q : Fin 256 => BitVec.ofNat 32 q.val) (sortedFrom_eq (crow s n h) _ ⟨r.val, by omega⟩ (funext fun k => congrArg s (along3 n h _ k)))

end Cert.Route.Ref
-- ==== Proof.Route.RefReads.lean ====
module

public import proofs.«01_k».proof.Proof.Route.RefTops

@[expose] public section

set_option maxRecDepth 16384

noncomputable section

/-! The reference's other stages, each read at an index. -/

namespace Cert.Route.Ref

open Cert.ReferenceIdeal Cert.ReferenceIdeal.Gen Idealize.ShloMosaic Idealize.ShloMosaic.TcCoe Idealize.SL.Sem

variable {N : ℕ} [Tokens N]

/-- A candidate is the sum of a left and a right best score. -/
theorem cand_read (v : FVec Ideal (SNx8x2x16 N) .f32) (n : Fin N) (h : Fin 8) (p : Fin 256) :
    cand v (ix3 (n0 := N) (n1 := 8) (n2 := 256) n h p) =
      v (ix4 (n0 := N) (n1 := 8) (n2 := 2) (n3 := 16) n h 0 ⟨p.val / 16, by omega⟩) +
      v (ix4 (n0 := N) (n1 := 8) (n2 := 2) (n3 := 16) n h 1 ⟨p.val % 16, by omega⟩) := by
  rcases Tokens.eq (N := N) with rfl | rfl <;> pointwise [cand]

/-- A candidate's number comes from a left and a right place. -/
theorem num_read (v : IVec (SNx8x2x16 N) 32) (n : Fin N) (h : Fin 8) (p : Fin 256) :
    num v (ix3 (n0 := N) (n1 := 8) (n2 := 256) n h p) =
      IntOp.addi (IntOp.muli (v (ix4 (n0 := N) (n1 := 8) (n2 := 2) (n3 := 16) n h 0 ⟨p.val / 16, by omega⟩)) 128#32)
       (v (ix4 (n0 := N) (n1 := 8) (n2 := 2) (n3 := 16) n h 1 ⟨p.val % 16, by omega⟩)) := by
  rcases Tokens.eq (N := N) with rfl | rfl <;> pointwise [num]

/-- A start index is its place where that is not negative. -/
theorem start_read (v : IVec (SNx8x16 N) 32) (n : Fin N) (h : Fin 8) (r : Fin 16) (u : Fin 1) :
    start v (ix4 (n0 := N) (n1 := 8) (n2 := 16) (n3 := 1) n h r u) =
      Scalar.select (IntOp.cmpi CmpIPredicate.slt (v (ix3 (n0 := N) (n1 := 8) (n2 := 16) n h r)) 0#32)
        (IntOp.addi (v (ix3 (n0 := N) (n1 := 8) (n2 := 16) n h r)) 256#32) (v (ix3 (n0 := N) (n1 := 8) (n2 := 16) n h r)) := by
  rcases Tokens.eq (N := N) with rfl | rfl <;> pointwise [start]

/-- Whether a start index is in range. -/
theorem inRange_read (v : IVec (SNx8x16x1 N) 32) (n : Fin N) (h : Fin 8) (r : Fin 16) :
    inRange v (ix3 (n0 := N) (n1 := 8) (n2 := 16) n h r) =
    Finset.fold IntOp.andi (1#1)
      (fun x : Fin 1 =>
        IntOp.andi (IntOp.cmpi CmpIPredicate.sge (v (ix4 (n0 := N) (n1 := 8) (n2 := 16) (n3 := 1) n h r x)) 0#32)
          (IntOp.cmpi CmpIPredicate.sle (v (ix4 (n0 := N) (n1 := 8) (n2 := 16) (n3 := 1) n h r x)) 255#32))
      Finset.univ := by
  rcases Tokens.eq (N := N) with rfl | rfl <;> pointwise [inRange]

/-- A row's largest entry. -/
theorem max_read (v : FVec Ideal (SNx8x16 N) .f32) (n : Fin N) (h : Fin 8) :
    Host.reduce FloatOps.maximumf v (constant (F := Ideal) S_ .f32 0xFF800000#32) reducesTo_SNx8x16_SNx8_d2 h_S_ (ix2 (n0 := N) (n1 := 8) n h) =
      Finset.fold max (Ideal.ofBits FTy.f32 4286578688#32) (fun x => v (ix3 (n0 := N) (n1 := 8) (n2 := 16) n h x)) Finset.univ := by
  rcases Tokens.eq (N := N) with rfl | rfl <;> pointwise []

theorem top_read (v : FVec Ideal (SNx8 N) .f32) (n : Fin N) (h : Fin 8) :
    maximumf (broadcastInDim (SNx8 N) ![] bcast_S_SNx8 (constant (F := Ideal) S_ .f32 0xFF800000#32)) v (ix2 (n0 := N) (n1 := 8) n h) =
      max (Ideal.ofBits FTy.f32 4286578688#32) (v (ix2 (n0 := N) (n1 := 8) n h)) := by
  rcases Tokens.eq (N := N) with rfl | rfl <;> pointwise []

theorem exp_read (b : FVec Ideal (SNx8x16 N) .f32) (v : FVec Ideal (SNx8 N) .f32) (n : Fin N) (h : Fin 8) (r : Fin 16) :
    Host.exp (subf b (broadcastInDim (SNx8x16 N) ![0, 1, 2] bcast_SNx8x1_SNx8x16_0_1_2
      (broadcastInDim (SNx8x1 N) ![0, 1] bcast_SNx8_SNx8x1_0_1 v))) (ix3 (n0 := N) (n1 := 8) (n2 := 16) n h r) =
      Ideal.exp (b (ix3 (n0 := N) (n1 := 8) (n2 := 16) n h r) - v (ix2 (n0 := N) (n1 := 8) n h)) := by
  rcases Tokens.eq (N := N) with rfl | rfl <;> pointwise []

theorem div_read (b : FVec Ideal (SNx8x16 N) .f32) (v : FVec Ideal (SNx8 N) .f32) (n : Fin N) (h : Fin 8) (r : Fin 16) :
    Host.divf b (broadcastInDim (SNx8x16 N) ![0, 1, 2] bcast_SNx8x1_SNx8x16_0_1_2
      (broadcastInDim (SNx8x1 N) ![0, 1] bcast_SNx8_SNx8x1_0_1 v)) (ix3 (n0 := N) (n1 := 8) (n2 := 16) n h r) =
      Ideal.div (b (ix3 (n0 := N) (n1 := 8) (n2 := 16) n h r)) (v (ix2 (n0 := N) (n1 := 8) n h)) := by
  rcases Tokens.eq (N := N) with rfl | rfl <;> pointwise []

theorem sum_read (v : FVec Ideal (SNx8x16 N) .f32) (n : Fin N) (h : Fin 8) :
    Host.reduceAdd v (constant (F := Ideal) S_ .f32 0x00000000#32) reducesTo_SNx8x16_SNx8_d2 h_S_ (ix2 (n0 := N) (n1 := 8) n h) =
      ∑ x, v (ix3 (n0 := N) (n1 := 8) (n2 := 16) n h x) := by
  rcases Tokens.eq (N := N) with rfl | rfl <;> pointwise []

/-- A score: a key against the query of its head and side. -/
theorem score_read (a0 : FVec Ideal (SNx1024 N) .f32) (a1 : FVec Ideal S1024x2048 .f32) (a2 : FVec Ideal S2048 .f32)
    (a3 : FVec Ideal S8x2x128x128 .f32) (n : Fin N) (h : Fin 8) (p : Fin 2) (k : Fin 128) :
    score a0 a1 a2 a3 (ix4 (n0 := N) (n1 := 8) (n2 := 2) (n3 := 128) n h p k) = ∑ x : Fin 128,
      a3 (ix4 (n0 := 8) (n1 := 2) (n2 := 128) (n3 := 128) h p k x) *
        (∑ e : Fin 1024, a0 (ix2 (n0 := N) (n1 := 1024) n e) * a1 (ix2 (n0 := 1024) (n1 := 2048) e ⟨h.val * 256 + p.val * 128 + x.val, by omega⟩)
          + a2 (ix1 (n0 := 2048) ⟨h.val * 256 + p.val * 128 + x.val, by omega⟩)) := by
  rcases Tokens.eq (N := N) with rfl | rfl <;> pointwise [score, query]

end Cert.Route.Ref
-- ==== Proof.Route.RefValue.lean ====
module

public import proofs.«01_k».proof.Proof.Route.RefReads

@[expose] public section

set_option maxRecDepth 16384

noncomputable section

/-! The reference's results, read at an index. -/

namespace Cert.Route.Ref

open Cert.ReferenceIdeal Cert.ReferenceIdeal.Gen Idealize.ShloMosaic Idealize.ShloMosaic.TcCoe Idealize.SL.Sem

variable {N : ℕ} [Tokens N]

/-- A number taken at a place in range. -/
theorem taken_read (ci : IVec (SNx8x256 N) 32) (i : IVec (SNx8x16x1 N) 32) (n : Fin N) (h : Fin 8) (r : Fin 16) (p : Fin 256)
    (hi : i (ix4 (n0 := N) (n1 := 8) (n2 := 16) (n3 := 1) n h r 0) = BitVec.ofNat 32 p.val) :
    taken ci i (ix3 (n0 := N) (n1 := 8) (n2 := 16) n h r) = ci (ix3 (n0 := N) (n1 := 8) (n2 := 256) n h p) := by
  unfold taken Host.gather
  refine congrArg ci (funext fun a => Fin.ext ?_)
  fin_cases a
  · show 0 + n.val + 0 = n.val
    omega
  · show 0 + h.val + 0 = h.val
    omega
  · show min (i _).toInt.toNat 255 + 0 + 0 = p.val
    have e : (i (ix4 (n0 := N) (n1 := 8) (n2 := 16) (n3 := 1) n h r 0)).toInt = p.val := by
      rw [hi, toInt_ofNat_small (by omega)]
    have hp := p.isLt
    refine (congrArg (fun z => min (BitVec.toInt z).toNat 255 + 0 + 0) (congrArg i (?_ : _ = ix4 (n0 := N) (n1 := 8) (n2 := 16) (n3 := 1) n h r 0))).trans ?_
    · funext a
      fin_cases a <;> rfl
    · show min (BitVec.toInt (i _)).toNat 255 + 0 + 0 = p.val
      rw [e]
      omega

theorem cmp_sge {k : ℕ} (hk : k < 2 ^ 31) : IntOp.cmpi CmpIPredicate.sge (BitVec.ofNat 32 k) 0#32 = 1#1 := by
  have e := toInt_ofNat_small hk
  show BitVec.ofBool (BitVec.sle 0#32 (BitVec.ofNat 32 k)) = 1#1
  rw [BitVec.sle_eq_decide, e, decide_eq_true (by show (0 : ℤ) ≤ k; omega)]
  rfl

theorem cmp_sle {k : ℕ} (hk : k < 256) : IntOp.cmpi CmpIPredicate.sle (BitVec.ofNat 32 k) 255#32 = 1#1 := by
  have e := toInt_ofNat_small (k := k) (by omega)
  show BitVec.ofBool (BitVec.sle (BitVec.ofNat 32 k) 255#32) = 1#1
  rw [BitVec.sle_eq_decide, e, decide_eq_true (by show (k : ℤ) ≤ 255; omega)]
  rfl

theorem cmp_slt {k : ℕ} (hk : k < 2 ^ 31) : IntOp.cmpi CmpIPredicate.slt (BitVec.ofNat 32 k) 0#32 = 0#1 := by
  have e := toInt_ofNat_small hk
  show BitVec.ofBool (BitVec.slt (BitVec.ofNat 32 k) 0#32) = 0#1
  rw [BitVec.slt_eq_decide, e, decide_eq_false (by show ¬ (k : ℤ) < 0; omega)]
  rfl

theorem select_one {α : Type} (x y : α) : Scalar.select 1#1 x y = x := by simp [Scalar.select]
theorem select_zero {α : Type} (x y : α) : Scalar.select 0#1 x y = y := by simp [Scalar.select]

theorem along_apply (ci : IVec (SNx8x256 N) 32) (pos : IVec (SNx8x16 N) 32) (j : (SNx8x16 N).Idx) :
    along ci pos j = Scalar.select (inRange (start pos) j) (taken ci (start pos) j)
      (broadcastInDim (SNx8x16 N) ![] bcast_S_SNx8x16 (constantI S_ 32 2147483648#32) j) := by
  unfold along select
  rfl

/-- Numbers taken along at places in range. -/
theorem along_read (ci : IVec (SNx8x256 N) 32) (pos : IVec (SNx8x16 N) 32) (n : Fin N) (h : Fin 8) (r : Fin 16) (p : Fin 256)
    (hp : pos (ix3 (n0 := N) (n1 := 8) (n2 := 16) n h r) = BitVec.ofNat 32 p.val) :
    along ci pos (ix3 (n0 := N) (n1 := 8) (n2 := 16) n h r) = ci (ix3 (n0 := N) (n1 := 8) (n2 := 256) n h p) := by
  have hl := p.isLt
  have es : ∀ u, start pos (ix4 (n0 := N) (n1 := 8) (n2 := 16) (n3 := 1) n h r u) = BitVec.ofNat 32 p.val := by
    intro u
    rw [start_read, hp, cmp_slt (by omega), select_zero]
  have er : inRange (start pos) (ix3 (n0 := N) (n1 := 8) (n2 := 16) n h r) = 1#1 := by
    rw [inRange_read]
    simp only [es, cmp_sge (show p.val < 2 ^ 31 by omega), cmp_sle hl]
    rfl
  rw [along_apply, er, taken_read ci _ n h r p (es 0), select_one]

/-- The softmax of a list by its first entry. -/
def softOf (b : Fin 16 → EReal) (r : Fin 16) : EReal :=
  Ideal.div (Ideal.exp (b r - b 0)) (∑ k, Ideal.exp (b k - b 0))

theorem top_anti {b : Fin 16 → EReal} (hb : Antitone b) : b (top b) = b 0 :=
  le_antisymm (hb (Fin.zero_le _)) (le_top' b 0)

theorem shifted_read (v : FVec Ideal (SNx8x16 N) .f32) (n : Fin N) (h : Fin 8) (b : Fin 16 → EReal) (hb : Antitone b)
    (hv : ∀ r, v (ix3 (n0 := N) (n1 := 8) (n2 := 16) n h r) = b r) (r : Fin 16) :
    shifted v (ix3 (n0 := N) (n1 := 8) (n2 := 16) n h r) = Ideal.exp (b r - b 0) := by
  unfold shifted
  rw [exp_read, top_read, max_read, hv, funext hv, ofBits_neg_inf]
  rw [show Finset.fold max ⊥ b Finset.univ = b 0 from (fold_max_eq b).trans (top_anti hb), max_eq_right bot_le]

/-- The softmax of a descending row. -/
theorem soft_read (v : FVec Ideal (SNx8x16 N) .f32) (n : Fin N) (h : Fin 8) (b : Fin 16 → EReal) (hb : Antitone b)
    (hv : ∀ r, v (ix3 (n0 := N) (n1 := 8) (n2 := 16) n h r) = b r) (r : Fin 16) :
    soft v (ix3 (n0 := N) (n1 := 8) (n2 := 16) n h r) = softOf b r := by
  unfold soft
  rw [div_read, sum_read, shifted_read v n h b hb hv]
  simp only [shifted_read v n h b hb hv]
  rfl

section
variable (s : FVec Ideal (SNx8x2x128 N) .f32) (n : Fin N) (h : Fin 8)

theorem cand_row : crow (cand (best1 s).1) n h = sums (lead (row s n h 0)) (lead (row s n h 1)) := by
  funext p
  show cand (best1 s).1 (ix3 (n0 := N) (n1 := 8) (n2 := 256) n h p) = _
  rw [cand_read, best1_val, best1_val]
  rfl

theorem num_row (p : Fin 256) : num (best1 s).2 (ix3 (n0 := N) (n1 := 8) (n2 := 256) n h p) =
    BitVec.ofNat 32 (numAt (row s n h 0) (row s n h 1) p) := by
  rw [num_read, best1_pos, best1_pos, word_num]
  rfl

/-- The reference's expert numbers, from a token's scores. -/
theorem expert_read (r : Fin 16) : along (num (best1 s).2) (best2 (cand (best1 s).1)).2 (ix3 (n0 := N) (n1 := 8) (n2 := 16) n h r) =
    BitVec.ofNat 32 (numAt (row s n h 0) (row s n h 1) (place (row s n h 0) (row s n h 1) r)) := by
  rw [along_read _ _ n h r (place (row s n h 0) (row s n h 1) r), num_row]
  rw [best2_pos, cand_row]
  rfl

/-- The reference's gates, from a token's scores. -/
theorem gate_read (r : Fin 16) : soft (best2 (cand (best1 s).1)).1 (ix3 (n0 := N) (n1 := 8) (n2 := 16) n h r) =
    softOf (bestSum (row s n h 0) (row s n h 1)) r := by
  refine soft_read _ n h _ (bestSum_anti _ _) (fun r => ?_) r
  rw [best2_val, cand_row]
  rfl

end

/-- The expert number at a head, a rank and a token. -/
theorem expertsOf_read (s : FVec Ideal (SNx8x2x128 N) .f32) (h : Fin 8) (r : Fin 16) (n : Fin N) :
    expertsOf s (ix3 (n0 := 8) (n1 := 16) (n2 := N) h r n) =
    BitVec.ofNat 32 (numAt (row s n h 0) (row s n h 1) (place (row s n h 0) (row s n h 1) r)) := by
  rw [← expert_read]
  unfold expertsOf
  rcases Tokens.eq (N := N) with rfl | rfl <;> pointwise []

/-- The gate at a head, a rank and a token. -/
theorem gatesOf_read (s : FVec Ideal (SNx8x2x128 N) .f32) (h : Fin 8) (r : Fin 16) (n : Fin N) :
    gatesOf s (ix3 (n0 := 8) (n1 := 16) (n2 := N) h r n) = softOf (bestSum (row s n h 0) (row s n h 1)) r := by
  rw [← gate_read]
  unfold gatesOf
  rcases Tokens.eq (N := N) with rfl | rfl <;> pointwise []

end Cert.Route.Ref
-- ==== Proof.Route.Scores.lean ====
module

public import proofs.«01_k».proof.Proof.Route.RefValue

@[expose] public section

set_option maxRecDepth 16384

noncomputable section

/-! What one grid point computes from its input blocks, read at an index. -/

namespace Cert.Route

open Cert.KernelIdeal Cert.KernelIdeal.Gen Idealize.ShloMosaic Idealize.ShloMosaic.TcCoe Idealize.SL.Sem
open Idealize.ShloMosaic.Pointwise

/-- The queries of one head: tokens times weights, plus the bias. -/
theorem query_read (x0 : Vec Ideal S256x1024 .f32) (w : Vec Ideal S1x1024x256 .bf16) (b : Vec Ideal S1x1x256 .f32)
    (t : Fin 256) (q : Fin 256) :
    k0_pay3 (k0_pay1 x0) w b (ix2 (n0 := 256) (n1 := 256) t q)
      = (∑ e : Fin 1024, x0 (ix2 (n0 := 256) (n1 := 1024) t e) * w (ix3 (n0 := 1) (n1 := 1024) (n2 := 256) 0 e q))
        + b (ix3 (n0 := 1) (n1 := 1) (n2 := 256) 0 0 q) := by
  pointwise [k0_pay3, k0_pay1]

/-- A left key's score. -/
theorem scL_read (x0 : Vec Ideal S256x1024 .f32) (w : Vec Ideal S1x1024x256 .bf16) (b : Vec Ideal S1x1x256 .f32)
    (k0 : Vec Ideal S1x1x128x128 .bf16) (k : Fin 128) (t : Fin 256) :
    scL x0 w b k0 (ix2 (n0 := 128) (n1 := 256) k t)
      = ∑ q : Fin 128, k0 (ix4 (n0 := 1) (n1 := 1) (n2 := 128) (n3 := 128) 0 0 k q)
          * k0_pay3 (k0_pay1 x0) w b (ix2 (n0 := 256) (n1 := 256) t ⟨q.val, by omega⟩) := by
  pointwise [scL, k0_pay4]

/-- A right key's score. -/
theorem scR_read (x0 : Vec Ideal S256x1024 .f32) (w : Vec Ideal S1x1024x256 .bf16) (b : Vec Ideal S1x1x256 .f32)
    (k1 : Vec Ideal S1x1x128x128 .bf16) (k : Fin 128) (t : Fin 256) :
    scR x0 w b k1 (ix2 (n0 := 128) (n1 := 256) k t)
      = ∑ q : Fin 128, k1 (ix4 (n0 := 1) (n1 := 1) (n2 := 128) (n3 := 128) 0 0 k q)
          * k0_pay3 (k0_pay1 x0) w b (ix2 (n0 := 256) (n1 := 256) t ⟨128 + q.val, by omega⟩) := by
  pointwise [scR, k0_pay73, k0_pay74]

/-- The exponentials of one head. -/
theorem gateExp_read (b : FVec Ideal S16x256 .f32) (r : Fin 16) (t : Fin 256) :
    k0_pay238 b (ix2 (n0 := 16) (n1 := 256) r t)
      = Ideal.exp (b (ix2 (n0 := 16) (n1 := 256) r t) - b (ix2 (n0 := 16) (n1 := 256) 0 t)) := by
  pointwise [k0_pay238]

/-- The sum of one head's exponentials. -/
theorem gateSum_read (b : FVec Ideal S16x256 .f32) (r : Fin 16) (t : Fin 256) :
    k0_pay240 b (ix2 (n0 := 16) (n1 := 256) r t)
      = ∑ k : Fin 16, k0_pay238 b (ix2 (n0 := 16) (n1 := 256) k t) := by
  pointwise [k0_pay240]

/-- One head's gates are the softmax of its best sums. -/
theorem gateOf_read (b : FVec Ideal S16x256 .f32) (r : Fin 16) (t : Fin 256) :
    gate b (ix2 (n0 := 16) (n1 := 256) r t)
      = Ref.softOf (fun k => b (ix2 (n0 := 16) (n1 := 256) k t)) r := by
  have e : gate b (ix2 (n0 := 16) (n1 := 256) r t)
      = Ideal.div (k0_pay238 b (ix2 (n0 := 16) (n1 := 256) r t)) (k0_pay240 b (ix2 (n0 := 16) (n1 := 256) r t)) := rfl
  rw [e, gateSum_read]
  simp only [gateExp_read]
  rfl

end Cert.Route
-- ==== Proof.Route.Blocks.lean ====
module

public import proofs.«01_k».proof.Proof.Route.Scores
public import Idealize.ShloMosaic.Lib.Pipeline.ValueKit
public import Idealize.ShloMosaic.Lib.Claim

@[expose] public section

set_option maxRecDepth 16384

noncomputable section

/-! The input blocks of a grid point, read off the arguments. -/

namespace Cert.Route

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0, 0, 0] := (by decide +kernel : ∀ t : Fin grid0.N, _)
theorem at4 : ∀ t : Fin cfg0.N, win0_4.index t = ![0, 0, t.val] := (by decide +kernel : ∀ t : Fin grid0.N, _)
theorem at5 : ∀ t : Fin cfg0.N, win0_5.index t = ![0, 0, t.val] := (by decide +kernel : ∀ t : Fin grid0.N, _)

theorem point_lt (t : Fin cfg0.N) : t.val < 128 := by
  have h : cfg0.N = 128 := N_0
  have := t.isLt
  omega

/-- The token of a grid point's row. -/
def token (t : Fin cfg0.N) (a : Fin 256) : Fin 32768 := ⟨t.val * 256 + a.val, by have := point_lt t; omega⟩

/-- The tokens' block. -/
theorem tokens_read (c : Dev nD) (t : Fin cfg0.N) (a : Fin 256) (e : Fin 1024) :
    iblk m c 0 t (ix2 (n0 := 256) (n1 := 1024) a e)
      = m ((c : Thread nD τ).loc main_arg0) (ix2 (n0 := 32768) (n1 := 1024) (token t a) e) := by
  blk_ext [iblk, V, at0 t, token]

/-- The query weights' block: the columns of one head side by side. -/
theorem weights_read (c : Dev nD) (t : Fin cfg0.N) (h : Fin 8) (e : Fin 1024) (q : Fin 256) :
    iblk m c 1 t (ix3 (n0 := 8) (n1 := 1024) (n2 := 256) h e q)
      = m ((c : Thread nD τ).loc main_arg1) (ix2 (n0 := 1024) (n1 := 2048) e ⟨h.val * 256 + q.val, by omega⟩) := by
  have e' : ((cfg0.win 1).blk t).view.emb (ix3 (n0 := 8) (n1 := 1024) (n2 := 256) h e q) = (ix3 (n0 := 8) (n1 := 1024) (n2 := 256) h e q) := by
    blk_ext [at1 t]
  show V m c main_v2 (((cfg0.win 1).blk t).view.emb (ix3 (n0 := 8) (n1 := 1024) (n2 := 256) h e q)) = _
  rw [e']
  entry_read
  pointwise []

/-- The query biases' block. -/
theorem biases_read (c : Dev nD) (t : Fin cfg0.N) (h : Fin 8) (q : Fin 256) :
    iblk m c 2 t (ix3 (n0 := 8) (n1 := 1) (n2 := 256) h 0 q)
      = m ((c : Thread nD τ).loc main_arg2) (ix1 (n0 := 2048) ⟨h.val * 256 + q.val, by omega⟩) := by
  have e : ((cfg0.win 2).blk t).view.emb (ix3 (n0 := 8) (n1 := 1) (n2 := 256) h 0 q) = (ix3 (n0 := 8) (n1 := 1) (n2 := 256) h 0 q) := by
    blk_ext [at2 t]
  show V m c main_v3 (((cfg0.win 2).blk t).view.emb (ix3 (n0 := 8) (n1 := 1) (n2 := 256) h 0 q)) = _
  rw [e]
  entry_read
  pointwise []

/-- The keys' block. -/
theorem keys_read (c : Dev nD) (t : Fin cfg0.N) (h : Fin 8) (p : Fin 2) (k q : Fin 128) :
    iblk m c 3 t (ix4 (n0 := 8) (n1 := 2) (n2 := 128) (n3 := 128) h p k q)
      = m ((c : Thread nD τ).loc main_arg3) (ix4 (n0 := 8) (n1 := 2) (n2 := 128) (n3 := 128) h p k q) := by
  have e : ((cfg0.win 3).blk t).view.emb (ix4 (n0 := 8) (n1 := 2) (n2 := 128) (n3 := 128) h p k q) = (ix4 (n0 := 8) (n1 := 2) (n2 := 128) (n3 := 128) h p k q) := by
    blk_ext [at3 t]
  show V m c main_v4 (((cfg0.win 3).blk t).view.emb (ix4 (n0 := 8) (n1 := 2) (n2 := 128) (n3 := 128) h p k q)) = _
  rw [e]
  entry_read
  pointwise []

end Cert.Route
-- ==== Proof.Route.Final.lean ====
module

public import proofs.«01_k».proof.Proof.Route.Blocks

@[expose] public section

set_option maxRecDepth 16384

noncomputable section

/-! The kernel's two result arrays, as functions of the arguments' scores. -/

namespace Cert.Route

open Cert.KernelIdeal Cert.KernelIdeal.Gen Idealize.ShloMosaic Idealize.ShloMosaic.TcCoe Idealize.SL.Sem
open Idealize.ShloMosaic.Pointwise

section Block

open Ref (Tokens SNx1024 SNx8x2x128 S8x16xN)

variable {N : ℕ} [Tokens N]

/-- The expert numbers the scores give, as one array. -/
def experts (s : FVec Ideal (SNx8x2x128 N) .f32) : IVec (S8x16xN N) 32 := fun y =>
  BitVec.ofNat 32 (numAt (Ref.row s (y 2) (y 0) 0) (Ref.row s (y 2) (y 0) 1) (place (Ref.row s (y 2) (y 0) 0) (Ref.row s (y 2) (y 0) 1) (y 1)))

/-- The gates the scores give, as one array. -/
def gates (s : FVec Ideal (SNx8x2x128 N) .f32) : FVec Ideal (S8x16xN N) .f32 := fun y =>
  Ref.softOf (bestSum (Ref.row s (y 2) (y 0) 0) (Ref.row s (y 2) (y 0) 1)) (y 1)

/-- The reference's stages give these expert numbers. -/
theorem expertsOf_eq (s : FVec Ideal (SNx8x2x128 N) .f32) : Ref.expertsOf s = experts s := by
  funext y
  exact (congrArg _ (ix3_eta (n0 := 8) (n1 := 16) (n2 := N) y).symm).trans (Ref.expertsOf_read s (y 0) (y 1) (y 2))

/-- The reference's stages give these gates. -/
theorem gatesOf_eq (s : FVec Ideal (SNx8x2x128 N) .f32) : Ref.gatesOf s = gates s := by
  funext y
  exact (congrArg _ (ix3_eta (n0 := 8) (n1 := 16) (n2 := N) y).symm).trans (Ref.gatesOf_read s (y 0) (y 1) (y 2))

variable (a0 : FVec Ideal (SNx1024 N) .f32) (a1 : FVec Ideal Cert.ReferenceIdeal.S1024x2048 .f32)
  (a2 : FVec Ideal Cert.ReferenceIdeal.S2048 .f32) (a3 : FVec Ideal Cert.ReferenceIdeal.S8x2x128x128 .f32)
  (x0 : Vec Ideal S256x1024 .f32) (x1 : Vec Ideal S8x1024x256 .bf16) (x2 : Vec Ideal S8x1x256 .f32)
  (x3 : Vec Ideal S8x2x128x128 .bf16) (tok : Fin 256 → Fin N)

/-- A grid point's input blocks: 256 tokens, and all heads' weights, biases and keys. -/
structure Blocks : Prop where
  tokens (a : Fin 256) (e : Fin 1024) : x0 (ix2 (n0 := 256) (n1 := 1024) a e) = a0 (ix2 (n0 := N) (n1 := 1024) (tok a) e)
  weights (h : Fin 8) (e : Fin 1024) (q : Fin 256) : x1 (ix3 (n0 := 8) (n1 := 1024) (n2 := 256) h e q)
    = a1 (ix2 (n0 := 1024) (n1 := 2048) e ⟨h.val * 256 + q.val, by omega⟩)
  biases (h : Fin 8) (q : Fin 256) : x2 (ix3 (n0 := 8) (n1 := 1) (n2 := 256) h 0 q) = a2 (ix1 (n0 := 2048) ⟨h.val * 256 + q.val, by omega⟩)
  keys (h : Fin 8) (p : Fin 2) (k q : Fin 128) : x3 (ix4 (n0 := 8) (n1 := 2) (n2 := 128) (n3 := 128) h p k q)
    = a3 (ix4 (n0 := 8) (n1 := 2) (n2 := 128) (n3 := 128) h p k q)

variable {a0 a1 a2 a3 x0 x1 x2 x3 tok} (b : Blocks a0 a1 a2 a3 x0 x1 x2 x3 tok)
include b

/-- A grid point's left scores are the reference's scores of its tokens on side 0. -/
theorem left_scores (h : Fin 8) (a : Fin 256) :
    col128 (sL x0 x1 x2 x3 h) a = Ref.row (Ref.score a0 a1 a2 a3) (tok a) h 0 := by
  funext k
  show scL _ _ _ _ (ix2 (n0 := 128) (n1 := 256) k a) = Ref.score a0 a1 a2 a3 _
  rw [scL_read, Ref.score_read]
  refine Finset.sum_congr rfl fun q _ => ?_
  rw [query_read]
  refine congrArg₂ (· * ·) (b.keys h 0 k q) (congrArg₂ (· + ·) (Finset.sum_congr rfl fun e _ =>
    congrArg₂ (· * ·) (b.tokens a e) ((b.weights h e ⟨q.val, by omega⟩).trans ?_)) ((b.biases h ⟨q.val, by omega⟩).trans ?_))
  · exact congrArg (fun z => a1 (ix2 (n0 := 1024) (n1 := 2048) e z)) (Fin.ext (by simp))
  · exact congrArg (fun z => a2 (ix1 (n0 := 2048) z)) (Fin.ext (by simp))

/-- A grid point's right scores are the reference's scores of its tokens on side 1. -/
theorem right_scores (h : Fin 8) (a : Fin 256) :
    col128 (sR x0 x1 x2 x3 h) a = Ref.row (Ref.score a0 a1 a2 a3) (tok a) h 1 := by
  funext k
  show scR _ _ _ _ (ix2 (n0 := 128) (n1 := 256) k a) = Ref.score a0 a1 a2 a3 _
  rw [scR_read, Ref.score_read]
  refine Finset.sum_congr rfl fun q _ => ?_
  rw [query_read]
  refine congrArg₂ (· * ·) (b.keys h 1 k q) (congrArg₂ (· + ·) (Finset.sum_congr rfl fun e _ =>
    congrArg₂ (· * ·) (b.tokens a e) ((b.weights h e ⟨128 + q.val, by omega⟩).trans ?_)) ((b.biases h ⟨128 + q.val, by omega⟩).trans ?_))
  · exact congrArg (fun z => a1 (ix2 (n0 := 1024) (n1 := 2048) e z)) (Fin.ext (by simp; omega))
  · exact congrArg (fun z => a2 (ix1 (n0 := 2048) z)) (Fin.ext (by simp; omega))

variable (hs : ∀ n h p k, Ref.row (Ref.score a0 a1 a2 a3) n h p k ≠ ⊥)
include hs

/-- The expert numbers a grid point leaves. -/
theorem blkE_read (h : Fin 8) (r : Fin 16) (a : Fin 256) :
    blkE x0 x1 x2 x3 (ix3 (n0 := 8) (n1 := 16) (n2 := 256) h r a)
      = experts (Ref.score a0 a1 a2 a3) (ix3 (n0 := 8) (n1 := 16) (n2 := N) h r (tok a)) := by
  show bestE _ _ (ix2 (n0 := 16) (n1 := 256) r a) = _
  rw [bestE_read _ _ a (by intro p; rw [show ix3 (n0 := 8) (n1 := 16) (n2 := 256) h r a 0 = h from rfl, left_scores b]; exact hs _ _ _ _)
    (by intro p; rw [show ix3 (n0 := 8) (n1 := 16) (n2 := 256) h r a 0 = h from rfl, right_scores b]; exact hs _ _ _ _)]
  rw [show ix3 (n0 := 8) (n1 := 16) (n2 := 256) h r a 0 = h from rfl, left_scores b, right_scores b]
  rfl

/-- The gates a grid point leaves. -/
theorem blkG_read (h : Fin 8) (r : Fin 16) (a : Fin 256) :
    blkG x0 x1 x2 x3 (ix3 (n0 := 8) (n1 := 16) (n2 := 256) h r a)
      = gates (Ref.score a0 a1 a2 a3) (ix3 (n0 := 8) (n1 := 16) (n2 := N) h r (tok a)) := by
  show gate (F := Ideal) (bestF _ _) (ix2 (n0 := 16) (n1 := 256) r a) = Ref.softOf (bestSum _ _) r
  rw [gateOf_read]
  refine congrArg (fun b => Ref.softOf b r) (funext fun k => ?_)
  rw [bestF_read _ _ a (by intro p; rw [show ix3 (n0 := 8) (n1 := 16) (n2 := 256) h r a 0 = h from rfl, left_scores b]; exact hs _ _ _ _)
    (by intro p; rw [show ix3 (n0 := 8) (n1 := 16) (n2 := 256) h r a 0 = h from rfl, right_scores b]; exact hs _ _ _ _)]
  rw [show ix3 (n0 := 8) (n1 := 16) (n2 := 256) h r a 0 = h from rfl, left_scores b, right_scores b]
  rfl

end Block

variable (m : (ℓ : Loc nD τ sig) → Buf (Elt Ideal) ℓ) (c : Dev nD)

/-- The scores of the launched arguments. -/
def scores : FVec Ideal Cert.ReferenceIdeal.S32768x8x2x128 .f32 :=
  Ref.score (N := 32768) (m ((c : Thread nD τ).loc main_arg0)) (m ((c : Thread nD τ).loc main_arg1))
    (m ((c : Thread nD τ).loc main_arg2)) (m ((c : Thread nD τ).loc main_arg3))

/-- A grid point's input blocks, read off the arguments. -/
theorem blocks (t : Fin cfg0.N) : Blocks (N := 32768) (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) (token t) where
  tokens := tokens_read m c t
  weights := weights_read m c t
  biases := biases_read m c t
  keys := keys_read m c t

variable (hs : ∀ n h p k, Ref.row (scores m c) n h p k ≠ ⊥)
include hs

/-- The first result array. -/
theorem experts_final : (dats m 0 c).arrAt 4 cfg0.N = experts (scores m c) := by
  refine (dats m 0 c).arrAt_eq_of_covers 4 _ (by decide +kernel) fun t hf y => ?_
  have e1 : (dats m 0 c).after 4 t = blkE (iblk m c 0 t) (iblk m c 1 t) (iblk m c 2 t) (iblk m c 3 t) := by
    rw [after0_4]
    simp only [outsAt0]
    exact out_expert ..
  have e : ((cfg0.win 4).blk t).view.emb y = ix3 (n0 := 8) (n1 := 16) (n2 := 32768) (y 0) (y 1) (token t (y 2)) := by
    blk_ext [at4 t, token]
  rw [e]
  blk_simp
  rw [e1]
  exact (congrArg _ (ix3_eta y).symm).trans (blkE_read (blocks m c t) hs (y 0) (y 1) (y 2))

/-- The second result array. -/
theorem gates_final : (dats m 0 c).arrAt 5 cfg0.N = gates (scores m c) := by
  refine (dats m 0 c).arrAt_eq_of_covers 5 _ (by decide +kernel) fun t hf y => ?_
  have e1 : (dats m 0 c).after 5 t = blkG (iblk m c 0 t) (iblk m c 1 t) (iblk m c 2 t) (iblk m c 3 t) := by
    rw [after0_5]
    simp only [outsAt0]
    exact out_gate ..
  have e : ((cfg0.win 5).blk t).view.emb y = ix3 (n0 := 8) (n1 := 16) (n2 := 32768) (y 0) (y 1) (token t (y 2)) := by
    blk_ext [at5 t, token]
  rw [e]
  blk_simp
  rw [e1]
  exact (congrArg _ (ix3_eta y).symm).trans (blkG_read (blocks m c t) hs (y 0) (y 1) (y 2))

end Cert.Route
-- ==== Proof.Route.Finite.lean ====
module

public import proofs.«01_k».proof.Proof.Route.Final
public import proofs.«01_k».proof.Proof.Gen.Pre_finite
public import proofs.«01_k».proof.Defs

@[expose] public section

set_option maxRecDepth 16384

noncomputable section

/-! Real arguments have real scores. -/

namespace Cert.Route

open Idealize.ShloMosaic Idealize.ShloMosaic.TcCoe Idealize.SL.Sem
open Idealize.ShloMosaic.Pointwise

/-- An extended real that is a real number. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem IsReal.ne_bot {x : EReal} : IsReal x → x ≠ ⊥
  | ⟨_, ha⟩ => ha ▸ EReal.coe_ne_bot _

theorem ofBits_inf : Ideal.ofBits .f32 2139095040#32 = (⊤ : EReal) := by
  simp [Ideal.ofBits, Ideal.ieee]

/-- A value whose absolute value is below infinity is a real number. -/
theorem isReal_of_lt (x : EReal) (h : Ideal.cmp .olt (max x (-x)) (Ideal.ofBits .f32 2139095040#32) = 1#1) : IsReal x := by
  rw [ofBits_inf] at h
  induction x using EReal.rec with
  | bot => simp [Ideal.cmp] at h
  | coe r => exact ⟨r, rfl⟩
  | top => simp [Ideal.cmp] at h

/-- Scores of real arguments are real numbers. -/
theorem score_real {N : ℕ} [Ref.Tokens N] (a0 : FVec Ideal (Ref.SNx1024 N) .f32) (a1 : FVec Ideal Cert.ReferenceIdeal.S1024x2048 .f32)
    (a2 : FVec Ideal Cert.ReferenceIdeal.S2048 .f32) (a3 : FVec Ideal Cert.ReferenceIdeal.S8x2x128x128 .f32)
    (h0 : ∀ i, IsReal (a0 i)) (h1 : ∀ i, IsReal (a1 i)) (h2 : ∀ i, IsReal (a2 i)) (h3 : ∀ i, IsReal (a3 i))
    (n : Fin N) (h : Fin 8) (p : Fin 2) (k : Fin 128) : IsReal (Ref.row (Ref.score a0 a1 a2 a3) n h p k) := by
  unfold Ref.row
  rw [Ref.score_read]
  exact IsReal.sum _ fun x => (h3 _).mul ((IsReal.sum _ fun e => (h0 _).mul (h1 _)).add (h2 _))

open Cert.KernelIdeal in
/-- Under the precondition no score is minus infinity. -/
theorem scores_ne_bot (m : (ℓ : Loc nD τ sig) → Buf (Elt Ideal) ℓ)
    (hm : Cert.Pre_KernelIdeal_finite (hPre_finite := Cert.Pre_finite.Gen.facts) m) (c : Dev nD)
    (n : Fin 32768) (h : Fin 8) (p : Fin 2) (k : Fin 128) : Ref.row (scores m c) n h p k ≠ ⊥ := by
  obtain ⟨h0, h1, h2, h3⟩ := hm c
  exact (score_real _ _ _ _ (fun i => isReal_of_lt _ (congrFun h0 i)) (fun i => isReal_of_lt _ (congrFun h1 i))
    (fun i => isReal_of_lt _ (congrFun h2 i)) (fun i => isReal_of_lt _ (congrFun h3 i)) n h p k).ne_bot

end Cert.Route
-- ==== Proof.Route.Claims.lean ====
module

public import proofs.«01_k».proof.Proof.Route.Finite
public import proofs.«01_k».proof.Proof.Gen.Kernel.Frame
public import Idealize.ShloMosaic.Lib.Quiescent

@[expose] public section

set_option maxRecDepth 16384

noncomputable section

/-! The claims about the routing. -/

namespace Cert.Route

open Idealize.ShloMosaic Idealize.ShloMosaic.TcCoe Idealize.SL.Sem
open Idealize.ShloMosaic.Pointwise

/-- The reference's run leaves its arguments and its counters as they were. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m g)

open Cert.ReferenceIdeal in
/-- The scores of the reference's arguments. -/
def refScores (m : (ℓ : Loc nD τ sig) → Buf (Elt Ideal) ℓ) (c : Dev nD) : FVec Ideal S32768x8x2x128 .f32 :=
  Ref.score (N := 32768) (m ((c.tc : Thread nD τ).loc main_arg0)) (m ((c.tc : Thread nD τ).loc main_arg1))
    (m ((c.tc : Thread nD τ).loc main_arg2)) (m ((c.tc : Thread nD τ).loc main_arg3))

open Cert.ReferenceIdeal Cert.ReferenceIdeal.Value in
/-- The reference's expert numbers, by its stages. -/
theorem ref_experts (m : (ℓ : Loc nD τ sig) → Buf (Elt Ideal) ℓ) (c : Dev nD) : res_out0 m c = experts (refScores m c) := by
  rw [← expertsOf_eq]
  unfold res_out0 res_main_v41 Ref.expertsOf Ref.along Ref.taken Ref.inRange Ref.start Ref.best2 Ref.cand Ref.num Ref.best1 refScores
    Ref.score Ref.query
  rfl

open Cert.ReferenceIdeal Cert.ReferenceIdeal.Value in
/-- The reference's gates, by its stages. -/
theorem ref_gates (m : (ℓ : Loc nD τ sig) → Buf (Elt Ideal) ℓ) (c : Dev nD) : res_out1 m c = gates (refScores m c) := by
  rw [← gatesOf_eq]
  unfold res_out1 res_main_v42 Ref.gatesOf Ref.soft Ref.shifted Ref.best2 Ref.cand Ref.best1 refScores Ref.score Ref.query
  rfl

/-- Equal arguments have equal scores. -/
theorem scores_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    refScores m' c = scores m c := by
  unfold refScores scores
  rw [h0, h1, h2, h3]

/-- The kernel and the reference end with equal expert numbers and equal gates. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hm hag
  refine ⟨fun c => experts (scores m c), fun c => gates (scores m c), ?_, ?_⟩
  · refine (θ_run _ _ _).mono (fun r h c => ?_) (Cert.KernelIdeal.Value.run_blocks (F := Ideal) m g)
    obtain ⟨e0, e1, rest⟩ := h c
    exact ⟨e0.trans (experts_final m c (scores_ne_bot m hm c)), e1.trans (gates_final m c (scores_ne_bot m hm c)), rest⟩
  · refine (θ_run _ _ _).mono (fun r h c => ?_) (Cert.ReferenceIdeal.Value.run (F := Ideal) m' g')
    obtain ⟨e0, e1, rest⟩ := h c
    obtain ⟨h0, h1, h2, h3⟩ := hag c
    have es := scores_agree m m' c h0 h1 h2 h3
    exact ⟨e0.trans ((ref_experts m' c).trans (congrArg experts es)), e1.trans ((ref_gates m' c).trans (congrArg gates es)), rest⟩

end Cert.Route
-- ==== Proof.Route.AllBlock.lean ====
module

public import proofs.«01_k».proof.Proof.Route.Claims
public import proofs.«01_k».proof.Proof.Gen.RouteAllIdeal.Frame

@[expose] public section

set_option maxRecDepth 16384

noncomputable section

/-! A grid point of the first layer's call leaves what one of the last layer's leaves on the same input blocks. -/

namespace Cert.Route.All

open Cert.RouteAllIdeal Cert.RouteAllIdeal.Gen Idealize.ShloMosaic Idealize.ShloMosaic.TcCoe Idealize.SL.Sem

variable {F : FTy → Type} [FloatOps F]

section Run

variable (𝒱 : Variants) (c : Dev nD) (bd : Option 𝒱.V) (i : grid0.Coords)
  (arg1 : Memref sig .tc .vmem S256x1024 .f32) (harg1 : arg1.IsWhole)
  (arg2 : Memref sig .tc .vmem S8x1024x256 .bf16) (harg2 : arg2.IsWhole)
  (arg3 : Memref sig .tc .vmem S8x1x256 .f32) (harg3 : arg3.IsWhole)
  (arg4 : Memref sig .tc .vmem S8x2x128x128 .bf16) (harg4 : arg4.IsWhole)
  (arg5 : Memref sig .tc .vmem S8x16x256 .i32) (harg5 : arg5.IsWhole)
  (arg6 : Memref sig .tc .vmem S8x16x256 .f32) (harg6 : arg6.IsWhole)
  (i' : Cert.KernelIdeal.grid0.Coords)
  (arg1' : Memref Cert.KernelIdeal.sig .tc .vmem S256x1024 .f32) (harg1' : arg1'.IsWhole)
  (arg2' : Memref Cert.KernelIdeal.sig .tc .vmem S8x1024x256 .bf16) (harg2' : arg2'.IsWhole)
  (arg3' : Memref Cert.KernelIdeal.sig .tc .vmem S8x1x256 .f32) (harg3' : arg3'.IsWhole)
  (arg4' : Memref Cert.KernelIdeal.sig .tc .vmem S8x2x128x128 .bf16) (harg4' : arg4'.IsWhole)
  (arg5' : Memref Cert.KernelIdeal.sig .tc .vmem S8x16x256 .i32) (harg5' : arg5'.IsWhole)
  (arg6' : Memref Cert.KernelIdeal.sig .tc .vmem S8x16x256 .f32) (harg6' : arg6'.IsWhole)
  (x0 : Vec F S256x1024 .f32) (x1 : Vec F S8x1024x256 .bf16) (x2 : Vec F S8x1x256 .f32)
  (x3 : Vec F S8x2x128x128 .bf16)

/-- A pass of the loop stores the same. -/
theorem trip_eq (v0 : Vec F S256x1024 .f32) (k : Fin k0_t1_loop.trips) :
    tripL_k0_t1 (F := F) 𝒱 c bd i arg1 harg1 arg2 harg2 arg3 harg3 arg4 harg4 arg5 harg5 arg6 harg6 v0 (harg2.unread x1) (harg3.unread x2) (harg4.unread x3) k =
      Cert.KernelIdeal.Gen.tripL_k0_t1 (F := F) 𝒱 c bd i' arg1' harg1' arg2' harg2' arg3' harg3' arg4' harg4' arg5' harg5' arg6' harg6' v0 (harg2'.unread x1) (harg3'.unread x2) (harg4'.unread x3) k := by
  unfold tripL_k0_t1 trip_k0_t1 Cert.KernelIdeal.Gen.tripL_k0_t1 Cert.KernelIdeal.Gen.trip_k0_t1
  dsimp only
  sl_unfold_run_names
  simp only [View.readAt_eq_ld, harg2.read_unread, harg3.read_unread, harg4.read_unread, harg2'.read_unread,
    harg3'.read_unread, harg4'.read_unread]
  rfl

/-- The passes before the `n`th store the same. -/
theorem pb_eq (v0 : Vec F S256x1024 .f32) (n : ℕ) (hn : n ≤ k0_t1_loop.trips) :
    pb_k0_t1 (F := F) 𝒱 c bd i arg1 harg1 arg2 harg2 arg3 harg3 arg4 harg4 arg5 harg5 arg6 harg6 v0 (harg2.unread x1) (harg3.unread x2) (harg4.unread x3) n =
      Cert.KernelIdeal.Gen.pb_k0_t1 (F := F) 𝒱 c bd i' arg1' harg1' arg2' harg2' arg3' harg3' arg4' harg4' arg5' harg5' arg6' harg6' v0 (harg2'.unread x1) (harg3'.unread x2) (harg4'.unread x3) n := by
  induction n with
  | zero => rfl
  | succ n ih =>
    refine (pb_k0_t1_succ (F := F) 𝒱 c bd i arg1 harg1 arg2 harg2 arg3 harg3 arg4 harg4 arg5 harg5 arg6 harg6 v0 _ _ _ ⟨n, hn⟩).trans ?_
    refine Eq.trans ?_ (Cert.KernelIdeal.Gen.pb_k0_t1_succ (F := F) 𝒱 c bd i' arg1' harg1' arg2' harg2' arg3' harg3' arg4' harg4' arg5' harg5' arg6' harg6' v0 _ _ _ ⟨n, hn⟩).symm
    rw [trip_eq 𝒱 c bd i arg1 harg1 arg2 harg2 arg3 harg3 arg4 harg4 arg5 harg5 arg6 harg6 i' arg1' harg1' arg2' harg2' arg3' harg3' arg4' harg4' arg5' harg5' arg6' harg6' x1 x2 x3 v0 ⟨n, hn⟩]
    exact congrArg₂ Prod.mk (congrArg (_ ++ Prod.fst ·) (ih (Nat.le_of_succ_le hn))) (congrArg (_ ++ Prod.snd ·) (ih (Nat.le_of_succ_le hn)))

/-- The block of expert numbers a grid point leaves is the other call's. -/
theorem expert_eq : out0_A_4 (F := F) c i arg1 harg1 arg2 harg2 arg3 harg3 arg4 harg4 arg5 harg5 arg6 harg6 x0 x1 x2 x3 =
    Cert.KernelIdeal.Gen.out0_A_4 (F := F) c i' arg1' harg1' arg2' harg2' arg3' harg3' arg4' harg4' arg5' harg5' arg6' harg6' x0 x1 x2 x3 := by
  unfold out0_A_4 Cert.KernelIdeal.Gen.out0_A_4
  rw [View.read_writes_eq_canon _ _ _ (cover0_A_4 c i arg1 harg1 arg2 harg2 arg3 harg3 arg4 harg4 arg5 harg5 arg6 harg6 x0 x1 x2 x3),
    View.read_writes_eq_canon _ _ _ (Cert.KernelIdeal.Gen.cover0_A_4 c i' arg1' harg1' arg2' harg2' arg3' harg3' arg4' harg4' arg5' harg5' arg6' harg6' x0 x1 x2 x3)]
  unfold kernelRun0_A Cert.KernelIdeal.Gen.kernelRun0_A
  dsimp only
  sl_unfold_run_names
  simp only [View.readAt_eq_ld, harg1.read_unread, harg1'.read_unread]
  refine congrArg (fun p => View.canon (Val := Elt F) p.1) (pb_eq _ _ _ _ _ _ _ _ _ _ _ _ _ _ _ _ _ _ _ _ _ _ _ _ _ _ _ _ _ _ _ _ _ _ ?_)
  decide +kernel

/-- The block of gates a grid point leaves is the other call's. -/
theorem gate_eq : out0_A_5 (F := F) c i arg1 harg1 arg2 harg2 arg3 harg3 arg4 harg4 arg5 harg5 arg6 harg6 x0 x1 x2 x3 =
    Cert.KernelIdeal.Gen.out0_A_5 (F := F) c i' arg1' harg1' arg2' harg2' arg3' harg3' arg4' harg4' arg5' harg5' arg6' harg6' x0 x1 x2 x3 := by
  unfold out0_A_5 Cert.KernelIdeal.Gen.out0_A_5
  rw [View.read_writes_eq_canon _ _ _ (cover0_A_5 c i arg1 harg1 arg2 harg2 arg3 harg3 arg4 harg4 arg5 harg5 arg6 harg6 x0 x1 x2 x3),
    View.read_writes_eq_canon _ _ _ (Cert.KernelIdeal.Gen.cover0_A_5 c i' arg1' harg1' arg2' harg2' arg3' harg3' arg4' harg4' arg5' harg5' arg6' harg6' x0 x1 x2 x3)]
  unfold kernelRun0_A Cert.KernelIdeal.Gen.kernelRun0_A
  dsimp only
  sl_unfold_run_names
  simp only [View.readAt_eq_ld, harg1.read_unread, harg1'.read_unread]
  refine congrArg (fun p => View.canon (Val := Elt F) p.2) (pb_eq _ _ _ _ _ _ _ _ _ _ _ _ _ _ _ _ _ _ _ _ _ _ _ _ _ _ _ _ _ _ _ _ _ _ ?_)
  decide +kernel

/-- The block of expert numbers a grid point leaves. -/
theorem out_expert : out0_A_4 (F := F) c i arg1 harg1 arg2 harg2 arg3 harg3 arg4 harg4 arg5 harg5 arg6 harg6 x0 x1 x2 x3 =
    blkE x0 x1 x2 x3 :=
  (expert_eq (i' := Cert.KernelIdeal.grid0.coords ⟨0, by decide +kernel⟩) (harg1' := Cert.KernelIdeal.Gen.hs0_0 ⟨0, by decide +kernel⟩)
    (harg2' := Cert.KernelIdeal.Gen.hs0_1 ⟨0, by decide +kernel⟩) (harg3' := Cert.KernelIdeal.Gen.hs0_2 ⟨0, by decide +kernel⟩)
    (harg4' := Cert.KernelIdeal.Gen.hs0_3 ⟨0, by decide +kernel⟩) (harg5' := Cert.KernelIdeal.Gen.hs0_4 ⟨0, by decide +kernel⟩)
    (harg6' := Cert.KernelIdeal.Gen.hs0_5 ⟨0, by decide +kernel⟩) ..).trans (Cert.Route.out_expert ..)

/-- The block of gates a grid point leaves. -/
theorem out_gate : out0_A_5 (F := F) c i arg1 harg1 arg2 harg2 arg3 harg3 arg4 harg4 arg5 harg5 arg6 harg6 x0 x1 x2 x3 =
    blkG x0 x1 x2 x3 :=
  (gate_eq (i' := Cert.KernelIdeal.grid0.coords ⟨0, by decide +kernel⟩) (harg1' := Cert.KernelIdeal.Gen.hs0_0 ⟨0, by decide +kernel⟩)
    (harg2' := Cert.KernelIdeal.Gen.hs0_1 ⟨0, by decide +kernel⟩) (harg3' := Cert.KernelIdeal.Gen.hs0_2 ⟨0, by decide +kernel⟩)
    (harg4' := Cert.KernelIdeal.Gen.hs0_3 ⟨0, by decide +kernel⟩) (harg5' := Cert.KernelIdeal.Gen.hs0_4 ⟨0, by decide +kernel⟩)
    (harg6' := Cert.KernelIdeal.Gen.hs0_5 ⟨0, by decide +kernel⟩) ..).trans (Cert.Route.out_gate ..)

end Run

end Cert.Route.All
-- ==== Proof.Route.All.lean ====
module

public import proofs.«01_k».proof.Proof.Route.AllBlock
public import proofs.«01_k».proof.Proof.Gen.RouteAllIdeal.Value
public import proofs.«01_k».proof.Proof.Gen.RouteAllRefIdeal.Run
public import proofs.«01_k».proof.Proof.Gen.RouteAll.Frame
public import proofs.«01_k».proof.Proof.Gen.Pre_finite_all

@[expose] public section

set_option maxRecDepth 16384

noncomputable section

/-! The first layer's routing: the same kernel on 36864 tokens. -/

namespace Cert.Route.All

open Idealize.ShloMosaic Idealize.ShloMosaic.TcCoe Idealize.SL.Sem
open Idealize.ShloMosaic.Pointwise

section Kernel

open Cert.RouteAllIdeal Cert.RouteAllIdeal.Gen

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0, 0, 0] := (by decide +kernel : ∀ t : Fin grid0.N, _)
theorem at4 : ∀ t : Fin cfg0.N, win0_4.index t = ![0, 0, t.val] := (by decide +kernel : ∀ t : Fin grid0.N, _)
theorem at5 : ∀ t : Fin cfg0.N, win0_5.index t = ![0, 0, t.val] := (by decide +kernel : ∀ t : Fin grid0.N, _)

theorem point_lt (t : Fin cfg0.N) : t.val < 144 := by
  have h : cfg0.N = 144 := N_0
  have := t.isLt
  omega

/-- The token of a grid point's row. -/
def token (t : Fin cfg0.N) (a : Fin 256) : Fin 36864 := ⟨t.val * 256 + a.val, by have := point_lt t; omega⟩

/-- The tokens' block. -/
theorem tokens_read (c : Dev nD) (t : Fin cfg0.N) (a : Fin 256) (e : Fin 1024) :
    iblk m c 0 t (ix2 (n0 := 256) (n1 := 1024) a e)
      = m ((c : Thread nD τ).loc main_arg0) (ix2 (n0 := 36864) (n1 := 1024) (token t a) e) := by
  blk_ext [iblk, V, at0 t, token]

/-- The query weights' block: the columns of one head side by side. -/
theorem weights_read (c : Dev nD) (t : Fin cfg0.N) (h : Fin 8) (e : Fin 1024) (q : Fin 256) :
    iblk m c 1 t (ix3 (n0 := 8) (n1 := 1024) (n2 := 256) h e q)
      = m ((c : Thread nD τ).loc main_arg1) (ix2 (n0 := 1024) (n1 := 2048) e ⟨h.val * 256 + q.val, by omega⟩) := by
  have e' : ((cfg0.win 1).blk t).view.emb (ix3 (n0 := 8) (n1 := 1024) (n2 := 256) h e q) = (ix3 (n0 := 8) (n1 := 1024) (n2 := 256) h e q) := by
    blk_ext [at1 t]
  show V m c main_v2 (((cfg0.win 1).blk t).view.emb (ix3 (n0 := 8) (n1 := 1024) (n2 := 256) h e q)) = _
  rw [e']
  entry_read
  pointwise []

/-- The query biases' block. -/
theorem biases_read (c : Dev nD) (t : Fin cfg0.N) (h : Fin 8) (q : Fin 256) :
    iblk m c 2 t (ix3 (n0 := 8) (n1 := 1) (n2 := 256) h 0 q)
      = m ((c : Thread nD τ).loc main_arg2) (ix1 (n0 := 2048) ⟨h.val * 256 + q.val, by omega⟩) := by
  have e : ((cfg0.win 2).blk t).view.emb (ix3 (n0 := 8) (n1 := 1) (n2 := 256) h 0 q) = (ix3 (n0 := 8) (n1 := 1) (n2 := 256) h 0 q) := by
    blk_ext [at2 t]
  show V m c main_v3 (((cfg0.win 2).blk t).view.emb (ix3 (n0 := 8) (n1 := 1) (n2 := 256) h 0 q)) = _
  rw [e]
  entry_read
  pointwise []

/-- The keys' block. -/
theorem keys_read (c : Dev nD) (t : Fin cfg0.N) (h : Fin 8) (p : Fin 2) (k q : Fin 128) :
    iblk m c 3 t (ix4 (n0 := 8) (n1 := 2) (n2 := 128) (n3 := 128) h p k q)
      = m ((c : Thread nD τ).loc main_arg3) (ix4 (n0 := 8) (n1 := 2) (n2 := 128) (n3 := 128) h p k q) := by
  have e : ((cfg0.win 3).blk t).view.emb (ix4 (n0 := 8) (n1 := 2) (n2 := 128) (n3 := 128) h p k q) = (ix4 (n0 := 8) (n1 := 2) (n2 := 128) (n3 := 128) h p k q) := by
    blk_ext [at3 t]
  show V m c main_v4 (((cfg0.win 3).blk t).view.emb (ix4 (n0 := 8) (n1 := 2) (n2 := 128) (n3 := 128) h p k q)) = _
  rw [e]
  entry_read
  pointwise []

variable (c : Dev nD)

/-- The scores of the launched arguments. -/
def scores : FVec Ideal (Ref.SNx8x2x128 36864) .f32 :=
  Ref.score (N := 36864) (m ((c : Thread nD τ).loc main_arg0)) (m ((c : Thread nD τ).loc main_arg1))
    (m ((c : Thread nD τ).loc main_arg2)) (m ((c : Thread nD τ).loc main_arg3))

/-- A grid point's input blocks, read off the arguments. -/
theorem blocks (t : Fin cfg0.N) : Blocks (N := 36864) (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) (token t) where
  tokens := tokens_read m c t
  weights := weights_read m c t
  biases := biases_read m c t
  keys := keys_read m c t

variable (hs : ∀ n h p k, Ref.row (scores m c) n h p k ≠ ⊥)
include hs

/-- The first result array. -/
theorem experts_final : (dats m 0 c).arrAt 4 cfg0.N = experts (scores m c) := by
  refine (dats m 0 c).arrAt_eq_of_covers 4 _ (by decide +kernel) fun t hf y => ?_
  have e1 : (dats m 0 c).after 4 t = blkE (iblk m c 0 t) (iblk m c 1 t) (iblk m c 2 t) (iblk m c 3 t) := by
    rw [after0_4]
    simp only [outsAt0]
    exact out_expert ..
  have e : ((cfg0.win 4).blk t).view.emb y = ix3 (n0 := 8) (n1 := 16) (n2 := 36864) (y 0) (y 1) (token t (y 2)) := by
    blk_ext [at4 t, token]
  rw [e]
  blk_simp
  rw [e1]
  exact (congrArg _ (ix3_eta y).symm).trans (blkE_read (blocks m c t) hs (y 0) (y 1) (y 2))

/-- The second result array. -/
theorem gates_final : (dats m 0 c).arrAt 5 cfg0.N = gates (scores m c) := by
  refine (dats m 0 c).arrAt_eq_of_covers 5 _ (by decide +kernel) fun t hf y => ?_
  have e1 : (dats m 0 c).after 5 t = blkG (iblk m c 0 t) (iblk m c 1 t) (iblk m c 2 t) (iblk m c 3 t) := by
    rw [after0_5]
    simp only [outsAt0]
    exact out_gate ..
  have e : ((cfg0.win 5).blk t).view.emb y = ix3 (n0 := 8) (n1 := 16) (n2 := 36864) (y 0) (y 1) (token t (y 2)) := by
    blk_ext [at5 t, token]
  rw [e]
  blk_simp
  rw [e1]
  exact (congrArg _ (ix3_eta y).symm).trans (blkG_read (blocks m c t) hs (y 0) (y 1) (y 2))

end Kernel

open Cert.RouteAllIdeal in
/-- Under the precondition no score is minus infinity. -/
theorem scores_ne_bot (m : (ℓ : Loc nD τ sig) → Buf (Elt Ideal) ℓ)
    (hm : Cert.Pre_RouteAllIdeal_finite_all (hPre_finite_all := Cert.Pre_finite_all.Gen.facts) m) (c : Dev nD)
    (n : Fin 36864) (h : Fin 8) (p : Fin 2) (k : Fin 128) : Ref.row (scores m c) n h p k ≠ ⊥ := by
  obtain ⟨h0, h1, h2, h3⟩ := hm c
  exact (score_real _ _ _ _ (fun i => isReal_of_lt _ (congrFun h0 i)) (fun i => isReal_of_lt _ (congrFun h1 i))
    (fun i => isReal_of_lt _ (congrFun h2 i)) (fun i => isReal_of_lt _ (congrFun h3 i)) n h p k).ne_bot

/-- The reference's run leaves its arguments and its counters as they were. -/
theorem frame_reference (m : (ℓ : Loc Cert.RouteAllRefIdeal.nD Cert.RouteAllRefIdeal.τ Cert.RouteAllRefIdeal.sig) → Buf (Elt Ideal) ℓ)
    (g : Dev Cert.RouteAllRefIdeal.nD → PrngReg) :
    θ_run (Cert.RouteAllRefIdeal.defs (F := Ideal)) (onTc (τ := Cert.RouteAllRefIdeal.τ) (Cert.RouteAllRefIdeal.main (F := Ideal))) ⟨m, fun _ => 0, g⟩
      (fun r => (∀ c : Dev Cert.RouteAllRefIdeal.nD,
        r.2.mem ((c.tc : Thread Cert.RouteAllRefIdeal.nD Cert.RouteAllRefIdeal.τ).loc Cert.RouteAllRefIdeal.main_arg0) = m ((c.tc : Thread Cert.RouteAllRefIdeal.nD Cert.RouteAllRefIdeal.τ).loc Cert.RouteAllRefIdeal.main_arg0)
        ∧ r.2.mem ((c.tc : Thread Cert.RouteAllRefIdeal.nD Cert.RouteAllRefIdeal.τ).loc Cert.RouteAllRefIdeal.main_arg1) = m ((c.tc : Thread Cert.RouteAllRefIdeal.nD Cert.RouteAllRefIdeal.τ).loc Cert.RouteAllRefIdeal.main_arg1)
        ∧ r.2.mem ((c.tc : Thread Cert.RouteAllRefIdeal.nD Cert.RouteAllRefIdeal.τ).loc Cert.RouteAllRefIdeal.main_arg2) = m ((c.tc : Thread Cert.RouteAllRefIdeal.nD Cert.RouteAllRefIdeal.τ).loc Cert.RouteAllRefIdeal.main_arg2)
        ∧ r.2.mem ((c.tc : Thread Cert.RouteAllRefIdeal.nD Cert.RouteAllRefIdeal.τ).loc Cert.RouteAllRefIdeal.main_arg3) = m ((c.tc : Thread Cert.RouteAllRefIdeal.nD Cert.RouteAllRefIdeal.τ).loc Cert.RouteAllRefIdeal.main_arg3))
      ∧ r.2.sem = fun _ => 0) :=
  (θ_run Cert.RouteAllRefIdeal.defs _ _).mono (fun r h => ⟨fun c => (h c).2.2, sem_eq_zero_of_no_sems (by decide) r.2⟩)
    (Cert.RouteAllRefIdeal.Value.run (F := Ideal) m g)

open Cert.RouteAllRefIdeal in
/-- The scores of the reference's arguments. -/
def refScores (m : (ℓ : Loc nD τ sig) → Buf (Elt Ideal) ℓ) (c : Dev nD) : FVec Ideal (Ref.SNx8x2x128 36864) .f32 :=
  Ref.score (N := 36864) (m ((c.tc : Thread nD τ).loc main_arg0)) (m ((c.tc : Thread nD τ).loc main_arg1))
    (m ((c.tc : Thread nD τ).loc main_arg2)) (m ((c.tc : Thread nD τ).loc main_arg3))

open Cert.RouteAllRefIdeal Cert.RouteAllRefIdeal.Value in
/-- The reference's expert numbers, by its stages. -/
theorem ref_experts (m : (ℓ : Loc nD τ sig) → Buf (Elt Ideal) ℓ) (c : Dev nD) : res_out0 m c = experts (refScores m c) := by
  rw [← expertsOf_eq]
  unfold res_out0 res_main_v41 Ref.expertsOf Ref.along Ref.taken Ref.inRange Ref.start Ref.best2 Ref.cand Ref.num Ref.best1 refScores
    Ref.score Ref.query
  rfl

open Cert.RouteAllRefIdeal Cert.RouteAllRefIdeal.Value in
/-- The reference's gates, by its stages. -/
theorem ref_gates (m : (ℓ : Loc nD τ sig) → Buf (Elt Ideal) ℓ) (c : Dev nD) : res_out1 m c = gates (refScores m c) := by
  rw [← gatesOf_eq]
  unfold res_out1 res_main_v42 Ref.gatesOf Ref.soft Ref.shifted Ref.best2 Ref.cand Ref.best1 refScores Ref.score Ref.query
  rfl

/-- Equal arguments have equal scores. -/
theorem scores_agree (m : (ℓ : Loc Cert.RouteAllIdeal.nD Cert.RouteAllIdeal.τ Cert.RouteAllIdeal.sig) → Buf (Elt Ideal) ℓ)
    (m' : (ℓ : Loc Cert.RouteAllRefIdeal.nD Cert.RouteAllRefIdeal.τ Cert.RouteAllRefIdeal.sig) → Buf (Elt Ideal) ℓ)
    (c : Dev Cert.RouteAllIdeal.nD)
    (h0 : m' ((c.tc : Thread Cert.RouteAllRefIdeal.nD Cert.RouteAllRefIdeal.τ).loc Cert.RouteAllRefIdeal.main_arg0) = m ((c.tc : Thread Cert.RouteAllIdeal.nD Cert.RouteAllIdeal.τ).loc Cert.RouteAllIdeal.main_arg0))
    (h1 : m' ((c.tc : Thread Cert.RouteAllRefIdeal.nD Cert.RouteAllRefIdeal.τ).loc Cert.RouteAllRefIdeal.main_arg1) = m ((c.tc : Thread Cert.RouteAllIdeal.nD Cert.RouteAllIdeal.τ).loc Cert.RouteAllIdeal.main_arg1))
    (h2 : m' ((c.tc : Thread Cert.RouteAllRefIdeal.nD Cert.RouteAllRefIdeal.τ).loc Cert.RouteAllRefIdeal.main_arg2) = m ((c.tc : Thread Cert.RouteAllIdeal.nD Cert.RouteAllIdeal.τ).loc Cert.RouteAllIdeal.main_arg2))
    (h3 : m' ((c.tc : Thread Cert.RouteAllRefIdeal.nD Cert.RouteAllRefIdeal.τ).loc Cert.RouteAllRefIdeal.main_arg3) = m ((c.tc : Thread Cert.RouteAllIdeal.nD Cert.RouteAllIdeal.τ).loc Cert.RouteAllIdeal.main_arg3)) :
    refScores m' c = scores m c := by
  unfold refScores scores
  rw [h0, h1, h2, h3]

/-- The kernel and the reference end with equal expert numbers and equal gates. -/
theorem algebraic : Cert.algebraic_RouteAllIdeal_RouteAllRefIdeal_pre_finite_all (hRouteAllIdeal := Cert.RouteAllIdeal.Gen.facts)
    (hRouteAllRefIdeal := Cert.RouteAllRefIdeal.Gen.facts) (hPre_finite_all := Cert.Pre_finite_all.Gen.facts) := by
  intro m g m' g' hm hag
  refine ⟨fun c => experts (scores m c), fun c => gates (scores m c), ?_, ?_⟩
  · refine (θ_run _ _ _).mono (fun r h c => ?_) (Cert.RouteAllIdeal.Value.run_blocks (F := Ideal) m g)
    obtain ⟨e0, e1, rest⟩ := h c
    exact ⟨e0.trans (experts_final m c (scores_ne_bot m hm c)), e1.trans (gates_final m c (scores_ne_bot m hm c)), rest⟩
  · refine (θ_run _ _ _).mono (fun r h c => ?_) (Cert.RouteAllRefIdeal.Value.run (F := Ideal) m' g')
    obtain ⟨e0, e1, rest⟩ := h c
    obtain ⟨h0, h1, h2, h3⟩ := hag c
    have es := scores_agree m m' c h0 h1 h2 h3
    exact ⟨e0.trans ((ref_experts m' c).trans (congrArg experts es)), e1.trans ((ref_gates m' c).trans (congrArg gates es)), rest⟩

end Cert.Route.All
-- ==== Proof.Project.Rows.lean ====
module

public import proofs.«01_k».proof.Proof.Route.All

@[expose] public section

set_option maxRecDepth 16384

noncomputable section

/-! A projection of the rows of a sequence. -/

namespace Cert.Project

open Idealize.ShloMosaic Idealize.ShloMosaic.TcCoe Idealize.SL.Sem
open Idealize.ShloMosaic.Pointwise

/-- Every token's row times the weights, the sequences one after another: entry `(n, j)` is the product of row `n % T`
    of sequence `n / T` with column `c + j` of the weights. -/
def rows {B T M K W N : ℕ} (hM : M = B * T) (c : ℕ) (hc : c + N ≤ W)
    (x : FVec Ideal ⟨3, ![B, T, K]⟩ .f32) (w : FVec Ideal ⟨2, ![K, W]⟩ .f32) : FVec Ideal ⟨2, ![M, N]⟩ .f32 := fun y =>
  ∑ e : Fin K, x (ix3 (n0 := B) (n1 := T) (n2 := K)
      ⟨(y 0).val / T, Nat.div_lt_of_lt_mul (by rw [Nat.mul_comm, ← hM]; exact (y 0).isLt)⟩
      ⟨(y 0).val % T, Nat.mod_lt _ (Nat.pos_of_ne_zero (by rintro rfl; have : (y 0).val < M := (y 0).isLt; simp [hM] at this))⟩ e)
    * w (ix2 (n0 := K) (n1 := W) e ⟨c + (y 1).val, lt_of_lt_of_le (Nat.add_lt_add_left (y 1).isLt c) hc⟩)

end Cert.Project
-- ==== Proof.Project.EvenIn.lean ====
module

public import proofs.«01_k».proof.Proof.Project.Rows
public import proofs.«01_k».proof.Proof.Gen.EvenInIdeal.Value
public import proofs.«01_k».proof.Proof.Gen.EvenInRefIdeal.Run

@[expose] public section

set_option maxRecDepth 16384

noncomputable section

/-! The even layer's projection of the latents. -/

namespace Cert.Project.EvenIn

open Cert.EvenInIdeal Cert.EvenInIdeal.Gen Idealize.ShloMosaic Idealize.ShloMosaic.TcCoe Idealize.SL.Sem
open Idealize.ShloMosaic.Pointwise

/-- What the projection of `x` by `w` is. -/
abbrev result (x : FVec Ideal S16x2048x1024 .f32) (w : FVec Ideal S1024x3584 .f32) : FVec Ideal S32768x3584 .f32 :=
  rows (B := 16) (T := 2048) (M := 32768) (K := 1024) (W := 3584) (N := 3584) rfl 0 (by decide) x w

theorem at0 : ∀ t : Fin cfg0.N, win0_0.index t = ![t.val / 7, 0] := (by decide +kernel : ∀ t : Fin grid0.N, _)
theorem at1 : ∀ t : Fin cfg0.N, win0_1.index t = ![0, t.val % 7] := (by decide +kernel : ∀ t : Fin grid0.N, _)
theorem at2 : ∀ t : Fin cfg0.N, win0_2.index t = ![t.val / 7, t.val % 7] := (by decide +kernel : ∀ t : Fin grid0.N, _)

theorem point_lt (t : Fin cfg0.N) : t.val < 448 := by
  have h : cfg0.N = 448 := N_0
  have := t.isLt
  omega

/-- A grid point's tokens, read off the argument. -/
theorem tokens_read (m : (ℓ : Loc nD τ sig) → Buf (Elt Ideal) ℓ) (c : Dev nD) (t : Fin cfg0.N) (a : Fin 512) (e : Fin 1024)
    (n : Fin 32768) (hn : n.val = t.val / 7 * 512 + a.val) :
    iblk m c 0 t (ix2 (n0 := 512) (n1 := 1024) a e) = m ((c : Thread nD τ).loc main_arg0)
      (ix3 (n0 := 16) (n1 := 2048) (n2 := 1024) ⟨n.val / 2048, by omega⟩ ⟨n.val % 2048, by omega⟩ e) := by
  have e' : ((cfg0.win 0).blk t).view.emb (ix2 (n0 := 512) (n1 := 1024) a e) = ix2 (n0 := 32768) (n1 := 1024) n e := by
    blk_ext [at0 t]
  show V m c main_v0 (((cfg0.win 0).blk t).view.emb (ix2 (n0 := 512) (n1 := 1024) a e)) = _
  rw [e']
  entry_read
  pointwise []

/-- A grid point's product, at the place of the result it fills. -/
theorem product_read (m : (ℓ : Loc nD τ sig) → Buf (Elt Ideal) ℓ) (c : Dev nD) (t : Fin cfg0.N) (a b : Fin 512)
    (n : Fin 32768) (j : Fin 3584) (hn : n.val = t.val / 7 * 512 + a.val) (hj : j.val = t.val % 7 * 512 + b.val) :
    k0_pay1 (iblk m c 0 t) (iblk m c 1 t) (ix2 (n0 := 512) (n1 := 512) a b) =
      result (m ((c : Thread nD τ).loc main_arg0)) (m ((c : Thread nD τ).loc main_arg1)) (ix2 (n0 := 32768) (n1 := 3584) n j) := by
  have ht := point_lt t
  unfold result rows
  pointwise [k0_pay1]
  refine Finset.sum_congr rfl fun e _ => congrArg₂ (· * ·) (tokens_read m c t a e n hn) ?_
  blk_ext [iblk, V, at1 t]

/-- The kernel's result array. -/
theorem final (m : (ℓ : Loc nD τ sig) → Buf (Elt Ideal) ℓ) (c : Dev nD) : (dats m 0 c).arrAt 2 cfg0.N =
    result (m ((c : Thread nD τ).loc main_arg0)) (m ((c : Thread nD τ).loc main_arg1)) := by
  refine (dats m 0 c).arrAt_eq_of_covers 2 _ (by decide +kernel) fun t hf y => ?_
  have ht := point_lt t
  have e : ((cfg0.win 2).blk t).view.emb y = ix2 (n0 := 32768) (n1 := 3584) ⟨t.val / 7 * 512 + (y 0).val, by have : (y 0).val < 512 := (y 0).isLt; omega⟩
      ⟨t.val % 7 * 512 + (y 1).val, by have : (y 1).val < 512 := (y 1).isLt; omega⟩ := by
    blk_ext [at2 t]
  rw [e]
  blk_simp
  rw [after0_2]
  frame_out
  rw [← ix2_eta (n0 := 512) (n1 := 512) y]
  exact product_read m c t (y 0) (y 1) _ _ rfl rfl

/-- The reference's result. -/
theorem ref_result (x : FVec Ideal S16x2048x1024 .f32) (w : FVec Ideal S1024x3584 .f32) :
    shapeCast Cert.EvenInRefIdeal.S32768x3584 (Host.dotGeneral (F := Ideal) Cert.EvenInRefIdeal.dot_S16x2048x1024_S1024x3584_S16x2048x3584_2_0_01_1_n_n none x w)
      Cert.EvenInRefIdeal.Gen.facts.shapeCasts_S16x2048x3584_S32768x3584 = result x w := by
  funext y
  rw [← ix2_eta (n0 := 32768) (n1 := 3584) y]
  unfold result rows
  pointwise []

/-- The reference's run leaves its arguments and its counters as they were. -/
theorem frame_ref : Cert.quiescent_EvenInRefIdeal (hEvenInRefIdeal := Cert.EvenInRefIdeal.Gen.facts) := fun m g _ =>
  (θ_run Cert.EvenInRefIdeal.defs _ _).mono (fun r h => ⟨fun c => (h c).2, sem_eq_zero_of_no_sems (by decide) r.2⟩)
    (Cert.EvenInRefIdeal.Value.run (F := Ideal) m g)

/-- The kernel and the reference end with equal projections. -/
theorem algebraic : Cert.algebraic_EvenInIdeal_EvenInRefIdeal (hEvenInIdeal := Cert.EvenInIdeal.Gen.facts)
    (hEvenInRefIdeal := Cert.EvenInRefIdeal.Gen.facts) := by
  intro m g m' g' _ hag
  refine ⟨fun c => result (m ((c : Thread nD τ).loc main_arg0)) (m ((c : Thread nD τ).loc main_arg1)), ?_, ?_⟩
  · refine (θ_run _ _ _).mono (fun r h c => ?_) (Cert.EvenInIdeal.Value.run_blocks (F := Ideal) m g)
    exact ⟨(h c).1.trans (final m c), (h c).2⟩
  · refine (θ_run _ _ _).mono (fun r h c => ?_) (Cert.EvenInRefIdeal.Value.run (F := Ideal) m' g')
    exact ⟨(h c).1.trans ((ref_result _ _).trans (congrArg₂ result (hag c).1 (hag c).2)), (h c).2⟩

end Cert.Project.EvenIn
-- ==== Proof.Project.EvenInCtx.lean ====
module

public import proofs.«01_k».proof.Proof.Project.EvenIn
public import proofs.«01_k».proof.Proof.Gen.EvenInCtxIdeal.Value
public import proofs.«01_k».proof.Proof.Gen.EvenInCtxRefIdeal.Run

@[expose] public section

set_option maxRecDepth 16384

noncomputable section

/-! The even layer's projection of the context. -/

namespace Cert.Project.EvenInCtx

open Cert.EvenInCtxIdeal Cert.EvenInCtxIdeal.Gen Idealize.ShloMosaic Idealize.ShloMosaic.TcCoe Idealize.SL.Sem
open Idealize.ShloMosaic.Pointwise

/-- What the projection of `x` by `w` is. -/
abbrev result (x : FVec Ideal S16x256x1024 .f32) (w : FVec Ideal S1024x3584 .f32) : FVec Ideal S4096x3584 .f32 :=
  rows (B := 16) (T := 256) (M := 4096) (K := 1024) (W := 3584) (N := 3584) rfl 0 (by decide) x w

theorem at0 : ∀ t : Fin cfg0.N, win0_0.index t = ![t.val / 7, 0] := (by decide +kernel : ∀ t : Fin grid0.N, _)
theorem at1 : ∀ t : Fin cfg0.N, win0_1.index t = ![0, t.val % 7] := (by decide +kernel : ∀ t : Fin grid0.N, _)
theorem at2 : ∀ t : Fin cfg0.N, win0_2.index t = ![t.val / 7, t.val % 7] := (by decide +kernel : ∀ t : Fin grid0.N, _)

theorem point_lt (t : Fin cfg0.N) : t.val < 56 := by
  have h : cfg0.N = 56 := N_0
  have := t.isLt
  omega

/-- A grid point's tokens, read off the argument. -/
theorem tokens_read (m : (ℓ : Loc nD τ sig) → Buf (Elt Ideal) ℓ) (c : Dev nD) (t : Fin cfg0.N) (a : Fin 512) (e : Fin 1024)
    (n : Fin 4096) (hn : n.val = t.val / 7 * 512 + a.val) :
    iblk m c 0 t (ix2 (n0 := 512) (n1 := 1024) a e) = m ((c : Thread nD τ).loc main_arg0)
      (ix3 (n0 := 16) (n1 := 256) (n2 := 1024) ⟨n.val / 256, by omega⟩ ⟨n.val % 256, by omega⟩ e) := by
  have e' : ((cfg0.win 0).blk t).view.emb (ix2 (n0 := 512) (n1 := 1024) a e) = ix2 (n0 := 4096) (n1 := 1024) n e := by
    blk_ext [at0 t]
  show V m c main_v0 (((cfg0.win 0).blk t).view.emb (ix2 (n0 := 512) (n1 := 1024) a e)) = _
  rw [e']
  entry_read
  pointwise []

/-- A grid point's product, at the place of the result it fills. -/
theorem product_read (m : (ℓ : Loc nD τ sig) → Buf (Elt Ideal) ℓ) (c : Dev nD) (t : Fin cfg0.N) (a b : Fin 512)
    (n : Fin 4096) (j : Fin 3584) (hn : n.val = t.val / 7 * 512 + a.val) (hj : j.val = t.val % 7 * 512 + b.val) :
    k0_pay1 (iblk m c 0 t) (iblk m c 1 t) (ix2 (n0 := 512) (n1 := 512) a b) =
      result (m ((c : Thread nD τ).loc main_arg0)) (m ((c : Thread nD τ).loc main_arg1)) (ix2 (n0 := 4096) (n1 := 3584) n j) := by
  have ht := point_lt t
  unfold result rows
  pointwise [k0_pay1]
  refine Finset.sum_congr rfl fun e _ => congrArg₂ (· * ·) (tokens_read m c t a e n hn) ?_
  blk_ext [iblk, V, at1 t]

/-- The kernel's result array. -/
theorem final (m : (ℓ : Loc nD τ sig) → Buf (Elt Ideal) ℓ) (c : Dev nD) : (dats m 0 c).arrAt 2 cfg0.N =
    result (m ((c : Thread nD τ).loc main_arg0)) (m ((c : Thread nD τ).loc main_arg1)) := by
  refine (dats m 0 c).arrAt_eq_of_covers 2 _ (by decide +kernel) fun t hf y => ?_
  have ht := point_lt t
  have e : ((cfg0.win 2).blk t).view.emb y = ix2 (n0 := 4096) (n1 := 3584) ⟨t.val / 7 * 512 + (y 0).val, by have : (y 0).val < 512 := (y 0).isLt; omega⟩
      ⟨t.val % 7 * 512 + (y 1).val, by have : (y 1).val < 512 := (y 1).isLt; omega⟩ := by
    blk_ext [at2 t]
  rw [e]
  blk_simp
  rw [after0_2]
  frame_out
  rw [← ix2_eta (n0 := 512) (n1 := 512) y]
  exact product_read m c t (y 0) (y 1) _ _ rfl rfl

/-- The reference's result. -/
theorem ref_result (x : FVec Ideal S16x256x1024 .f32) (w : FVec Ideal S1024x3584 .f32) :
    shapeCast Cert.EvenInCtxRefIdeal.S4096x3584 (Host.dotGeneral (F := Ideal) Cert.EvenInCtxRefIdeal.dot_S16x256x1024_S1024x3584_S16x256x3584_2_0_01_1_n_n none x w)
      Cert.EvenInCtxRefIdeal.Gen.facts.shapeCasts_S16x256x3584_S4096x3584 = result x w := by
  funext y
  rw [← ix2_eta (n0 := 4096) (n1 := 3584) y]
  unfold result rows
  pointwise []

/-- The reference's run leaves its arguments and its counters as they were. -/
theorem frame_ref : Cert.quiescent_EvenInCtxRefIdeal (hEvenInCtxRefIdeal := Cert.EvenInCtxRefIdeal.Gen.facts) := fun m g _ =>
  (θ_run Cert.EvenInCtxRefIdeal.defs _ _).mono (fun r h => ⟨fun c => (h c).2, sem_eq_zero_of_no_sems (by decide) r.2⟩)
    (Cert.EvenInCtxRefIdeal.Value.run (F := Ideal) m g)

/-- The kernel and the reference end with equal projections. -/
theorem algebraic : Cert.algebraic_EvenInCtxIdeal_EvenInCtxRefIdeal (hEvenInCtxIdeal := Cert.EvenInCtxIdeal.Gen.facts)
    (hEvenInCtxRefIdeal := Cert.EvenInCtxRefIdeal.Gen.facts) := by
  intro m g m' g' _ hag
  refine ⟨fun c => result (m ((c : Thread nD τ).loc main_arg0)) (m ((c : Thread nD τ).loc main_arg1)), ?_, ?_⟩
  · refine (θ_run _ _ _).mono (fun r h c => ?_) (Cert.EvenInCtxIdeal.Value.run_blocks (F := Ideal) m g)
    exact ⟨(h c).1.trans (final m c), (h c).2⟩
  · refine (θ_run _ _ _).mono (fun r h c => ?_) (Cert.EvenInCtxRefIdeal.Value.run (F := Ideal) m' g')
    exact ⟨(h c).1.trans ((ref_result _ _).trans (congrArg₂ result (hag c).1 (hag c).2)), (h c).2⟩

end Cert.Project.EvenInCtx
-- ==== Proof.Project.MixOut.lean ====
module

public import proofs.«01_k».proof.Proof.Project.EvenInCtx
public import proofs.«01_k».proof.Proof.Gen.MixOutIdeal.Value
public import proofs.«01_k».proof.Proof.Gen.MixOutRefIdeal.Run

@[expose] public section

set_option maxRecDepth 16384

noncomputable section

/-! The latents' projection after the even layer's mixing. -/

namespace Cert.Project.MixOut

open Cert.MixOutIdeal Cert.MixOutIdeal.Gen Idealize.ShloMosaic Idealize.ShloMosaic.TcCoe Idealize.SL.Sem
open Idealize.ShloMosaic.Pointwise

/-- What the projection of `x` by `w` is. -/
abbrev result (x : FVec Ideal S16x2048x1024 .f32) (w : FVec Ideal S1024x1024 .f32) : FVec Ideal S32768x1024 .f32 :=
  rows (B := 16) (T := 2048) (M := 32768) (K := 1024) (W := 1024) (N := 1024) rfl 0 (by decide) x w

theorem at0 : ∀ t : Fin cfg0.N, win0_0.index t = ![t.val / 2, 0] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

theorem point_lt (t : Fin cfg0.N) : t.val < 128 := by
  have h : cfg0.N = 128 := N_0
  have := t.isLt
  omega

/-- A grid point's tokens, read off the argument. -/
theorem tokens_read (m : (ℓ : Loc nD τ sig) → Buf (Elt Ideal) ℓ) (c : Dev nD) (t : Fin cfg0.N) (a : Fin 512) (e : Fin 1024)
    (n : Fin 32768) (hn : n.val = t.val / 2 * 512 + a.val) :
    iblk m c 0 t (ix2 (n0 := 512) (n1 := 1024) a e) = m ((c : Thread nD τ).loc main_arg0)
      (ix3 (n0 := 16) (n1 := 2048) (n2 := 1024) ⟨n.val / 2048, by omega⟩ ⟨n.val % 2048, by omega⟩ e) := by
  have e' : ((cfg0.win 0).blk t).view.emb (ix2 (n0 := 512) (n1 := 1024) a e) = ix2 (n0 := 32768) (n1 := 1024) n e := by
    blk_ext [at0 t]
  show V m c main_v0 (((cfg0.win 0).blk t).view.emb (ix2 (n0 := 512) (n1 := 1024) a e)) = _
  rw [e']
  entry_read
  pointwise []

/-- A grid point's product, at the place of the result it fills. -/
theorem product_read (m : (ℓ : Loc nD τ sig) → Buf (Elt Ideal) ℓ) (c : Dev nD) (t : Fin cfg0.N) (a b : Fin 512)
    (n : Fin 32768) (j : Fin 1024) (hn : n.val = t.val / 2 * 512 + a.val) (hj : j.val = t.val % 2 * 512 + b.val) :
    k0_pay1 (iblk m c 0 t) (iblk m c 1 t) (ix2 (n0 := 512) (n1 := 512) a b) =
      result (m ((c : Thread nD τ).loc main_arg0)) (m ((c : Thread nD τ).loc main_arg1)) (ix2 (n0 := 32768) (n1 := 1024) n j) := by
  have ht := point_lt t
  unfold result rows
  pointwise [k0_pay1]
  refine Finset.sum_congr rfl fun e _ => congrArg₂ (· * ·) (tokens_read m c t a e n hn) ?_
  blk_ext [iblk, V, at1 t]

/-- The kernel's result array. -/
theorem final (m : (ℓ : Loc nD τ sig) → Buf (Elt Ideal) ℓ) (c : Dev nD) : (dats m 0 c).arrAt 2 cfg0.N =
    result (m ((c : Thread nD τ).loc main_arg0)) (m ((c : Thread nD τ).loc main_arg1)) := by
  refine (dats m 0 c).arrAt_eq_of_covers 2 _ (by decide +kernel) fun t hf y => ?_
  have ht := point_lt t
  have e : ((cfg0.win 2).blk t).view.emb y = ix2 (n0 := 32768) (n1 := 1024) ⟨t.val / 2 * 512 + (y 0).val, by have : (y 0).val < 512 := (y 0).isLt; omega⟩
      ⟨t.val % 2 * 512 + (y 1).val, by have : (y 1).val < 512 := (y 1).isLt; omega⟩ := by
    blk_ext [at2 t]
  rw [e]
  blk_simp
  rw [after0_2]
  frame_out
  rw [← ix2_eta (n0 := 512) (n1 := 512) y]
  exact product_read m c t (y 0) (y 1) _ _ rfl rfl

/-- The reference's result. -/
theorem ref_result (x : FVec Ideal S16x2048x1024 .f32) (w : FVec Ideal S1024x1024 .f32) :
    shapeCast Cert.MixOutRefIdeal.S32768x1024 (Host.dotGeneral (F := Ideal) Cert.MixOutRefIdeal.dot_S16x2048x1024_S1024x1024_S16x2048x1024_2_0_01_1_n_n none x w)
      Cert.MixOutRefIdeal.Gen.facts.shapeCasts_S16x2048x1024_S32768x1024 = result x w := by
  funext y
  rw [← ix2_eta (n0 := 32768) (n1 := 1024) y]
  unfold result rows
  pointwise []

/-- The reference's run leaves its arguments and its counters as they were. -/
theorem frame_ref : Cert.quiescent_MixOutRefIdeal (hMixOutRefIdeal := Cert.MixOutRefIdeal.Gen.facts) := fun m g _ =>
  (θ_run Cert.MixOutRefIdeal.defs _ _).mono (fun r h => ⟨fun c => (h c).2, sem_eq_zero_of_no_sems (by decide) r.2⟩)
    (Cert.MixOutRefIdeal.Value.run (F := Ideal) m g)

/-- The kernel and the reference end with equal projections. -/
theorem algebraic : Cert.algebraic_MixOutIdeal_MixOutRefIdeal (hMixOutIdeal := Cert.MixOutIdeal.Gen.facts)
    (hMixOutRefIdeal := Cert.MixOutRefIdeal.Gen.facts) := by
  intro m g m' g' _ hag
  refine ⟨fun c => result (m ((c : Thread nD τ).loc main_arg0)) (m ((c : Thread nD τ).loc main_arg1)), ?_, ?_⟩
  · refine (θ_run _ _ _).mono (fun r h c => ?_) (Cert.MixOutIdeal.Value.run_blocks (F := Ideal) m g)
    exact ⟨(h c).1.trans (final m c), (h c).2⟩
  · refine (θ_run _ _ _).mono (fun r h c => ?_) (Cert.MixOutRefIdeal.Value.run (F := Ideal) m' g')
    exact ⟨(h c).1.trans ((ref_result _ _).trans (congrArg₂ result (hag c).1 (hag c).2)), (h c).2⟩

end Cert.Project.MixOut
-- ==== Proof.Project.MixOutCtx.lean ====
module

public import proofs.«01_k».proof.Proof.Project.MixOut
public import proofs.«01_k».proof.Proof.Gen.MixOutCtxIdeal.Value
public import proofs.«01_k».proof.Proof.Gen.MixOutCtxRefIdeal.Run

@[expose] public section

set_option maxRecDepth 16384

noncomputable section

/-! The context's projection after the even layer's mixing. -/

namespace Cert.Project.MixOutCtx

open Cert.MixOutCtxIdeal Cert.MixOutCtxIdeal.Gen Idealize.ShloMosaic Idealize.ShloMosaic.TcCoe Idealize.SL.Sem
open Idealize.ShloMosaic.Pointwise

/-- What the projection of `x` by `w` is. -/
abbrev result (x : FVec Ideal S16x256x1024 .f32) (w : FVec Ideal S1024x1024 .f32) : FVec Ideal S4096x1024 .f32 :=
  rows (B := 16) (T := 256) (M := 4096) (K := 1024) (W := 1024) (N := 1024) rfl 0 (by decide) x w

theorem at0 : ∀ t : Fin cfg0.N, win0_0.index t = ![t.val / 2, 0] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

theorem point_lt (t : Fin cfg0.N) : t.val < 16 := by
  have h : cfg0.N = 16 := N_0
  have := t.isLt
  omega

/-- A grid point's tokens, read off the argument. -/
theorem tokens_read (m : (ℓ : Loc nD τ sig) → Buf (Elt Ideal) ℓ) (c : Dev nD) (t : Fin cfg0.N) (a : Fin 512) (e : Fin 1024)
    (n : Fin 4096) (hn : n.val = t.val / 2 * 512 + a.val) :
    iblk m c 0 t (ix2 (n0 := 512) (n1 := 1024) a e) = m ((c : Thread nD τ).loc main_arg0)
      (ix3 (n0 := 16) (n1 := 256) (n2 := 1024) ⟨n.val / 256, by omega⟩ ⟨n.val % 256, by omega⟩ e) := by
  have e' : ((cfg0.win 0).blk t).view.emb (ix2 (n0 := 512) (n1 := 1024) a e) = ix2 (n0 := 4096) (n1 := 1024) n e := by
    blk_ext [at0 t]
  show V m c main_v0 (((cfg0.win 0).blk t).view.emb (ix2 (n0 := 512) (n1 := 1024) a e)) = _
  rw [e']
  entry_read
  pointwise []

/-- A grid point's product, at the place of the result it fills. -/
theorem product_read (m : (ℓ : Loc nD τ sig) → Buf (Elt Ideal) ℓ) (c : Dev nD) (t : Fin cfg0.N) (a b : Fin 512)
    (n : Fin 4096) (j : Fin 1024) (hn : n.val = t.val / 2 * 512 + a.val) (hj : j.val = t.val % 2 * 512 + b.val) :
    k0_pay1 (iblk m c 0 t) (iblk m c 1 t) (ix2 (n0 := 512) (n1 := 512) a b) =
      result (m ((c : Thread nD τ).loc main_arg0)) (m ((c : Thread nD τ).loc main_arg1)) (ix2 (n0 := 4096) (n1 := 1024) n j) := by
  have ht := point_lt t
  unfold result rows
  pointwise [k0_pay1]
  refine Finset.sum_congr rfl fun e _ => congrArg₂ (· * ·) (tokens_read m c t a e n hn) ?_
  blk_ext [iblk, V, at1 t]

/-- The kernel's result array. -/
theorem final (m : (ℓ : Loc nD τ sig) → Buf (Elt Ideal) ℓ) (c : Dev nD) : (dats m 0 c).arrAt 2 cfg0.N =
    result (m ((c : Thread nD τ).loc main_arg0)) (m ((c : Thread nD τ).loc main_arg1)) := by
  refine (dats m 0 c).arrAt_eq_of_covers 2 _ (by decide +kernel) fun t hf y => ?_
  have ht := point_lt t
  have e : ((cfg0.win 2).blk t).view.emb y = ix2 (n0 := 4096) (n1 := 1024) ⟨t.val / 2 * 512 + (y 0).val, by have : (y 0).val < 512 := (y 0).isLt; omega⟩
      ⟨t.val % 2 * 512 + (y 1).val, by have : (y 1).val < 512 := (y 1).isLt; omega⟩ := by
    blk_ext [at2 t]
  rw [e]
  blk_simp
  rw [after0_2]
  frame_out
  rw [← ix2_eta (n0 := 512) (n1 := 512) y]
  exact product_read m c t (y 0) (y 1) _ _ rfl rfl

/-- The reference's result. -/
theorem ref_result (x : FVec Ideal S16x256x1024 .f32) (w : FVec Ideal S1024x1024 .f32) :
    shapeCast Cert.MixOutCtxRefIdeal.S4096x1024 (Host.dotGeneral (F := Ideal) Cert.MixOutCtxRefIdeal.dot_S16x256x1024_S1024x1024_S16x256x1024_2_0_01_1_n_n none x w)
      Cert.MixOutCtxRefIdeal.Gen.facts.shapeCasts_S16x256x1024_S4096x1024 = result x w := by
  funext y
  rw [← ix2_eta (n0 := 4096) (n1 := 1024) y]
  unfold result rows
  pointwise []

/-- The reference's run leaves its arguments and its counters as they were. -/
theorem frame_ref : Cert.quiescent_MixOutCtxRefIdeal (hMixOutCtxRefIdeal := Cert.MixOutCtxRefIdeal.Gen.facts) := fun m g _ =>
  (θ_run Cert.MixOutCtxRefIdeal.defs _ _).mono (fun r h => ⟨fun c => (h c).2, sem_eq_zero_of_no_sems (by decide) r.2⟩)
    (Cert.MixOutCtxRefIdeal.Value.run (F := Ideal) m g)

/-- The kernel and the reference end with equal projections. -/
theorem algebraic : Cert.algebraic_MixOutCtxIdeal_MixOutCtxRefIdeal (hMixOutCtxIdeal := Cert.MixOutCtxIdeal.Gen.facts)
    (hMixOutCtxRefIdeal := Cert.MixOutCtxRefIdeal.Gen.facts) := by
  intro m g m' g' _ hag
  refine ⟨fun c => result (m ((c : Thread nD τ).loc main_arg0)) (m ((c : Thread nD τ).loc main_arg1)), ?_, ?_⟩
  · refine (θ_run _ _ _).mono (fun r h c => ?_) (Cert.MixOutCtxIdeal.Value.run_blocks (F := Ideal) m g)
    exact ⟨(h c).1.trans (final m c), (h c).2⟩
  · refine (θ_run _ _ _).mono (fun r h c => ?_) (Cert.MixOutCtxRefIdeal.Value.run (F := Ideal) m' g')
    exact ⟨(h c).1.trans ((ref_result _ _).trans (congrArg₂ result (hag c).1 (hag c).2)), (h c).2⟩

end Cert.Project.MixOutCtx
-- ==== Proof.Project.OddIn.lean ====
module

public import proofs.«01_k».proof.Proof.Project.MixOutCtx
public import proofs.«01_k».proof.Proof.Gen.OddInIdeal.Value
public import proofs.«01_k».proof.Proof.Gen.OddInRefIdeal.Run

@[expose] public section

set_option maxRecDepth 16384

noncomputable section

/-! The odd layer's projection of the latents. -/

namespace Cert.Project.OddIn

open Cert.OddInIdeal Cert.OddInIdeal.Gen Idealize.ShloMosaic Idealize.ShloMosaic.TcCoe Idealize.SL.Sem
open Idealize.ShloMosaic.Pointwise

/-- What the projection of `x` by `w` is. -/
abbrev result (x : FVec Ideal S16x2048x1024 .f32) (w : FVec Ideal S1024x1536 .f32) : FVec Ideal S32768x1536 .f32 :=
  rows (B := 16) (T := 2048) (M := 32768) (K := 1024) (W := 1536) (N := 1536) rfl 0 (by decide) x w

theorem at0 : ∀ t : Fin cfg0.N, win0_0.index t = ![t.val / 3, 0] := (by decide +kernel : ∀ t : Fin grid0.N, _)
theorem at1 : ∀ t : Fin cfg0.N, win0_1.index t = ![0, t.val % 3] := (by decide +kernel : ∀ t : Fin grid0.N, _)
theorem at2 : ∀ t : Fin cfg0.N, win0_2.index t = ![t.val / 3, t.val % 3] := (by decide +kernel : ∀ t : Fin grid0.N, _)

theorem point_lt (t : Fin cfg0.N) : t.val < 192 := by
  have h : cfg0.N = 192 := N_0
  have := t.isLt
  omega

/-- A grid point's tokens, read off the argument. -/
theorem tokens_read (m : (ℓ : Loc nD τ sig) → Buf (Elt Ideal) ℓ) (c : Dev nD) (t : Fin cfg0.N) (a : Fin 512) (e : Fin 1024)
    (n : Fin 32768) (hn : n.val = t.val / 3 * 512 + a.val) :
    iblk m c 0 t (ix2 (n0 := 512) (n1 := 1024) a e) = m ((c : Thread nD τ).loc main_arg0)
      (ix3 (n0 := 16) (n1 := 2048) (n2 := 1024) ⟨n.val / 2048, by omega⟩ ⟨n.val % 2048, by omega⟩ e) := by
  have e' : ((cfg0.win 0).blk t).view.emb (ix2 (n0 := 512) (n1 := 1024) a e) = ix2 (n0 := 32768) (n1 := 1024) n e := by
    blk_ext [at0 t]
  show V m c main_v0 (((cfg0.win 0).blk t).view.emb (ix2 (n0 := 512) (n1 := 1024) a e)) = _
  rw [e']
  entry_read
  pointwise []

/-- A grid point's product, at the place of the result it fills. -/
theorem product_read (m : (ℓ : Loc nD τ sig) → Buf (Elt Ideal) ℓ) (c : Dev nD) (t : Fin cfg0.N) (a b : Fin 512)
    (n : Fin 32768) (j : Fin 1536) (hn : n.val = t.val / 3 * 512 + a.val) (hj : j.val = t.val % 3 * 512 + b.val) :
    k0_pay1 (iblk m c 0 t) (iblk m c 1 t) (ix2 (n0 := 512) (n1 := 512) a b) =
      result (m ((c : Thread nD τ).loc main_arg0)) (m ((c : Thread nD τ).loc main_arg1)) (ix2 (n0 := 32768) (n1 := 1536) n j) := by
  have ht := point_lt t
  unfold result rows
  pointwise [k0_pay1]
  refine Finset.sum_congr rfl fun e _ => congrArg₂ (· * ·) (tokens_read m c t a e n hn) ?_
  blk_ext [iblk, V, at1 t]

/-- The kernel's result array. -/
theorem final (m : (ℓ : Loc nD τ sig) → Buf (Elt Ideal) ℓ) (c : Dev nD) : (dats m 0 c).arrAt 2 cfg0.N =
    result (m ((c : Thread nD τ).loc main_arg0)) (m ((c : Thread nD τ).loc main_arg1)) := by
  refine (dats m 0 c).arrAt_eq_of_covers 2 _ (by decide +kernel) fun t hf y => ?_
  have ht := point_lt t
  have e : ((cfg0.win 2).blk t).view.emb y = ix2 (n0 := 32768) (n1 := 1536) ⟨t.val / 3 * 512 + (y 0).val, by have : (y 0).val < 512 := (y 0).isLt; omega⟩
      ⟨t.val % 3 * 512 + (y 1).val, by have : (y 1).val < 512 := (y 1).isLt; omega⟩ := by
    blk_ext [at2 t]
  rw [e]
  blk_simp
  rw [after0_2]
  frame_out
  rw [← ix2_eta (n0 := 512) (n1 := 512) y]
  exact product_read m c t (y 0) (y 1) _ _ rfl rfl

/-- The reference's result. -/
theorem ref_result (x : FVec Ideal S16x2048x1024 .f32) (w : FVec Ideal S1024x1536 .f32) :
    shapeCast Cert.OddInRefIdeal.S32768x1536 (Host.dotGeneral (F := Ideal) Cert.OddInRefIdeal.dot_S16x2048x1024_S1024x1536_S16x2048x1536_2_0_01_1_n_n none x w)
      Cert.OddInRefIdeal.Gen.facts.shapeCasts_S16x2048x1536_S32768x1536 = result x w := by
  funext y
  rw [← ix2_eta (n0 := 32768) (n1 := 1536) y]
  unfold result rows
  pointwise []

/-- The reference's run leaves its arguments and its counters as they were. -/
theorem frame_ref : Cert.quiescent_OddInRefIdeal (hOddInRefIdeal := Cert.OddInRefIdeal.Gen.facts) := fun m g _ =>
  (θ_run Cert.OddInRefIdeal.defs _ _).mono (fun r h => ⟨fun c => (h c).2, sem_eq_zero_of_no_sems (by decide) r.2⟩)
    (Cert.OddInRefIdeal.Value.run (F := Ideal) m g)

/-- The kernel and the reference end with equal projections. -/
theorem algebraic : Cert.algebraic_OddInIdeal_OddInRefIdeal (hOddInIdeal := Cert.OddInIdeal.Gen.facts)
    (hOddInRefIdeal := Cert.OddInRefIdeal.Gen.facts) := by
  intro m g m' g' _ hag
  refine ⟨fun c => result (m ((c : Thread nD τ).loc main_arg0)) (m ((c : Thread nD τ).loc main_arg1)), ?_, ?_⟩
  · refine (θ_run _ _ _).mono (fun r h c => ?_) (Cert.OddInIdeal.Value.run_blocks (F := Ideal) m g)
    exact ⟨(h c).1.trans (final m c), (h c).2⟩
  · refine (θ_run _ _ _).mono (fun r h c => ?_) (Cert.OddInRefIdeal.Value.run (F := Ideal) m' g')
    exact ⟨(h c).1.trans ((ref_result _ _).trans (congrArg₂ result (hag c).1 (hag c).2)), (h c).2⟩

end Cert.Project.OddIn
-- ==== Proof.Project.OddKeys.lean ====
module

public import proofs.«01_k».proof.Proof.Project.OddIn
public import proofs.«01_k».proof.Proof.Gen.OddKeysIdeal.Value
public import proofs.«01_k».proof.Proof.Gen.OddKeysRefIdeal.Run

@[expose] public section

set_option maxRecDepth 16384

noncomputable section

/-! The odd layer's keys, from the context. -/

namespace Cert.Project.OddKeys

open Cert.OddKeysIdeal Cert.OddKeysIdeal.Gen Idealize.ShloMosaic Idealize.ShloMosaic.TcCoe Idealize.SL.Sem
open Idealize.ShloMosaic.Pointwise

/-- What the keys of `x` are: the columns of `w` from 768 on are theirs. -/
abbrev result (x : FVec Ideal S16x256x1024 .f32) (w : FVec Ideal S1024x1536 .f32) : FVec Ideal S4096x512 .f32 :=
  rows (B := 16) (T := 256) (M := 4096) (K := 1024) (W := 1536) (N := 512) rfl 768 (by decide) x w

theorem at0 : ∀ t : Fin cfg0.N, win0_0.index t = ![t.val / 1, 0] := (by decide +kernel : ∀ t : Fin grid0.N, _)
theorem at1 : ∀ t : Fin cfg0.N, win0_1.index t = ![0, t.val % 1] := (by decide +kernel : ∀ t : Fin grid0.N, _)
theorem at2 : ∀ t : Fin cfg0.N, win0_2.index t = ![t.val / 1, t.val % 1] := (by decide +kernel : ∀ t : Fin grid0.N, _)

theorem point_lt (t : Fin cfg0.N) : t.val < 8 := by
  have h : cfg0.N = 8 := N_0
  have := t.isLt
  omega

/-- A grid point's tokens, read off the argument. -/
theorem tokens_read (m : (ℓ : Loc nD τ sig) → Buf (Elt Ideal) ℓ) (c : Dev nD) (t : Fin cfg0.N) (a : Fin 512) (e : Fin 1024)
    (n : Fin 4096) (hn : n.val = t.val / 1 * 512 + a.val) :
    iblk m c 0 t (ix2 (n0 := 512) (n1 := 1024) a e) = m ((c : Thread nD τ).loc main_arg0)
      (ix3 (n0 := 16) (n1 := 256) (n2 := 1024) ⟨n.val / 256, by omega⟩ ⟨n.val % 256, by omega⟩ e) := by
  have e' : ((cfg0.win 0).blk t).view.emb (ix2 (n0 := 512) (n1 := 1024) a e) = ix2 (n0 := 4096) (n1 := 1024) n e := by
    blk_ext [at0 t]
  show V m c main_v1 (((cfg0.win 0).blk t).view.emb (ix2 (n0 := 512) (n1 := 1024) a e)) = _
  rw [e']
  entry_read
  pointwise []

/-- A grid point's product, at the place of the result it fills. -/
theorem product_read (m : (ℓ : Loc nD τ sig) → Buf (Elt Ideal) ℓ) (c : Dev nD) (t : Fin cfg0.N) (a b : Fin 512)
    (n : Fin 4096) (j : Fin 512) (hn : n.val = t.val / 1 * 512 + a.val) (hj : j.val = t.val % 1 * 512 + b.val) :
    k0_pay1 (iblk m c 0 t) (iblk m c 1 t) (ix2 (n0 := 512) (n1 := 512) a b) =
      result (m ((c : Thread nD τ).loc main_arg0)) (m ((c : Thread nD τ).loc main_arg1)) (ix2 (n0 := 4096) (n1 := 512) n j) := by
  have ht := point_lt t
  unfold result rows
  pointwise [k0_pay1]
  refine Finset.sum_congr rfl fun e _ => congrArg₂ (· * ·) (tokens_read m c t a e n hn) ?_
  have e' : ((cfg0.win 1).blk t).view.emb (ix2 (n0 := 1024) (n1 := 512) e b) = ix2 (n0 := 1024) (n1 := 512) e j := by
    blk_ext [at1 t]
  show V m c main_v0 (((cfg0.win 1).blk t).view.emb (ix2 (n0 := 1024) (n1 := 512) e b)) = _
  rw [e']
  entry_read
  pointwise []

/-- The kernel's result array. -/
theorem final (m : (ℓ : Loc nD τ sig) → Buf (Elt Ideal) ℓ) (c : Dev nD) : (dats m 0 c).arrAt 2 cfg0.N =
    result (m ((c : Thread nD τ).loc main_arg0)) (m ((c : Thread nD τ).loc main_arg1)) := by
  refine (dats m 0 c).arrAt_eq_of_covers 2 _ (by decide +kernel) fun t hf y => ?_
  have ht := point_lt t
  have e : ((cfg0.win 2).blk t).view.emb y = ix2 (n0 := 4096) (n1 := 512) ⟨t.val / 1 * 512 + (y 0).val, by have : (y 0).val < 512 := (y 0).isLt; omega⟩
      ⟨t.val % 1 * 512 + (y 1).val, by have : (y 1).val < 512 := (y 1).isLt; omega⟩ := by
    blk_ext [at2 t]
  rw [e]
  blk_simp
  rw [after0_2]
  frame_out
  rw [← ix2_eta (n0 := 512) (n1 := 512) y]
  exact product_read m c t (y 0) (y 1) _ _ rfl rfl

/-- The reference's result. -/
theorem ref_result (x : FVec Ideal S16x256x1024 .f32) (w : FVec Ideal S1024x1536 .f32) :
    shapeCast Cert.OddKeysRefIdeal.S4096x512 (Host.dotGeneral (F := Ideal) Cert.OddKeysRefIdeal.dot_S16x256x1024_S1024x512_S16x256x512_2_0_01_1_n_n none x
        (extractStridedSlice S1024x512 ![0, 768] w Cert.OddKeysRefIdeal.Gen.facts.slices_S1024x1536_S1024x512_0_768))
      Cert.OddKeysRefIdeal.Gen.facts.shapeCasts_S16x256x512_S4096x512 = result x w := by
  funext y
  rw [← ix2_eta (n0 := 4096) (n1 := 512) y]
  unfold result rows
  pointwise []

/-- The reference's run leaves its arguments and its counters as they were. -/
theorem frame_ref : Cert.quiescent_OddKeysRefIdeal (hOddKeysRefIdeal := Cert.OddKeysRefIdeal.Gen.facts) := fun m g _ =>
  (θ_run Cert.OddKeysRefIdeal.defs _ _).mono (fun r h => ⟨fun c => (h c).2, sem_eq_zero_of_no_sems (by decide) r.2⟩)
    (Cert.OddKeysRefIdeal.Value.run (F := Ideal) m g)

/-- The kernel and the reference end with equal projections. -/
theorem algebraic : Cert.algebraic_OddKeysIdeal_OddKeysRefIdeal (hOddKeysIdeal := Cert.OddKeysIdeal.Gen.facts)
    (hOddKeysRefIdeal := Cert.OddKeysRefIdeal.Gen.facts) := by
  intro m g m' g' _ hag
  refine ⟨fun c => result (m ((c : Thread nD τ).loc main_arg0)) (m ((c : Thread nD τ).loc main_arg1)), ?_, ?_⟩
  · refine (θ_run _ _ _).mono (fun r h c => ?_) (Cert.OddKeysIdeal.Value.run_blocks (F := Ideal) m g)
    exact ⟨(h c).1.trans (final m c), (h c).2⟩
  · refine (θ_run _ _ _).mono (fun r h c => ?_) (Cert.OddKeysRefIdeal.Value.run (F := Ideal) m' g')
    exact ⟨(h c).1.trans ((ref_result _ _).trans (congrArg₂ result (hag c).1 (hag c).2)), (h c).2⟩

end Cert.Project.OddKeys
-- ==== Proof.Mix.Body.lean ====
module

public import proofs.«01_k».proof.Proof.Project.OddKeys
public import proofs.«01_k».proof.Proof.Gen.MixIdeal.Value
public import proofs.«01_k».proof.Proof.Gen.MixRefIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

/-! What one grid point of the mixing leaves in its output block: sixteen tokens in two groups of eight. -/

namespace Cert.Mixing

open Cert.MixIdeal Cert.MixIdeal.Gen Idealize.ShloMosaic Idealize.ShloMosaic.TcCoe Idealize.SL.Sem
open Idealize.ShloMosaic.Pointwise

/-- One token's row of partial products: its eight sublanes against the low halves of its words, each column keeping the sublane it belongs to. -/
def partials (w : Vec Ideal S1024x128 .i32) (x : Vec Ideal S8x128 .f32) : FVec Ideal S1x1024 .f32 :=
  shapeCast S1x1024 (shapeCast S1x1024 (multiReduction .add [0] S1024
    (select k0_pay3 (matmul dot_S8x128_S1024x128_S8x1024_1_1_0_0_n_n none
        (truncf .bf16 (shapeCast S8x128 x shapeCasts_S8x128_S8x128 : FVec Ideal S8x128 .f32) bitsLt_bf16_f32)
        (truncf .bf16 (bitcastToFloat (F := Ideal) .f32 (shli (shapeCast S1024x128 w shapeCasts_S1024x128_S1024x128 : IVec S1024x128 32) (broadcast S1024x128 16#32))) bitsLt_bf16_f32)
        (constant S8x1024 .f32 0x00000000#32)) (broadcast S8x1024 (Scalar.ofBits (F := Ideal) .f32 0x00000000#32)))
    0x00000000#32 reduces_S8x1024_S1024 (.inl rfl) rfl) shapeCasts_S1024_S1x1024) shapeCasts_S1x1024_S1x1024

/-- Adds to each lane its partner `k` lanes away. -/
def partner (k k' : BitVec 32) (y : FVec Ideal S8x128 .f32) : FVec Ideal S8x128 .f32 :=
  addf y (select (cmpi .eq (andi (iota .tc S8x128 32 [1] iota_S8x128_d1_w32) (broadcast S8x128 k)) (broadcast S8x128 0#32))
    (dynamicRotate 1 k' none y rotates_S8x128_d1) (dynamicRotate 1 k none y rotates_S8x128_d1))

/-- Every lane's sum over its group of eight lanes. -/
def groupSum (y : FVec Ideal S8x128 .f32) : FVec Ideal S8x128 .f32 :=
  partner 4#32 124#32 (partner 2#32 126#32 (partner 1#32 127#32 y))

/-- The group sums of all eight column blocks. -/
def sums (hp : FVec Ideal S8x1024 .f32) : FVec Ideal S8x1024 .f32 :=
  concatenate S8x1024 1
    [⟨S8x128, groupSum (extractStridedSlice S8x128 ![0, 0] hp slices_S8x1024_o0_0_S8x128)⟩,
     ⟨S8x128, groupSum (extractStridedSlice S8x128 ![0, 128] hp slices_S8x1024_o0_128_S8x128)⟩,
     ⟨S8x128, groupSum (extractStridedSlice S8x128 ![0, 256] hp slices_S8x1024_o0_256_S8x128)⟩,
     ⟨S8x128, groupSum (extractStridedSlice S8x128 ![0, 384] hp slices_S8x1024_o0_384_S8x128)⟩,
     ⟨S8x128, groupSum (extractStridedSlice S8x128 ![0, 512] hp slices_S8x1024_o0_512_S8x128)⟩,
     ⟨S8x128, groupSum (extractStridedSlice S8x128 ![0, 640] hp slices_S8x1024_o0_640_S8x128)⟩,
     ⟨S8x128, groupSum (extractStridedSlice S8x128 ![0, 768] hp slices_S8x1024_o0_768_S8x128)⟩,
     ⟨S8x128, groupSum (extractStridedSlice S8x128 ![0, 896] hp slices_S8x1024_o0_896_S8x128)⟩]
    concatenates_S8x128_S8x128_S8x128_S8x128_S8x128_S8x128_S8x128_S8x128_S8x1024_d1

/-- The gated activations: the smooth rectifier of the sums, by the gates. -/
def acts (h : FVec Ideal S8x1024 .f32) (gate : Vec Ideal S8x1024 .f32) : FVec Ideal S8x1024 .f32 :=
  mulf (mulf h (mulf (broadcast S8x1024 (Scalar.ofBits (F := Ideal) .f32 0x3F000000#32))
    (addf (broadcast S8x1024 (Scalar.ofBits (F := Ideal) .f32 0x3F800000#32))
      (tanh (mulf (broadcast S8x1024 (Scalar.ofBits (F := Ideal) .f32 0x3F4C422A#32))
        (addf h (mulf (broadcast S8x1024 (Scalar.ofBits (F := Ideal) .f32 0x3D372713#32)) (mulf h (mulf h h)))))))))
    (shapeCast S8x1024 gate shapeCasts_S8x1024_S8x1024)

/-- Row `r` of eight. -/
theorem sliceRow (r : Fin 8) : S8x1024.Slices ![r.val, 0] S1x1024 := by
  fin_cases r
  exacts [slices_S8x1024_o0_0_S1x1024, slices_S8x1024_o1_0_S1x1024, slices_S8x1024_o2_0_S1x1024, slices_S8x1024_o3_0_S1x1024,
    slices_S8x1024_o4_0_S1x1024, slices_S8x1024_o5_0_S1x1024, slices_S8x1024_o6_0_S1x1024, slices_S8x1024_o7_0_S1x1024]

/-- One token's output: its activations, each against the sublane of its column, times the high halves of its words. -/
def mixed (r : Fin 8) (a : FVec Ideal S8x1024 .f32) (w : Vec Ideal S1024x128 .i32) : FVec Ideal S8x128 .f32 :=
  matmul dot_S8x1024_S1024x128_S8x128_1_0_0_1_n_n none
    (truncf .bf16 (select k0_pay3
      (broadcastTo S8x1024 (shapeCast S1x1024 (extractStridedSlice S1x1024 ![r.val, 0] a (sliceRow r)) shapeCasts_S1x1024_S1x1024) broadcasts_S1x1024_S8x1024)
      (broadcast S8x1024 (Scalar.ofBits (F := Ideal) .f32 0x00000000#32))) bitsLt_bf16_f32)
    (truncf .bf16 (bitcastToFloat (F := Ideal) .f32 (andi (shapeCast S1024x128 w shapeCasts_S1024x128_S1024x128 : IVec S1024x128 32) (broadcast S1024x128 4294901760#32))) bitsLt_bf16_f32)
    (constant S8x128 .f32 0x00000000#32)

/-- Eight rows as one array. -/
def rows8 (r : Fin 8 → FVec Ideal S1x1024 .f32) : FVec Ideal S8x1024 .f32 := fun i => r (i 0) (ix2 (0 : Fin 1) (i 1 : Fin 1024))

/-- Token `k`'s block of words. -/
def wordsOf (x2 : Vec Ideal S16384x128 .i32) (k : Fin 16) : Vec Ideal S1024x128 .i32 :=
  View.ld (Val := Elt Ideal) (e' := .i32) x2 (Rect.unit (s := S16384x128) ![1024 * k.val, 0] ![1024, 128] (by intro a; have := k.isLt; fin_cases a <;> simp <;> omega))

/-- Token `k`'s eight sublanes. -/
def tokenOf (x0 : Vec Ideal S128x128 .f32) (k : Fin 16) : Vec Ideal S8x128 .f32 :=
  View.ld (Val := Elt Ideal) (e' := .f32) x0 (Rect.unit (s := S128x128) ![8 * k.val, 0] ![8, 128] (by intro a; have := k.isLt; fin_cases a <;> simp <;> omega))

/-- The gates of group `g`. -/
def gateOf (x1 : Vec Ideal S16x1024 .f32) (g : Fin 2) : Vec Ideal S8x1024 .f32 :=
  View.ld (Val := Elt Ideal) (e' := .f32) x1 (Rect.unit (s := S16x1024) ![8 * g.val, 0] ![8, 1024] (by intro a; have := g.isLt; fin_cases a <;> simp <;> omega))

/-- Token `8 g + r` of the sixteen. -/
def tok (g : Fin 2) (r : Fin 8) : Fin 16 := ⟨8 * g.val + r.val, by omega⟩

/-- A family over eight, listed. -/
def eight {α : Type} (f : Fin 8 → α) : Fin 8 → α := ![f 0, f 1, f 2, f 3, f 4, f 5, f 6, f 7]

theorem eight_eq {α : Type} (f : Fin 8 → α) : eight f = f := by
  funext r
  fin_cases r <;> rfl

/-- The output of token `8 g + r`. -/
def tokenOut (x0 : Vec Ideal S128x128 .f32) (x1 : Vec Ideal S16x1024 .f32) (x2 : Vec Ideal S16384x128 .i32) (g : Fin 2) (r : Fin 8) : FVec Ideal S8x128 .f32 :=
  mixed r (acts (sums (rows8 (eight fun t => partials (wordsOf x2 (tok g t)) (tokenOf x0 (tok g t))))) (gateOf x1 g)) (wordsOf x2 (tok g r))

/-- The whole output block. -/
def block (x0 : Vec Ideal S128x128 .f32) (x1 : Vec Ideal S16x1024 .f32) (x2 : Vec Ideal S16384x128 .i32) : Vec Ideal S128x128 .f32 :=
  fun i => have h : (i 0).val < 128 := (i 0).isLt
    tokenOut x0 x1 x2 ⟨(i 0).val / 64, by omega⟩ ⟨(i 0).val / 8 % 8, by omega⟩ (ix2 (⟨(i 0).val % 8, by omega⟩ : Fin 8) (i 1 : Fin 128))

/-- The rows of one token lie in the block. -/
theorem tokenRows (g : Fin 2) (r : Fin 8) : ∀ a, (![64 * g.val + 8 * r.val, 0] : Fin 2 → Nat) a + S8x128.size a ≤ S128x128.size a := by
  have hg := g.isLt; have hr := r.isLt
  intro a; fin_cases a
  · show 64 * g.val + 8 * r.val + 8 ≤ 128; omega
  · show 0 + 128 ≤ 128; omega

/-- The block at token `8 g + r`, in that token's own indices. -/
theorem block_emb (x0 : Vec Ideal S128x128 .f32) (x1 : Vec Ideal S16x1024 .f32) (x2 : Vec Ideal S16384x128 .i32) (g : Fin 2) (r : Fin 8) (z : S8x128.Idx) (P : FVec Ideal S8x128 .f32)
    (h : P = tokenOut x0 x1 x2 g r) : P z = block x0 x1 x2 ((Rect.unit (s := S128x128) ![64 * g.val + 8 * r.val, 0] S8x128.size (tokenRows g r)).emb z) := by
  subst h
  have hz : (z 0).val < 8 := (z 0).isLt
  have hr := r.isLt
  have e0 : (((Rect.unit (s := S128x128) ![64 * g.val + 8 * r.val, 0] S8x128.size (tokenRows g r)).emb z) 0).val = 64 * g.val + 8 * r.val + 1 * (z 0).val := rfl
  have e1 : (((Rect.unit (s := S128x128) ![64 * g.val + 8 * r.val, 0] S8x128.size (tokenRows g r)).emb z) 1).val = 0 + 1 * (z 1).val := rfl
  show _ = tokenOut _ _ _ _ _ _
  have hg : (⟨(((Rect.unit (s := S128x128) ![64 * g.val + 8 * r.val, 0] S8x128.size (tokenRows g r)).emb z) 0).val / 64, by rw [e0]; omega⟩ : Fin 2) = g := Fin.ext (by show _ / 64 = _; rw [e0]; omega)
  have hr' : (⟨(((Rect.unit (s := S128x128) ![64 * g.val + 8 * r.val, 0] S8x128.size (tokenRows g r)).emb z) 0).val / 8 % 8, by omega⟩ : Fin 8) = r := Fin.ext (by show _ / 8 % 8 = _; rw [e0]; omega)
  rw [hg, hr']
  refine congrArg (tokenOut x0 x1 x2 g r) ?_
  funext a; apply Fin.ext; fin_cases a
  · show _ = (((Rect.unit (s := S128x128) ![64 * g.val + 8 * r.val, 0] S8x128.size (tokenRows g r)).emb z) 0).val % 8
    rw [e0]; show (z 0).val = _; omega
  · show _ = (((Rect.unit (s := S128x128) ![64 * g.val + 8 * r.val, 0] S8x128.size (tokenRows g r)).emb z) 1).val
    rw [e1]; show (z 1).val = _; omega

/-- Row `r` of the eight, in its own indices. -/
theorem rows8_emb (w : Fin 8 → FVec Ideal S1x1024 .f32) (r : Fin 8) (inb : ∀ a, (![r.val, 0] : Fin 2 → Nat) a + S1x1024.size a ≤ S8x1024.size a) (z : S1x1024.Idx) :
    w r z = rows8 w ((Rect.unit (s := S8x1024) ![r.val, 0] S1x1024.size inb).emb z) := by
  have hz : (z 0).val < 1 := (z 0).isLt
  show _ = w _ _
  have e : ((Rect.unit (s := S8x1024) ![r.val, 0] S1x1024.size inb).emb z) 0 = r := Fin.ext (by show r.val + 1 * (z 0).val = r.val; omega)
  rw [e]
  refine congrArg (w r) ?_
  funext a; apply Fin.ext; fin_cases a
  · show (z 0).val = 0; omega
  · show (z 1).val = 0 + 1 * (z 1).val; omega

/-- The indices of `k` whole rows from row `o`. -/
theorem mem_rows {m n k : Nat} (o : Nat) (inb : ∀ a, (![o, 0] : Fin 2 → Nat) a + (![k, n] : Fin 2 → Nat) a ≤ (⟨2, ![m, n]⟩ : Shape).size a) (y : (⟨2, ![m, n]⟩ : Shape).Idx) :
    y ∈ (Rect.unit (s := (⟨2, ![m, n]⟩ : Shape)) ![o, 0] ![k, n] inb).set ↔ o ≤ (y 0).val ∧ (y 0).val < o + k := by
  refine (LoadRect.mem_set _).trans ⟨fun h => ?_, fun h a => ?_⟩
  · obtain ⟨i, hi, he⟩ := h (0 : Fin 2)
    have hi' : i < k := hi
    have he' : (y 0).val = o + 1 * i := he
    omega
  · fin_cases a
    · exact ⟨(y 0).val - o, by show _ < k; omega, by show (y 0).val = o + 1 * ((y 0).val - o); omega⟩
    · exact ⟨(y 1).val, (y 1).isLt, by show (y 1).val = 0 + 1 * (y 1).val; omega⟩

/-- Eight stores of one row each, over whatever was there, read back as the whole. -/
theorem readRows {sig : RefSig} {κ : Kind} {sp : Space} (v : View sig κ sp S8x1024 .f32) (w0 w1 w2 w3 w4 w5 w6 w7 : FVec Ideal S1x1024 .f32)
    (L : List (View.Piece (Elt Ideal) S8x1024 .f32)) (i0 i1 i2 i3 i4 i5 i6 i7 inb) :
    v.readCov ((⟨Rect.unit (s := S8x1024) ![7, 0] ![1, 1024] i7, w7⟩ : View.Piece (Elt Ideal) S8x1024 .f32) :: ⟨Rect.unit (s := S8x1024) ![6, 0] ![1, 1024] i6, w6⟩
      :: ⟨Rect.unit (s := S8x1024) ![5, 0] ![1, 1024] i5, w5⟩ :: ⟨Rect.unit (s := S8x1024) ![4, 0] ![1, 1024] i4, w4⟩ :: ⟨Rect.unit (s := S8x1024) ![3, 0] ![1, 1024] i3, w3⟩
      :: ⟨Rect.unit (s := S8x1024) ![2, 0] ![1, 1024] i2, w2⟩ :: ⟨Rect.unit (s := S8x1024) ![1, 0] ![1, 1024] i1, w1⟩ :: ⟨Rect.unit (s := S8x1024) ![0, 0] ![1, 1024] i0, w0⟩ :: L)
      (Rect.unit (s := S8x1024) ![0, 0] ![8, 1024] inb).toLoadRect = rows8 ![w0, w1, w2, w3, w4, w5, w6, w7] := by
  rw [View.readCov_eq_canon']
  funext j
  rw [show (Rect.unit (s := S8x1024) ![0, 0] ![8, 1024] inb).toLoadRect.idx j = j from by
    funext a; apply Fin.ext; fin_cases a
    · show 0 + 1 * (j 0).val = (j 0).val; omega
    · show 0 + 1 * (j 1).val = (j 1).val; omega]
  have hp (r : Fin 8) inb := rows8_emb ![w0, w1, w2, w3, w4, w5, w6, w7] r inb
  have hL : View.PiecesOf (Val := Elt Ideal) (s := S8x1024) (e := .f32) (rows8 ![w0, w1, w2, w3, w4, w5, w6, w7])
      [⟨Rect.unit (s := S8x1024) ![7, 0] ![1, 1024] i7, w7⟩, ⟨Rect.unit (s := S8x1024) ![6, 0] ![1, 1024] i6, w6⟩, ⟨Rect.unit (s := S8x1024) ![5, 0] ![1, 1024] i5, w5⟩,
       ⟨Rect.unit (s := S8x1024) ![4, 0] ![1, 1024] i4, w4⟩, ⟨Rect.unit (s := S8x1024) ![3, 0] ![1, 1024] i3, w3⟩, ⟨Rect.unit (s := S8x1024) ![2, 0] ![1, 1024] i2, w2⟩,
       ⟨Rect.unit (s := S8x1024) ![1, 0] ![1, 1024] i1, w1⟩, ⟨Rect.unit (s := S8x1024) ![0, 0] ![1, 1024] i0, w0⟩] :=
    ⟨hp 7 i7, hp 6 i6, hp 5 i5, hp 4 i4, hp 3 i3, hp 2 i2, hp 1 i1, hp 0 i0, trivial⟩
  refine View.canon_append_of_piecesOf _ L _ hL j ?_
  have hj : (j 0).val < 8 := (j 0).isLt
  simp only [List.mem_cons, exists_eq_or_imp, exists_eq_left, List.not_mem_nil, false_and, exists_false, or_false, mem_rows]
  omega

/-- What the body stores is the block. -/
theorem out_eq (c : Dev nD) (i : grid0.Coords) (arg1 : Memref sig .tc .vmem S128x128 .f32) (harg1 : arg1.IsWhole) (arg2 : Memref sig .tc .vmem S16x1024 .f32) (harg2 : arg2.IsWhole) (arg3 : Memref sig .tc .vmem S16384x128 .i32) (harg3 : arg3.IsWhole) (arg4 : Memref sig .tc .vmem S128x128 .f32) (harg4 : arg4.IsWhole) (arg5 : Memref sig .tc .vmem S8x1024 .f32) (harg5 : arg5.IsWhole)
    (x0 : Vec Ideal S128x128 .f32) (x1 : Vec Ideal S16x1024 .f32) (x2 : Vec Ideal S16384x128 .i32) :
    out0_A_3 c i arg1 harg1 arg2 harg2 arg3 harg3 arg4 harg4 arg5 harg5 x0 x1 x2 = block x0 x1 x2 := by
  frame_open
  simp (disch := decide) only [↓ View.readCov_skip, ↓ View.readCov_cons_toLoadRect, ↓ View.readCov_fill, View.readAt_eq_ld, Memref.IsWhole.read_unread, readRows]
  frame_out
  funext y
  have hp (g : Fin 2) (r : Fin 8) z P h := block_emb x0 x1 x2 g r z P h
  refine View.canon_apply_of_pieces (block x0 x1 x2) _ ?_ y ?_
  · exact View.PiecesOf.mem ⟨fun z => hp 1 7 z _ rfl, fun z => hp 1 6 z _ rfl, fun z => hp 1 5 z _ rfl, fun z => hp 1 4 z _ rfl, fun z => hp 1 3 z _ rfl, fun z => hp 1 2 z _ rfl, fun z => hp 1 1 z _ rfl, fun z => hp 1 0 z _ rfl, fun z => hp 0 7 z _ rfl, fun z => hp 0 6 z _ rfl, fun z => hp 0 5 z _ rfl, fun z => hp 0 4 z _ rfl, fun z => hp 0 3 z _ rfl, fun z => hp 0 2 z _ rfl, fun z => hp 0 1 z _ rfl, fun z => hp 0 0 z _ rfl, trivial⟩
  · have hy : (y 0).val < 128 := (y 0).isLt
    simp only [List.mem_cons, exists_eq_or_imp, exists_eq_left, List.not_mem_nil, false_and, exists_false, or_false, mem_rows]
    omega

end Cert.Mixing
-- ==== Proof.Mix.Sums.lean ====
module

public import proofs.«01_k».proof.Proof.Mix.Body

@[expose] public section

set_option maxRecDepth 16384

noncomputable section

/-! The sums one token's output is made of. -/

namespace Cert.Mixing

open Cert.MixIdeal Cert.MixIdeal.Gen Idealize.ShloMosaic Idealize.ShloMosaic.TcCoe Idealize.SL.Sem
open Idealize.ShloMosaic.Pointwise

/-- A column belongs to the sublane it is congruent to. -/
theorem mask_apply : ∀ (s : Fin 8) (c : Fin 1024), k0_pay3 (ix2 s c) = if c.val % 8 = s.val then 1#1 else 0#1 := by decide +kernel

/-- A word's low half, as a number. -/
def low (w : BitVec 32) : EReal := Ideal.ofBits .f32 (IntOp.shli .vector w 16#32)

/-- A word's high half, as a number. -/
def high (w : BitVec 32) : EReal := Ideal.ofBits .f32 (IntOp.andi w 4294901760#32)

/-- The smooth rectifier of a sum, by its gate. -/
def unit (h gate : EReal) : EReal :=
  h * (Ideal.ofBits .f32 1056964608#32 * (1 + Ideal.tanh (Ideal.ofBits .f32 1061962282#32 * (h + Ideal.ofBits .f32 1027024659#32 * (h * (h * h)))))) * gate

/-- A sum over consecutive groups of `n`, group by group. -/
theorem sum_groups {N m n : ℕ} (hN : N = m * n) (f : Fin N → EReal) :
    ∑ c, f c = ∑ k : Fin m, ∑ s : Fin n, f ⟨n * k.val + s.val, by
      subst hN
      calc n * k.val + s.val < n * k.val + n := Nat.add_lt_add_left s.isLt _
        _ = n * (k.val + 1) := by ring
        _ ≤ n * m := Nat.mul_le_mul_left _ k.isLt
        _ = m * n := Nat.mul_comm _ _⟩ := by
  subst hN
  rw [← (finProdFinEquiv (m := m) (n := n)).sum_comp f, Fintype.sum_prod_type]
  refine Finset.sum_congr rfl fun k _ => Finset.sum_congr rfl fun s _ => congrArg f (Fin.ext ?_)
  show s.val + n * k.val = n * k.val + s.val
  omega

/-- One of a small family, picked by a condition that holds of one index. -/
theorem sum_pick (q : ℕ) (s : Fin 8) (hq : q % 8 = s.val) (f : Fin 8 → EReal) :
    ∑ i : Fin 8, Scalar.select (if q % 8 = i.val then 1#1 else 0#1) (f i) 0 = f s := by
  rw [Finset.sum_eq_single s]
  · simp [hq, Scalar.select]
  · intro i _ hi
    have : ¬ (q % 8 = i.val) := fun h => hi (Fin.ext (h.symm.trans hq))
    simp [this, Scalar.select]
  · simp

theorem partials_apply (w : Vec Ideal S1024x128 .i32) (x : Vec Ideal S8x128 .f32) (k : Fin 128) (j : Fin 8) (c : Fin 1024) (hc : c.val = 8 * k.val + j.val) :
    partials w x (ix2 (0 : Fin 1) c) = ∑ d : Fin 128, x (ix2 j d) * low (w (ix2 c d)) := by
  unfold partials
  pointwise [mask_apply]
  exact sum_pick c.val j (by omega) fun i => ∑ d : Fin 128, x (ix2 i d) * low (w (ix2 c d))

/-- The lane `k` away from lane `l` in its group. -/
theorem away (k : Fin 8) : ∀ l : Fin 128, l.val ^^^ k.val < 128 := by decide +revert +kernel

theorem lanes1 : ∀ l : Fin 128, (if IntOp.cmpi .eq (IntOp.andi (BitVec.ofNat 32 l.val) 1#32) 0#32 = 1#1 then (l.val + 128 - (127#32).toNat % 128) % 128 else (l.val + 128 - (1#32).toNat % 128) % 128) = l.val ^^^ 1 := by decide +kernel
theorem lanes2 : ∀ l : Fin 128, (if IntOp.cmpi .eq (IntOp.andi (BitVec.ofNat 32 l.val) 2#32) 0#32 = 1#1 then (l.val + 128 - (126#32).toNat % 128) % 128 else (l.val + 128 - (2#32).toNat % 128) % 128) = l.val ^^^ 2 := by decide +kernel
theorem lanes4 : ∀ l : Fin 128, (if IntOp.cmpi .eq (IntOp.andi (BitVec.ofNat 32 l.val) 4#32) 0#32 = 1#1 then (l.val + 128 - (124#32).toNat % 128) % 128 else (l.val + 128 - (4#32).toNat % 128) % 128) = l.val ^^^ 4 := by decide +kernel

theorem partner_apply (k k' : BitVec 32) (q : Fin 8)
    (h : ∀ l : Fin 128, (if IntOp.cmpi .eq (IntOp.andi (BitVec.ofNat 32 l.val) k) 0#32 = 1#1 then (l.val + 128 - k'.toNat % 128) % 128 else (l.val + 128 - k.toNat % 128) % 128) = l.val ^^^ q.val)
    (y : FVec Ideal S8x128 .f32) (t : Fin 8) (l : Fin 128) :
    partner k k' y (ix2 t l) = y (ix2 t l) + y (ix2 t (⟨l.val ^^^ q.val, away q l⟩ : Fin 128)) := by
  have hl := h l
  unfold partner
  pointwise []
  unfold Scalar.select
  split_ifs with hc
  · exact congrArg (fun e => y (ix2 t l) + y (ix2 t e)) (Fin.ext ((if_pos hc).symm.trans hl))
  · exact congrArg (fun e => y (ix2 t l) + y (ix2 t e)) (Fin.ext ((if_neg hc).symm.trans hl))

/-- The lane `q` away from lane `j` of a group of eight. -/
def across (j q : Fin 8) : Fin 8 := ⟨j.val ^^^ q.val, by decide +revert⟩

theorem across_val : ∀ (g : Fin 16) (j q : Fin 8), (8 * g.val + j.val) ^^^ q.val = 8 * g.val + (across j q).val := by decide +kernel

/-- Three rounds of partners reach every lane of a group once. -/
theorem across_perm : ∀ j : Fin 8, List.Perm [j, across j 1, across j 2, across (across j 2) 1, across j 4, across (across j 4) 1,
    across (across j 4) 2, across (across (across j 4) 2) 1] (List.finRange 8) := by decide

theorem groupSum_apply (y : FVec Ideal S8x128 .f32) (t : Fin 8) (g : Fin 16) (j : Fin 8) (l : Fin 128) (hl : l.val = 8 * g.val + j.val) :
    groupSum y (ix2 t l) = ∑ i : Fin 8, y (ix2 t (⟨8 * g.val + i.val, by omega⟩ : Fin 128)) := by
  unfold groupSum
  simp only [partner_apply 4#32 124#32 4 lanes4, partner_apply 2#32 126#32 2 lanes2, partner_apply 1#32 127#32 1 lanes1]
  obtain ⟨f, hf⟩ : ∃ f : Fin 8 → EReal, ∀ i : Fin 8, y (ix2 t (⟨8 * g.val + i.val, by omega⟩ : Fin 128)) = f i := ⟨_, fun _ => rfl⟩
  have hx (n : ℕ) (hn : n < 128) (i : Fin 8) (e : n = 8 * g.val + i.val) : y (ix2 t (⟨n, hn⟩ : Fin 128)) = f i := by
    subst e; exact hf i
  have ha (n : ℕ) (i q : Fin 8) (e : n = 8 * g.val + i.val) : n ^^^ q.val = 8 * g.val + (across i q).val := e ▸ across_val g i q
  have h4 := ha _ _ 4 hl
  have h2 := ha _ _ 2 hl
  have h42 := ha _ _ 2 h4
  simp only [hf]
  rw [hx l.val l.isLt j hl, hx _ _ _ (ha _ _ 1 hl), hx _ _ _ h2, hx _ _ _ (ha _ _ 1 h2), hx _ _ _ h4, hx _ _ _ (ha _ _ 1 h4),
    hx _ _ _ h42, hx _ _ _ (ha _ _ 1 h42), Fin.sum_univ_def, ← ((across_perm j).map f).sum_eq]
  simp only [List.map_cons, List.map_nil, List.sum_cons, List.sum_nil, add_zero, add_assoc]

theorem acts_apply (hp g : FVec Ideal S8x1024 .f32) (t : Fin 8) (c : Fin 1024) :
    acts hp g (ix2 t c) = unit (hp (ix2 t c)) (g (ix2 t c)) := by
  unfold acts unit
  pointwise []

theorem mixed_apply (r : Fin 8) (a : FVec Ideal S8x1024 .f32) (w : Vec Ideal S1024x128 .i32) (s : Fin 8) (d : Fin 128) :
    mixed r a w (ix2 s d) = ∑ k : Fin 128, a (ix2 r (⟨8 * k.val + s.val, by omega⟩ : Fin 1024)) * high (w (ix2 (⟨8 * k.val + s.val, by omega⟩ : Fin 1024) d)) := by
  unfold mixed
  pointwise [mask_apply]
  rw [sum_groups (m := 128) (n := 8) rfl]
  refine Finset.sum_congr rfl fun k _ => ?_
  rw [Finset.sum_eq_single s]
  · have : (8 * k.val + s.val) % 8 = s.val := by omega
    simp [this, Scalar.select, high]
  · intro i _ hi
    have : ¬ (8 * k.val + i.val) % 8 = s.val := fun h => hi (Fin.ext (by omega))
    rw [if_neg this]
    rfl
  · simp

theorem sums_apply (hp : FVec Ideal S8x1024 .f32) (t : Fin 8) (k : Fin 128) (s : Fin 8) (c : Fin 1024) (hc : c.val = 8 * k.val + s.val) :
    sums hp (ix2 t c) = ∑ j : Fin 8, hp (ix2 t (⟨8 * k.val + j.val, by omega⟩ : Fin 1024)) := by
  unfold sums
  pointwise []
  split_ifs
  all_goals
    refine (groupSum_apply _ t ⟨k.val % 16, by omega⟩ s _ (by show _ = 8 * (k.val % 16) + s.val; simp only; omega)).trans (Finset.sum_congr rfl fun j _ => ?_)
    pointwise []
    refine congrArg (fun e => hp (ix2 t e)) (Fin.ext ?_)
    simp only
    omega

/-- A token's slot: the product of its row with the low halves of the slot's words. -/
def hidden (x : Vec Ideal S8x128 .f32) (w : Vec Ideal S1024x128 .i32) (k : Fin 128) : EReal :=
  ∑ j : Fin 8, ∑ d : Fin 128, x (ix2 j d) * low (w (ix2 (⟨8 * k.val + j.val, by omega⟩ : Fin 1024) d))

theorem tokenOut_apply (x0 : Vec Ideal S128x128 .f32) (x1 : Vec Ideal S16x1024 .f32) (x2 : Vec Ideal S16384x128 .i32) (g : Fin 2) (r : Fin 8) (s : Fin 8) (d : Fin 128) :
    tokenOut x0 x1 x2 g r (ix2 s d) = ∑ k : Fin 128,
      unit (hidden (tokenOf x0 (tok g r)) (wordsOf x2 (tok g r)) k) (gateOf x1 g (ix2 r (⟨8 * k.val + s.val, by omega⟩ : Fin 1024)))
        * high (wordsOf x2 (tok g r) (ix2 (⟨8 * k.val + s.val, by omega⟩ : Fin 1024) d)) := by
  unfold tokenOut
  rw [mixed_apply, eight_eq]
  refine Finset.sum_congr rfl fun k _ => ?_
  rw [acts_apply, sums_apply _ r k s _ rfl]
  refine congrArg (fun h => unit h _ * _) ?_
  unfold hidden
  exact Finset.sum_congr rfl fun j _ => partials_apply _ _ k j _ rfl

end Cert.Mixing
-- ==== Proof.Mix.Claims.lean ====
module

public import proofs.«01_k».proof.Proof.Mix.Sums

@[expose] public section

set_option maxRecDepth 16384

noncomputable section

/-! The mixing: a token's slots, gated, times the slots' second rows. -/

namespace Cert.Mixing

open Cert.MixIdeal Cert.MixIdeal.Gen Idealize.ShloMosaic Idealize.ShloMosaic.TcCoe Idealize.SL.Sem
open Idealize.ShloMosaic.Pointwise

/-- A token's sum for one slot, the slot's words read in their own order. -/
def slot (x : FVec Ideal S2048x1024 .f32) (w : IVec S262144x8x128 32) (n : Fin 2048) (k : Fin 128) : EReal :=
  ∑ j : Fin 8, ∑ d : Fin 128, x (ix2 n (⟨128 * j.val + d.val, by omega⟩ : Fin 1024)) * low (w (ix3 (⟨128 * n.val + k.val, by omega⟩ : Fin 262144) j d))

/-- What the mixing is: row `8 n + s` holds the columns `128 s …` of token `n`. -/
def result (x : FVec Ideal S2048x1024 .f32) (gate : FVec Ideal S2048x128 .f32) (w : IVec S262144x8x128 32) : FVec Ideal S16384x128 .f32 := fun y =>
  have h : (y 0).val < 16384 := (y 0).isLt
  ∑ k : Fin 128, unit (slot x w ⟨(y 0).val / 8, by omega⟩ k) (gate (ix2 (⟨(y 0).val / 8, by omega⟩ : Fin 2048) k))
    * high (w (ix3 (⟨128 * ((y 0).val / 8) + k.val, by omega⟩ : Fin 262144) (⟨(y 0).val % 8, by omega⟩ : Fin 8) (y 1 : Fin 128)))

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)

theorem point_lt (t : Fin cfg0.N) : t.val < 128 := by
  have h : cfg0.N = 128 := N_0
  have := t.isLt
  omega

/-- A grid point's tokens, read off the argument. -/
theorem tokens_read (m : (ℓ : Loc nD τ sig) → Buf (Elt Ideal) ℓ) (c : Dev nD) (t : Fin cfg0.N) (a : Fin 128) (b : Fin 128)
    (n : Fin 16384) (hn : n.val = 128 * t.val + a.val) :
    iblk m c 0 t (ix2 (n0 := 128) (n1 := 128) a b) = m ((c : Thread nD τ).loc main_arg0)
      (ix2 (n0 := 2048) (n1 := 1024) ⟨n.val / 8, by omega⟩ ⟨128 * (n.val % 8) + b.val, by omega⟩) := by
  have e' : ((cfg0.win 0).blk t).view.emb (ix2 (n0 := 128) (n1 := 128) a b) = ix2 (n0 := 16384) (n1 := 128) n b := by
    blk_ext [at0 t]
  show V m c main_v0 (((cfg0.win 0).blk t).view.emb (ix2 (n0 := 128) (n1 := 128) a b)) = _
  rw [e']
  entry_read
  pointwise []
  exact congrArg (fun q => m ((c : Thread nD τ).loc main_arg0) (ix2 (n0 := 2048) (n1 := 1024) _ q)) (Fin.ext (by simp only; omega))

/-- A grid point's gates, read off the argument. -/
theorem gates_read (m : (ℓ : Loc nD τ sig) → Buf (Elt Ideal) ℓ) (c : Dev nD) (t : Fin cfg0.N) (a : Fin 16) (b : Fin 1024)
    (n : Fin 2048) (hn : n.val = 16 * t.val + a.val) :
    iblk m c 1 t (ix2 (n0 := 16) (n1 := 1024) a b) = m ((c : Thread nD τ).loc main_arg1)
      (ix2 (n0 := 2048) (n1 := 128) n ⟨b.val / 8, by omega⟩) := by
  have e' : ((cfg0.win 1).blk t).view.emb (ix2 (n0 := 16) (n1 := 1024) a b) = ix2 (n0 := 2048) (n1 := 1024) n b := by
    blk_ext [at1 t]
  show V m c main_v2 (((cfg0.win 1).blk t).view.emb (ix2 (n0 := 16) (n1 := 1024) a b)) = _
  rw [e']
  entry_read
  pointwise []

/-- A grid point's words, read off the argument. -/
theorem words_read (m : (ℓ : Loc nD τ sig) → Buf (Elt Ideal) ℓ) (c : Dev nD) (t : Fin cfg0.N) (a : Fin 16384) (b : Fin 128)
    (n : Fin 2097152) (hn : n.val = 16384 * t.val + a.val) :
    iblk m c 2 t (ix2 (n0 := 16384) (n1 := 128) a b) = m ((c : Thread nD τ).loc main_arg2)
      (ix3 (n0 := 262144) (n1 := 8) (n2 := 128) ⟨n.val / 8, by omega⟩ ⟨n.val % 8, by omega⟩ b) := by
  have e' : ((cfg0.win 2).blk t).view.emb (ix2 (n0 := 16384) (n1 := 128) a b) = ix2 (n0 := 2097152) (n1 := 128) n b := by
    blk_ext [at2 t]
  show V m c main_v3 (((cfg0.win 2).blk t).view.emb (ix2 (n0 := 16384) (n1 := 128) a b)) = _
  rw [e']
  entry_read
  pointwise []

/-- Two indices with equal coordinates. -/
theorem ix3_congr {a b c : ℕ} {i i' : Fin a} {j j' : Fin b} {k k' : Fin c} (hi : i.val = i'.val) (hj : j.val = j'.val) (hk : k.val = k'.val) :
    ix3 i j k = ix3 i' j' k' := by
  rw [Fin.ext hi, Fin.ext hj, Fin.ext hk]

/-- A shift by half a word is one shift, on the host too. -/
theorem shli_host (w : BitVec 32) : IntOp.shli .host w 16#32 = IntOp.shli .vector w 16#32 := rfl

/-- The reference's sums, one a token and slot. -/
def refSlots (x : FVec Ideal S2048x1024 .f32) (w : IVec S262144x8x128 32) : FVec Ideal S2048x128 .f32 :=
  Host.dotGeneral (F := Ideal) Cert.MixRefIdeal.dot_S2048x1024_S2048x128x1024_S2048x128_1_2_n_1_0_0 none x
    (bitcastToFloat (F := Ideal) .f32 (Host.shli (shapeCast Cert.MixRefIdeal.S2048x128x1024 w Cert.MixRefIdeal.Gen.shapeCasts_S262144x8x128_S2048x128x1024)
      (broadcastInDim Cert.MixRefIdeal.S2048x128x1024 ![] Cert.MixRefIdeal.Gen.bcast_S_S2048x128x1024 (constantI Cert.MixRefIdeal.S_ 32 16#32))))

theorem refSlots_apply (x : FVec Ideal S2048x1024 .f32) (w : IVec S262144x8x128 32) (n : Fin 2048) (k : Fin 128) :
    refSlots x w (ix2 n k) = slot x w n k := by
  unfold refSlots slot
  pointwise []
  rw [sum_groups (m := 8) (n := 128) rfl]
  refine Finset.sum_congr rfl fun j _ => Finset.sum_congr rfl fun d _ => congrArg₂ (· * ·) rfl ?_
  refine (congrArg (Ideal.ofBits .f32) (shli_host _)).trans (congrArg low (congrArg w (ix3_congr ?_ ?_ ?_)))
  all_goals first | omega | (simp only; omega)

/-- The reference's activations. -/
def refActs (h gate : FVec Ideal S2048x128 .f32) : FVec Ideal S2048x128 .f32 :=
  mulf (mulf h (mulf (broadcastInDim Cert.MixRefIdeal.S2048x128 ![] Cert.MixRefIdeal.Gen.bcast_S_S2048x128 (constant (F := Ideal) Cert.MixRefIdeal.S_ .f32 1056964608#32))
    (addf (broadcastInDim Cert.MixRefIdeal.S2048x128 ![] Cert.MixRefIdeal.Gen.bcast_S_S2048x128 (constant (F := Ideal) Cert.MixRefIdeal.S_ .f32 1065353216#32))
      (Host.tanh (mulf (broadcastInDim Cert.MixRefIdeal.S2048x128 ![] Cert.MixRefIdeal.Gen.bcast_S_S2048x128 (constant (F := Ideal) Cert.MixRefIdeal.S_ .f32 1061962282#32))
        (addf h (mulf (broadcastInDim Cert.MixRefIdeal.S2048x128 ![] Cert.MixRefIdeal.Gen.bcast_S_S2048x128 (constant (F := Ideal) Cert.MixRefIdeal.S_ .f32 1027024659#32))
          (mulf (mulf h h) h)))))))) gate

theorem refActs_apply (h gate : FVec Ideal S2048x128 .f32) (n : Fin 2048) (k : Fin 128) :
    refActs h gate (ix2 n k) = unit (h (ix2 n k)) (gate (ix2 n k)) := by
  unfold refActs unit
  pointwise []
  rw [mul_comm (h (ix2 n k)) (h (ix2 n k) * h (ix2 n k))]

/-- The reference's result. -/
theorem ref_result (x : FVec Ideal S2048x1024 .f32) (gate : FVec Ideal S2048x128 .f32) (w : IVec S262144x8x128 32) :
    shapeCast Cert.MixRefIdeal.S16384x128 (Host.dotGeneral (F := Ideal) Cert.MixRefIdeal.dot_S2048x128_S2048x128x1024_S2048x1024_1_1_n_2_0_0 none
      (refActs (refSlots x w) gate)
      (bitcastToFloat (F := Ideal) .f32 (andi (shapeCast Cert.MixRefIdeal.S2048x128x1024 w Cert.MixRefIdeal.Gen.shapeCasts_S262144x8x128_S2048x128x1024)
        (broadcastInDim Cert.MixRefIdeal.S2048x128x1024 ![] Cert.MixRefIdeal.Gen.bcast_S_S2048x128x1024 (constantI Cert.MixRefIdeal.S_ 32 4294901760#32)))))
      Cert.MixRefIdeal.Gen.shapeCasts_S2048x1024_S16384x128 = result x gate w := by
  funext y
  rw [← ix2_eta (n0 := 16384) (n1 := 128) y]
  unfold result
  pointwise [refActs_apply, refSlots_apply]
  have h1 : (y 1).val < 128 := (y 1).isLt
  refine Finset.sum_congr rfl fun k _ => congrArg₂ (· * ·) rfl (congrArg high (congrArg w (ix3_congr ?_ ?_ rfl)))
  all_goals first | omega | (simp only; omega)

theorem wordsOf_apply (x2 : Vec Ideal S16384x128 .i32) (k : Fin 16) (q : Fin 1024) (d : Fin 128) :
    wordsOf x2 k (ix2 q d) = x2 (ix2 (⟨1024 * k.val + q.val, by omega⟩ : Fin 16384) d) := by
  unfold wordsOf
  pointwise []

theorem tokenOf_apply (x0 : Vec Ideal S128x128 .f32) (k : Fin 16) (j : Fin 8) (d : Fin 128) :
    tokenOf x0 k (ix2 j d) = x0 (ix2 (⟨8 * k.val + j.val, by omega⟩ : Fin 128) d) := by
  unfold tokenOf
  pointwise []

theorem gateOf_apply (x1 : Vec Ideal S16x1024 .f32) (g : Fin 2) (r : Fin 8) (q : Fin 1024) :
    gateOf x1 g (ix2 r q) = x1 (ix2 (⟨8 * g.val + r.val, by omega⟩ : Fin 16) q) := by
  unfold gateOf
  pointwise []

/-- A block of sixteen tokens, read off whole arrays: the mixing at the rows the block fills. -/
theorem block_apply (x0 : Vec Ideal S128x128 .f32) (x1 : Vec Ideal S16x1024 .f32) (x2 : Vec Ideal S16384x128 .i32)
    (x : FVec Ideal S2048x1024 .f32) (gate : FVec Ideal S2048x128 .f32) (w : IVec S262144x8x128 32) (t : ℕ)
    (h0 : ∀ (a b : Fin 128) (n : Fin 16384) (_ : n.val = 128 * t + a.val), x0 (ix2 a b) =
      x (ix2 (⟨n.val / 8, by omega⟩ : Fin 2048) (⟨128 * (n.val % 8) + b.val, by omega⟩ : Fin 1024)))
    (h1 : ∀ (a : Fin 16) (b : Fin 1024) (n : Fin 2048) (_ : n.val = 16 * t + a.val), x1 (ix2 a b) = gate (ix2 n (⟨b.val / 8, by omega⟩ : Fin 128)))
    (h2 : ∀ (a : Fin 16384) (b : Fin 128) (n : Fin 2097152) (_ : n.val = 16384 * t + a.val), x2 (ix2 a b) =
      w (ix3 (⟨n.val / 8, by omega⟩ : Fin 262144) (⟨n.val % 8, by omega⟩ : Fin 8) b))
    (a b : Fin 128) (n : Fin 16384) (hn : n.val = 128 * t + a.val) :
    block x0 x1 x2 (ix2 a b) = result x gate w (ix2 n b) := by
  have hw (p : Fin 8) (d : Fin 128) (k : Fin 128) : wordsOf x2 (tok ⟨a.val / 64, by omega⟩ ⟨a.val / 8 % 8, by omega⟩) (ix2 (⟨8 * k.val + p.val, by omega⟩ : Fin 1024) d) =
      w (ix3 (⟨128 * (n.val / 8) + k.val, by omega⟩ : Fin 262144) p d) := by
    rw [wordsOf_apply, h2 _ _ ⟨1024 * (n.val / 8) + (8 * k.val + p.val), by omega⟩ (by simp only [tok]; omega)]
    exact congrArg w (ix3_congr (by simp only; omega) (by simp only; omega) rfl)
  have hx (j : Fin 8) (d : Fin 128) : tokenOf x0 (tok ⟨a.val / 64, by omega⟩ ⟨a.val / 8 % 8, by omega⟩) (ix2 j d) =
      x (ix2 (⟨n.val / 8, by omega⟩ : Fin 2048) (⟨128 * j.val + d.val, by omega⟩ : Fin 1024)) := by
    rw [tokenOf_apply, h0 _ _ ⟨8 * (n.val / 8) + j.val, by omega⟩ (by simp only [tok]; omega)]
    exact congrArg x (congrArg₂ ix2 (Fin.ext (by simp only; omega)) (Fin.ext (by simp only; omega)))
  have hg (q : Fin 1024) : gateOf x1 ⟨a.val / 64, by omega⟩ (ix2 (⟨a.val / 8 % 8, by omega⟩ : Fin 8) q) =
      gate (ix2 (⟨n.val / 8, by omega⟩ : Fin 2048) (⟨q.val / 8, by omega⟩ : Fin 128)) := by
    rw [gateOf_apply, h1 _ _ ⟨n.val / 8, by omega⟩ (by simp only; omega)]
  unfold block result
  refine (tokenOut_apply x0 x1 x2 ⟨a.val / 64, by omega⟩ ⟨a.val / 8 % 8, by omega⟩ ⟨a.val % 8, by omega⟩ b).trans (Finset.sum_congr rfl fun k _ => ?_)
  refine congrArg₂ (· * ·) (congrArg₂ unit ?_ ?_) (congrArg high ?_)
  · unfold hidden slot
    exact Finset.sum_congr rfl fun j _ => Finset.sum_congr rfl fun d _ => congrArg₂ (· * ·) (hx j d) (congrArg low (hw j d k))
  · refine (hg _).trans (congrArg gate (congrArg₂ ix2 rfl (Fin.ext ?_)))
    simp only
    omega
  · refine (hw ⟨a.val % 8, by omega⟩ b k).trans (congrArg w (ix3_congr rfl ?_ rfl))
    show a.val % 8 = n.val % 8
    omega

/-- The kernel's result array. -/
theorem final (m : (ℓ : Loc nD τ sig) → Buf (Elt Ideal) ℓ) (c : Dev nD) : (dats m 0 c).arrAt 3 cfg0.N =
    result (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := point_lt t
  have e : ((cfg0.win 3).blk t).view.emb y = ix2 (n0 := 16384) (n1 := 128) ⟨128 * t.val + (y 0).val, by have : (y 0).val < 128 := (y 0).isLt; omega⟩ (y 1) := by
    blk_ext [at3 t]
  rw [e]
  blk_simp
  rw [after0_3]
  simp only [outsAt0]
  rw [out_eq, ← ix2_eta (n0 := 128) (n1 := 128) y]
  exact block_apply _ _ _ _ _ _ t.val (tokens_read m c t) (gates_read m c t) (words_read m c t) (y 0) (y 1) _ rfl

/-- The reference's run leaves its arguments and its counters as they were. -/
theorem frame_ref : Cert.quiescent_MixRefIdeal (hMixRefIdeal := Cert.MixRefIdeal.Gen.facts) := fun m g _ =>
  (θ_run Cert.MixRefIdeal.defs _ _).mono (fun r h => ⟨fun c => (h c).2, sem_eq_zero_of_no_sems (by decide) r.2⟩)
    (Cert.MixRefIdeal.Value.run (F := Ideal) m g)

/-- The kernel and the reference end with equal mixings. -/
theorem algebraic : Cert.algebraic_MixIdeal_MixRefIdeal (hMixIdeal := Cert.MixIdeal.Gen.facts)
    (hMixRefIdeal := Cert.MixRefIdeal.Gen.facts) := by
  intro m g m' g' _ hag
  refine ⟨fun c => result (m ((c : Thread nD τ).loc main_arg0)) (m ((c : Thread nD τ).loc main_arg1)) (m ((c : Thread nD τ).loc main_arg2)), ?_, ?_⟩
  · refine (θ_run _ _ _).mono (fun r h c => ?_) (Cert.MixIdeal.Value.run_blocks (F := Ideal) m g)
    exact ⟨(h c).1.trans (final m c), (h c).2⟩
  · refine (θ_run _ _ _).mono (fun r h c => ?_) (Cert.MixRefIdeal.Value.run (F := Ideal) m' g')
    refine ⟨((h c).1.trans (ref_result _ _ _)).trans ?_, (h c).2⟩
    rw [(hag c).1, (hag c).2.1, (hag c).2.2]

end Cert.Mixing
-- ==== Proof.lean ====
/- The claims of this certificate, assembled from the generated frames and the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.EvenIn.Frame
public import proofs.«01_k».proof.Proof.Gen.EvenInIdeal.Frame
public import proofs.«01_k».proof.Proof.Gen.EvenInIdeal.Value
public import proofs.«01_k».proof.Proof.Gen.EvenInRefIdeal.Run
public import proofs.«01_k».proof.Proof.Gen.EvenInCtx.Frame
public import proofs.«01_k».proof.Proof.Gen.EvenInCtxIdeal.Frame
public import proofs.«01_k».proof.Proof.Gen.EvenInCtxIdeal.Value
public import proofs.«01_k».proof.Proof.Gen.EvenInCtxRefIdeal.Run
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutRefIdeal.Run
public import proofs.«01_k».proof.Proof.Gen.MixOutCtx.Frame
public import proofs.«01_k».proof.Proof.Gen.MixOutCtxIdeal.Frame
public import proofs.«01_k».proof.Proof.Gen.MixOutCtxIdeal.Value
public import proofs.«01_k».proof.Proof.Gen.MixOutCtxRefIdeal.Run
public import proofs.«01_k».proof.Proof.Gen.OddIn.Frame
public import proofs.«01_k».proof.Proof.Gen.OddInIdeal.Frame
public import proofs.«01_k».proof.Proof.Gen.OddInIdeal.Value
public import proofs.«01_k».proof.Proof.Gen.OddInRefIdeal.Run
public import proofs.«01_k».proof.Proof.Gen.OddKeys.Frame
public import proofs.«01_k».proof.Proof.Gen.OddKeysIdeal.Frame
public import proofs.«01_k».proof.Proof.Gen.OddKeysIdeal.Value
public import proofs.«01_k».proof.Proof.Gen.OddKeysRefIdeal.Run
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.RouteAll.Frame
public import proofs.«01_k».proof.Proof.Gen.RouteAllIdeal.Frame
public import proofs.«01_k».proof.Proof.Gen.RouteAllIdeal.Value
public import proofs.«01_k».proof.Proof.Gen.RouteAllRefIdeal.Run
public import proofs.«01_k».proof.Proof.Gen.Pre_finite_all
public import proofs.«01_k».proof.Proof.Route.All
public import proofs.«01_k».proof.Proof.Project.OddKeys
public import proofs.«01_k».proof.Proof.Mix.Claims
public import Idealize.ShloMosaic.Adequacy
public import Idealize.ShloMosaic.Init

@[expose] public section

noncomputable section

namespace Cert.Proof

open Idealize.ShloMosaic Idealize.SL.Sem Cert.Kernel

/-- The claims of the routing kernel, of the projections and of the mixing. -/
theorem claim : Cert.Claim := ⟨Cert.Kernel.Gen.facts, Cert.KernelIdeal.Gen.facts, Cert.ReferenceIdeal.Gen.facts,
  Cert.EvenIn.Gen.facts, Cert.EvenInIdeal.Gen.facts, Cert.EvenInRefIdeal.Gen.facts,
  Cert.EvenInCtx.Gen.facts, Cert.EvenInCtxIdeal.Gen.facts, Cert.EvenInCtxRefIdeal.Gen.facts,
  Cert.MixOut.Gen.facts, Cert.MixOutIdeal.Gen.facts, Cert.MixOutRefIdeal.Gen.facts,
  Cert.MixOutCtx.Gen.facts, Cert.MixOutCtxIdeal.Gen.facts, Cert.MixOutCtxRefIdeal.Gen.facts,
  Cert.OddIn.Gen.facts, Cert.OddInIdeal.Gen.facts, Cert.OddInRefIdeal.Gen.facts,
  Cert.OddKeys.Gen.facts, Cert.OddKeysIdeal.Gen.facts, Cert.OddKeysRefIdeal.Gen.facts,
  Cert.Mix.Gen.facts, Cert.MixIdeal.Gen.facts, Cert.MixRefIdeal.Gen.facts,
  Cert.RouteAll.Gen.facts, Cert.RouteAllIdeal.Gen.facts, Cert.RouteAllRefIdeal.Gen.facts,
  Cert.Pre_finite.Gen.facts, Cert.Pre_finite_all.Gen.facts,
  fun m g _ => Cert.Kernel.Gen.frame m g,
  fun m g _ => Cert.KernelIdeal.Gen.frame m g,
  fun m g _ => Cert.KernelIdeal.Gen.frame m g,
  fun m g _ => Cert.Route.frame_reference m g,
  fun m g _ => Cert.Route.frame_reference m g,
  fun m g _ => Cert.EvenIn.Gen.frame m g, fun m g _ => Cert.EvenInIdeal.Gen.frame m g, Cert.Project.EvenIn.frame_ref,
  fun m g _ => Cert.EvenInCtx.Gen.frame m g, fun m g _ => Cert.EvenInCtxIdeal.Gen.frame m g, Cert.Project.EvenInCtx.frame_ref,
  fun m g _ => Cert.MixOut.Gen.frame m g, fun m g _ => Cert.MixOutIdeal.Gen.frame m g, Cert.Project.MixOut.frame_ref,
  fun m g _ => Cert.MixOutCtx.Gen.frame m g, fun m g _ => Cert.MixOutCtxIdeal.Gen.frame m g, Cert.Project.MixOutCtx.frame_ref,
  fun m g _ => Cert.OddIn.Gen.frame m g, fun m g _ => Cert.OddInIdeal.Gen.frame m g, Cert.Project.OddIn.frame_ref,
  fun m g _ => Cert.OddKeys.Gen.frame m g, fun m g _ => Cert.OddKeysIdeal.Gen.frame m g, Cert.Project.OddKeys.frame_ref,
  fun m g _ => Cert.Mix.Gen.frame m g, fun m g _ => Cert.MixIdeal.Gen.frame m g, Cert.Mixing.frame_ref,
  fun m g _ => Cert.RouteAll.Gen.frame m g,
  fun m g _ => Cert.RouteAllIdeal.Gen.frame m g,
  fun m g _ => Cert.RouteAllIdeal.Gen.frame m g,
  fun m g _ => Cert.Route.All.frame_reference m g,
  fun m g _ => Cert.Route.All.frame_reference m g,
  trivial, Cert.Route.algebraic,
  trivial, Cert.Project.EvenIn.algebraic,
  trivial, Cert.Project.EvenInCtx.algebraic,
  trivial, Cert.Project.MixOut.algebraic,
  trivial, Cert.Project.MixOutCtx.algebraic,
  trivial, Cert.Project.OddIn.algebraic,
  trivial, Cert.Project.OddKeys.algebraic,
  trivial, Cert.Mixing.algebraic,
  trivial, Cert.Route.All.algebraic⟩

end Cert.Proof

end
